-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![2048, 4096]⟩ ⟨2, ![2048, 16384]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 4096]⟩ ⟨2, ![2048, 16384]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 4096]⟩ ⟨2, ![2048, 16384]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![4096, 2048]⟩ ⟨2, ![16384, 2048]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![4096, 2048]⟩ ⟨2, ![16384, 2048]⟩ 0 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![4096, 2048]⟩ ⟨2, ![16384, 2048]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨2, ![16, 2048]⟩ ⟨2, ![64, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048 : Shape := ⟨2, ![64, 2048]⟩
abbrev S2048x4096 : Shape := ⟨2, ![2048, 4096]⟩
abbrev S4096x2048 : Shape := ⟨2, ![4096, 2048]⟩
abbrev S2048x512 : Shape := ⟨2, ![2048, 512]⟩
abbrev S4096x512 : Shape := ⟨2, ![4096, 512]⟩
abbrev S64x4096 : Shape := ⟨2, ![64, 4096]⟩
abbrev S4x64x512 : Shape := ⟨3, ![4, 64, 512]⟩
abbrev S4x3x64x512 : Shape := ⟨4, ![4, 3, 64, 512]⟩
abbrev S3x16x2048 : Shape := ⟨3, ![3, 16, 2048]⟩
abbrev S12 : Shape := ⟨1, ![12]⟩
abbrev S3 : Shape := ⟨1, ![3]⟩
abbrev S_ : Shape := ⟨0, ![]⟩
abbrev S64x512 : Shape := ⟨2, ![64, 512]⟩
abbrev S1x64x512 : Shape := ⟨3, ![1, 64, 512]⟩
abbrev S1 : Shape := ⟨1, ![1]⟩
abbrev S1x1x64x512 : Shape := ⟨4, ![1, 1, 64, 512]⟩
abbrev S16x2048 : Shape := ⟨2, ![16, 2048]⟩
abbrev S1x16x2048 : Shape := ⟨3, ![1, 16, 2048]⟩

abbrev nBuf : Space → Nat
  | .hbm => 10
  | .vmem => 36
  | .smem => 0
  | _ => 0

abbrev bufTy : (tb : Table) → Fin (tcTables nBuf tb) → BufTy
  | .hbm, ⟨0, _⟩ => ⟨S64x2048, .bf16⟩
  | .hbm, ⟨1, _⟩ => ⟨S2048x4096, .bf16⟩
  | .hbm, ⟨2, _⟩ => ⟨S2048x4096, .bf16⟩
  | .hbm, ⟨3, _⟩ => ⟨S2048x4096, .bf16⟩
  | .hbm, ⟨4, _⟩ => ⟨S4096x2048, .bf16⟩
  | .hbm, ⟨5, _⟩ => ⟨S4096x2048, .bf16⟩
  | .hbm, ⟨6, _⟩ => ⟨S4096x2048, .bf16⟩
  | .hbm, ⟨7, _⟩ => ⟨S64x2048, .bf16⟩
  | .hbm, ⟨8, _⟩ => ⟨S64x2048, .bf16⟩
  | .hbm, ⟨9, _⟩ => ⟨S16x2048, .f32⟩
  | .local _ .vmem, ⟨0, _⟩ => ⟨S64x2048, .bf16⟩
  | .local _ .vmem, ⟨1, _⟩ => ⟨S2048x512, .bf16⟩
  | .local _ .vmem, ⟨2, _⟩ => ⟨S2048x512, .bf16⟩
  | .local _ .vmem, ⟨3, _⟩ => ⟨S4096x512, .bf16⟩
  | .local _ .vmem, ⟨4, _⟩ => ⟨S4096x512, .bf16⟩
  | .local _ .vmem, ⟨5, _⟩ => ⟨S64x2048, .bf16⟩
  | .local _ .vmem, ⟨6, _⟩ => ⟨S64x2048, .bf16⟩
  | .local _ .vmem, ⟨7, _⟩ => ⟨S64x4096, .bf16⟩
  | .local _ .vmem, ⟨8, _⟩ => ⟨S4x64x512, .bf16⟩
  | .local _ .vmem, ⟨9, _⟩ => ⟨S64x2048, .bf16⟩
  | .local _ .vmem, ⟨10, _⟩ => ⟨S4x3x64x512, .bf16⟩
  | .local _ .vmem, ⟨11, _⟩ => ⟨S3x16x2048, .bf16⟩
  | .local _ .vmem, ⟨12, _⟩ => ⟨S64x2048, .bf16⟩
  | .local _ .vmem, ⟨13, _⟩ => ⟨S2048x512, .bf16⟩
  | .local _ .vmem, ⟨14, _⟩ => ⟨S2048x512, .bf16⟩
  | .local _ .vmem, ⟨15, _⟩ => ⟨S4096x512, .bf16⟩
  | .local _ .vmem, ⟨16, _⟩ => ⟨S4096x512, .bf16⟩
  | .local _ .vmem, ⟨17, _⟩ => ⟨S64x2048, .bf16⟩
  | .local _ .vmem, ⟨18, _⟩ => ⟨S64x2048, .bf16⟩
  | .local _ .vmem, ⟨19, _⟩ => ⟨S64x4096, .bf16⟩
  | .local _ .vmem, ⟨20, _⟩ => ⟨S4x64x512, .bf16⟩
  | .local _ .vmem, ⟨21, _⟩ => ⟨S64x2048, .bf16⟩
  | .local _ .vmem, ⟨22, _⟩ => ⟨S4x3x64x512, .bf16⟩
  | .local _ .vmem, ⟨23, _⟩ => ⟨S3x16x2048, .bf16⟩
  | .local _ .vmem, ⟨24, _⟩ => ⟨S64x2048, .bf16⟩
  | .local _ .vmem, ⟨25, _⟩ => ⟨S2048x512, .bf16⟩
  | .local _ .vmem, ⟨26, _⟩ => ⟨S2048x512, .bf16⟩
  | .local _ .vmem, ⟨27, _⟩ => ⟨S4096x512, .bf16⟩
  | .local _ .vmem, ⟨28, _⟩ => ⟨S4096x512, .bf16⟩
  | .local _ .vmem, ⟨29, _⟩ => ⟨S16x2048, .f32⟩
  | .local _ .vmem, ⟨30, _⟩ => ⟨S64x2048, .bf16⟩
  | .local _ .vmem, ⟨31, _⟩ => ⟨S64x4096, .bf16⟩
  | .local _ .vmem, ⟨32, _⟩ => ⟨S4x64x512, .bf16⟩
  | .local _ .vmem, ⟨33, _⟩ => ⟨S64x2048, .bf16⟩
  | .local _ .vmem, ⟨34, _⟩ => ⟨S4x3x64x512, .bf16⟩
  | .local _ .vmem, ⟨35, _⟩ => ⟨S3x16x2048, .bf16⟩
  | _, _ => ⟨S64x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 3 → Bool
  | ⟨0, _⟩ => false
  | ⟨1, _⟩ => false
  | ⟨2, _⟩ => false
  | _ => false

abbrev dmaSemScoped : Fin 108 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | _ => false

abbrev sig : RefSig :=
  (ofTc nBuf bufTy 3 108 bufScoped semScoped dmaSemScoped tileCredit tileCredit_eq_zero tileCredit_pos).withBarriers [(0, 0), (1, 1), (2, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc1_scratch3 : Ref sig .tc := ⟨.vmem, 21, rfl⟩
abbrev cc1_scratch4 : Ref sig .tc := ⟨.vmem, 22, rfl⟩
abbrev cc1_scratch5 : Ref sig .tc := ⟨.vmem, 23, rfl⟩
abbrev cc2_stg0_0 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_scratch0 : Ref sig .tc := ⟨.vmem, 30, rfl⟩
abbrev cc2_scratch1 : Ref sig .tc := ⟨.vmem, 31, rfl⟩
abbrev cc2_scratch2 : Ref sig .tc := ⟨.vmem, 32, rfl⟩
abbrev cc2_scratch3 : Ref sig .tc := ⟨.vmem, 33, rfl⟩
abbrev cc2_scratch4 : Ref sig .tc := ⟨.vmem, 34, rfl⟩
abbrev cc2_scratch5 : Ref sig .tc := ⟨.vmem, 35, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc1_sem0_0 : DmaSem sig := 36
abbrev cc1_sem1_0 : DmaSem sig := 37
abbrev cc1_sem1_1 : DmaSem sig := 38
abbrev cc1_sem2_0 : DmaSem sig := 39
abbrev cc1_sem2_1 : DmaSem sig := 40
abbrev cc1_sem3_0 : DmaSem sig := 41
abbrev cc2_sem0_0 : DmaSem sig := 72
abbrev cc2_sem1_0 : DmaSem sig := 73
abbrev cc2_sem1_1 : DmaSem sig := 74
abbrev cc2_sem2_0 : DmaSem sig := 75
abbrev cc2_sem2_1 : DmaSem sig := 76
abbrev cc2_sem3_0 : DmaSem sig := 77
abbrev barrier0 : Sem sig := 0
abbrev barrier1 : Sem sig := 1
abbrev barrier2 : Sem sig := 2

abbrev nD : Nat := 4
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v16 : BitVec 32 := Scalar.xori v2 c1_i32_5
  let c1_i32_7 : BitVec 32 := 1#32
  let v17 : BitVec 32 := Scalar.muli v16 c1_i32_7
  let v18 : BitVec 32 := Scalar.addi c0_i32_8 v17
  v18.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v19 : BitVec 32 := Scalar.xori v2 c3_i32
  let c1_i32_10 : BitVec 32 := 1#32
  let v20 : BitVec 32 := Scalar.muli v19 c1_i32_10
  let v21 : BitVec 32 := Scalar.addi c0_i32_11 v20
  v21.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v22 : BitVec 32 := Scalar.xori v2 c2_i32
  let c1_i32_13 : BitVec 32 := 1#32
  let v23 : BitVec 32 := Scalar.muli v22 c1_i32_13
  let v24 : BitVec 32 := Scalar.addi c0_i32_14 v23
  v24.toNat
def k0_cond2 (i : grid0.Coords) : BitVec 1 :=
  let arg0 : BitVec 32 := BitVec.ofNat 32 (i 0).val
  let c8_i32 : BitVec 32 := 8#32
  let v6 : BitVec 1 := Scalar.cmpi .slt arg0 c8_i32
  let v7 : BitVec 32 := Scalar.extui v6
  let c0_i32_1 : BitVec 32 := 0#32
  let v8 : BitVec 1 := Scalar.cmpi .ne v7 c0_i32_1
  v8

def k0_off1 (i : grid0.Coords) : Fin 2 → Nat :=
  let c0_9 : Index := 0#32
  let arg0 : BitVec 32 := BitVec.ofNat 32 (i 0).val
  let c512_i32 : BitVec 32 := 512#32
  let v22 : BitVec 32 := Scalar.muli arg0 c512_i32
  let v23 : Index := Scalar.indexCast v22
  ![0, v23.toNat]
def k0_cond3 (i : grid0.Coords) : BitVec 1 :=
  let arg0 : BitVec 32 := BitVec.ofNat 32 (i 0).val
  let c8_i32_2 : BitVec 32 := 8#32
  let v9 : BitVec 1 := Scalar.cmpi .sge arg0 c8_i32_2
  let v10 : BitVec 32 := Scalar.extui v9
  let c0_i32_3 : BitVec 32 := 0#32
  let v11 : BitVec 1 := Scalar.cmpi .ne v10 c0_i32_3
  v11

def k0_off2 (i : grid0.Coords) : Fin 3 → Nat :=
  let arg0 : BitVec 32 := BitVec.ofNat 32 (i 0).val
  let c8_i32_5 : BitVec 32 := 8#32
  let v15 : BitVec 32 := Scalar.subi arg0 c8_i32_5
  let v21 : Index := Scalar.indexCast v15
  let c0_9 : Index := 0#32
  let c0_10 : Index := 0#32
  ![v21.toNat, 0, 0]
def k0_off3 (i : grid0.Coords) (c0_i32_11 : BitVec 32) : Fin 1 → Nat :=
  let arg0 : BitVec 32 := BitVec.ofNat 32 (i 0).val
  let c8_i32_5 : BitVec 32 := 8#32
  let v15 : BitVec 32 := Scalar.subi arg0 c8_i32_5
  let c3_i32 : BitVec 32 := 3#32
  let v25 : BitVec 32 := Scalar.muli v15 c3_i32
  let v26 : BitVec 32 := Scalar.addi v25 c0_i32_11
  ![v26.toNat]
def k0_off4 (i : grid0.Coords) : Fin 4 → Nat :=
  let arg0 : BitVec 32 := BitVec.ofNat 32 (i 0).val
  let c8_i32_5 : BitVec 32 := 8#32
  let v15 : BitVec 32 := Scalar.subi arg0 c8_i32_5
  let c0_i32_15 : BitVec 32 := 0#32
  let c0_i32_18 : BitVec 32 := 0#32
  let c0_i32_19 : BitVec 32 := 0#32
  ![v15.toNat, 0, 0, 0]
def k0_off5 (i : grid0.Coords) : Fin 3 → Nat :=
  let arg0 : BitVec 32 := BitVec.ofNat 32 (i 0).val
  let c8_i32_5 : BitVec 32 := 8#32
  let v15 : BitVec 32 := Scalar.subi arg0 c8_i32_5
  let c0_i32_20 : BitVec 32 := 0#32
  let c0_i32_21 : BitVec 32 := 0#32
  ![v15.toNat, 0, 0]
def k0_dev4 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_14 : BitVec 32 := 1#32
  let v29 : BitVec 32 := Scalar.xori v2 c1_i32_14
  let c1_i32_16 : BitVec 32 := 1#32
  let v30 : BitVec 32 := Scalar.muli v29 c1_i32_16
  let v31 : BitVec 32 := Scalar.addi c0_i32_17 v30
  v31.toNat
def k0_off6 (i : grid0.Coords) : Fin 4 → Nat :=
  let arg0 : BitVec 32 := BitVec.ofNat 32 (i 0).val
  let c8_i32_5 : BitVec 32 := 8#32
  let v15 : BitVec 32 := Scalar.subi arg0 c8_i32_5
  let c1_i32_27 : BitVec 32 := 1#32
  let c0_i32_30 : BitVec 32 := 0#32
  let c0_i32_31 : BitVec 32 := 0#32
  ![v15.toNat, 1, 0, 0]
def k0_dev5 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_26 : BitVec 32 := 3#32
  let v44 : BitVec 32 := Scalar.xori v2 c3_i32_26
  let c1_i32_28 : BitVec 32 := 1#32
  let v45 : BitVec 32 := Scalar.muli v44 c1_i32_28
  let v46 : BitVec 32 := Scalar.addi c0_i32_29 v45
  v46.toNat
def k0_off7 (i : grid0.Coords) : Fin 4 → Nat :=
  let arg0 : BitVec 32 := BitVec.ofNat 32 (i 0).val
  let c8_i32_5 : BitVec 32 := 8#32
  let v15 : BitVec 32 := Scalar.subi arg0 c8_i32_5
  let c2_i32_38 : BitVec 32 := 2#32
  let c0_i32_41 : BitVec 32 := 0#32
  let c0_i32_42 : BitVec 32 := 0#32
  ![v15.toNat, 2, 0, 0]
def k0_dev6 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_37 : BitVec 32 := 2#32
  let v59 : BitVec 32 := Scalar.xori v2 c2_i32_37
  let c1_i32_39 : BitVec 32 := 1#32
  let v60 : BitVec 32 := Scalar.muli v59 c1_i32_39
  let v61 : BitVec 32 := Scalar.addi c0_i32_40 v60
  v61.toNat
def k0_cond4 (i : grid0.Coords) : BitVec 1 :=
  let arg0 : BitVec 32 := BitVec.ofNat 32 (i 0).val
  let c11_i32 : BitVec 32 := 11#32
  let v12 : BitVec 1 := Scalar.cmpi .eq arg0 c11_i32
  let v13 : BitVec 32 := Scalar.extui v12
  let c0_i32_4 : BitVec 32 := 0#32
  let v14 : BitVec 1 := Scalar.cmpi .ne v13 c0_i32_4
  v14

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![12], ![false]⟩

def k1_cond1 (i : grid1.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k1_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v16 : BitVec 32 := Scalar.xori v2 c1_i32_5
  let c1_i32_7 : BitVec 32 := 1#32
  let v17 : BitVec 32 := Scalar.muli v16 c1_i32_7
  let v18 : BitVec 32 := Scalar.addi c0_i32_8 v17
  v18.toNat
def k1_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v19 : BitVec 32 := Scalar.xori v2 c3_i32
  let c1_i32_10 : BitVec 32 := 1#32
  let v20 : BitVec 32 := Scalar.muli v19 c1_i32_10
  let v21 : BitVec 32 := Scalar.addi c0_i32_11 v20
  v21.toNat
def k1_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v22 : BitVec 32 := Scalar.xori v2 c2_i32
  let c1_i32_13 : BitVec 32 := 1#32
  let v23 : BitVec 32 := Scalar.muli v22 c1_i32_13
  let v24 : BitVec 32 := Scalar.addi c0_i32_14 v23
  v24.toNat
def k1_cond2 (i : grid1.Coords) : BitVec 1 :=
  let arg0 : BitVec 32 := BitVec.ofNat 32 (i 0).val
  let c8_i32 : BitVec 32 := 8#32
  let v6 : BitVec 1 := Scalar.cmpi .slt arg0 c8_i32
  let v7 : BitVec 32 := Scalar.extui v6
  let c0_i32_1 : BitVec 32 := 0#32
  let v8 : BitVec 1 := Scalar.cmpi .ne v7 c0_i32_1
  v8

def k1_off1 (i : grid1.Coords) : Fin 2 → Nat :=
  let c0_9 : Index := 0#32
  let arg0 : BitVec 32 := BitVec.ofNat 32 (i 0).val
  let c512_i32 : BitVec 32 := 512#32
  let v23 : BitVec 32 := Scalar.muli arg0 c512_i32
  let v24 : Index := Scalar.indexCast v23
  ![0, v24.toNat]
def k1_cond3 (i : grid1.Coords) : BitVec 1 :=
  let arg0 : BitVec 32 := BitVec.ofNat 32 (i 0).val
  let c8_i32_2 : BitVec 32 := 8#32
  let v9 : BitVec 1 := Scalar.cmpi .sge arg0 c8_i32_2
  let v10 : BitVec 32 := Scalar.extui v9
  let c0_i32_3 : BitVec 32 := 0#32
  let v11 : BitVec 1 := Scalar.cmpi .ne v10 c0_i32_3
  v11

def k1_off2 (i : grid1.Coords) : Fin 3 → Nat :=
  let arg0 : BitVec 32 := BitVec.ofNat 32 (i 0).val
  let c8_i32_5 : BitVec 32 := 8#32
  let v15 : BitVec 32 := Scalar.subi arg0 c8_i32_5
  let v21 : Index := Scalar.indexCast v15
  let c0_9 : Index := 0#32
  let c0_10 : Index := 0#32
  ![v21.toNat, 0, 0]
def k1_off3 (i : grid1.Coords) (c0_i32_11 : BitVec 32) : Fin 1 → Nat :=
  let arg0 : BitVec 32 := BitVec.ofNat 32 (i 0).val
  let c8_i32_5 : BitVec 32 := 8#32
  let v15 : BitVec 32 := Scalar.subi arg0 c8_i32_5
  let c3_i32 : BitVec 32 := 3#32
  let v25 : BitVec 32 := Scalar.muli v15 c3_i32
  let v26 : BitVec 32 := Scalar.addi v25 c0_i32_11
  ![v26.toNat]
def k1_off4 (i : grid1.Coords) : Fin 4 → Nat :=
  let arg0 : BitVec 32 := BitVec.ofNat 32 (i 0).val
  let c8_i32_5 : BitVec 32 := 8#32
  let v15 : BitVec 32 := Scalar.subi arg0 c8_i32_5
  let c0_i32_15 : BitVec 32 := 0#32
  let c0_i32_18 : BitVec 32 := 0#32
  let c0_i32_19 : BitVec 32 := 0#32
  ![v15.toNat, 0, 0, 0]
def k1_off5 (i : grid1.Coords) : Fin 3 → Nat :=
  let arg0 : BitVec 32 := BitVec.ofNat 32 (i 0).val
  let c8_i32_5 : BitVec 32 := 8#32
  let v15 : BitVec 32 := Scalar.subi arg0 c8_i32_5
  let c0_i32_20 : BitVec 32 := 0#32
  let c0_i32_21 : BitVec 32 := 0#32
  ![v15.toNat, 0, 0]
def k1_dev4 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_14 : BitVec 32 := 1#32
  let v29 : BitVec 32 := Scalar.xori v2 c1_i32_14
  let c1_i32_16 : BitVec 32 := 1#32
  let v30 : BitVec 32 := Scalar.muli v29 c1_i32_16
  let v31 : BitVec 32 := Scalar.addi c0_i32_17 v30
  v31.toNat
def k1_off6 (i : grid1.Coords) : Fin 4 → Nat :=
  let arg0 : BitVec 32 := BitVec.ofNat 32 (i 0).val
  let c8_i32_5 : BitVec 32 := 8#32
  let v15 : BitVec 32 := Scalar.subi arg0 c8_i32_5
  let c1_i32_27 : BitVec 32 := 1#32
  let c0_i32_30 : BitVec 32 := 0#32
  let c0_i32_31 : BitVec 32 := 0#32
  ![v15.toNat, 1, 0, 0]
def k1_dev5 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_26 : BitVec 32 := 3#32
  let v44 : BitVec 32 := Scalar.xori v2 c3_i32_26
  let c1_i32_28 : BitVec 32 := 1#32
  let v45 : BitVec 32 := Scalar.muli v44 c1_i32_28
  let v46 : BitVec 32 := Scalar.addi c0_i32_29 v45
  v46.toNat
def k1_off7 (i : grid1.Coords) : Fin 4 → Nat :=
  let arg0 : BitVec 32 := BitVec.ofNat 32 (i 0).val
  let c8_i32_5 : BitVec 32 := 8#32
  let v15 : BitVec 32 := Scalar.subi arg0 c8_i32_5
  let c2_i32_38 : BitVec 32 := 2#32
  let c0_i32_41 : BitVec 32 := 0#32
  let c0_i32_42 : BitVec 32 := 0#32
  ![v15.toNat, 2, 0, 0]
def k1_dev6 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_37 : BitVec 32 := 2#32
  let v59 : BitVec 32 := Scalar.xori v2 c2_i32_37
  let c1_i32_39 : BitVec 32 := 1#32
  let v60 : BitVec 32 := Scalar.muli v59 c1_i32_39
  let v61 : BitVec 32 := Scalar.addi c0_i32_40 v60
  v61.toNat
def k1_cond4 (i : grid1.Coords) : BitVec 1 :=
  let arg0 : BitVec 32 := BitVec.ofNat 32 (i 0).val
  let c11_i32 : BitVec 32 := 11#32
  let v12 : BitVec 1 := Scalar.cmpi .eq arg0 c11_i32
  let v13 : BitVec 32 := Scalar.extui v12
  let c0_i32_4 : BitVec 32 := 0#32
  let v14 : BitVec 1 := Scalar.cmpi .ne v13 c0_i32_4
  v14

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc1_transform_2 (i : grid1.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S64x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![12], ![false]⟩

def k2_cond1 (i : grid2.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k2_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v16 : BitVec 32 := Scalar.xori v2 c1_i32_5
  let c1_i32_7 : BitVec 32 := 1#32
  let v17 : BitVec 32 := Scalar.muli v16 c1_i32_7
  let v18 : BitVec 32 := Scalar.addi c0_i32_8 v17
  v18.toNat
def k2_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v19 : BitVec 32 := Scalar.xori v2 c3_i32
  let c1_i32_10 : BitVec 32 := 1#32
  let v20 : BitVec 32 := Scalar.muli v19 c1_i32_10
  let v21 : BitVec 32 := Scalar.addi c0_i32_11 v20
  v21.toNat
def k2_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v22 : BitVec 32 := Scalar.xori v2 c2_i32
  let c1_i32_13 : BitVec 32 := 1#32
  let v23 : BitVec 32 := Scalar.muli v22 c1_i32_13
  let v24 : BitVec 32 := Scalar.addi c0_i32_14 v23
  v24.toNat
def k2_cond2 (i : grid2.Coords) : BitVec 1 :=
  let arg0 : BitVec 32 := BitVec.ofNat 32 (i 0).val
  let c8_i32 : BitVec 32 := 8#32
  let v6 : BitVec 1 := Scalar.cmpi .slt arg0 c8_i32
  let v7 : BitVec 32 := Scalar.extui v6
  let c0_i32_1 : BitVec 32 := 0#32
  let v8 : BitVec 1 := Scalar.cmpi .ne v7 c0_i32_1
  v8

def k2_off1 (i : grid2.Coords) : Fin 2 → Nat :=
  let c0_9 : Index := 0#32
  let arg0 : BitVec 32 := BitVec.ofNat 32 (i 0).val
  let c512_i32 : BitVec 32 := 512#32
  let v23 : BitVec 32 := Scalar.muli arg0 c512_i32
  let v24 : Index := Scalar.indexCast v23
  ![0, v24.toNat]
def k2_cond3 (i : grid2.Coords) : BitVec 1 :=
  let arg0 : BitVec 32 := BitVec.ofNat 32 (i 0).val
  let c8_i32_2 : BitVec 32 := 8#32
  let v9 : BitVec 1 := Scalar.cmpi .sge arg0 c8_i32_2
  let v10 : BitVec 32 := Scalar.extui v9
  let c0_i32_3 : BitVec 32 := 0#32
  let v11 : BitVec 1 := Scalar.cmpi .ne v10 c0_i32_3
  v11

def k2_off2 (i : grid2.Coords) : Fin 2 → Nat :=
  let c0_9 : Index := 0#32
  let arg0 : BitVec 32 := BitVec.ofNat 32 (i 0).val
  let c8_i32_5 : BitVec 32 := 8#32
  let v15 : BitVec 32 := Scalar.subi arg0 c8_i32_5
  let c512_i32 : BitVec 32 := 512#32
  let v21 : BitVec 32 := Scalar.muli v15 c512_i32
  let v22 : Index := Scalar.indexCast v21
  ![0, v22.toNat]
def k2_cond4 (i : grid2.Coords) : BitVec 1 :=
  let arg0 : BitVec 32 := BitVec.ofNat 32 (i 0).val
  let c11_i32 : BitVec 32 := 11#32
  let v12 : BitVec 1 := Scalar.cmpi .eq arg0 c11_i32
  let v13 : BitVec 32 := Scalar.extui v12
  let c0_i32_4 : BitVec 32 := 0#32
  let v14 : BitVec 1 := Scalar.cmpi .ne v13 c0_i32_4
  v14

def k2_off3 (d0 : Dev nD) (c1_i32_5 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v15 : BitVec 32 := Scalar.xori v2 c1_i32_5
  let c16_i32 : BitVec 32 := 16#32
  let v16 : BitVec 32 := Scalar.muli v15 c16_i32
  let c0_i32_13 : BitVec 32 := 0#32
  ![v16.toNat, 0]
def k2_dev4 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_5 : BitVec 32 := 1#32
  let v15 : BitVec 32 := Scalar.xori v2 c1_i32_5
  let c1_i32_9 : BitVec 32 := 1#32
  let v17 : BitVec 32 := Scalar.muli v15 c1_i32_9
  let v18 : BitVec 32 := Scalar.addi c0_i32_10 v17
  v18.toNat
def k2_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v26 : BitVec 32 := Scalar.xori v2 c3_i32
  let c1_i32_18 : BitVec 32 := 1#32
  let v28 : BitVec 32 := Scalar.muli v26 c1_i32_18
  let v29 : BitVec 32 := Scalar.addi c0_i32_19 v28
  v29.toNat
def k2_dev6 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v37 : BitVec 32 := Scalar.xori v2 c2_i32
  let c1_i32_27 : BitVec 32 := 1#32
  let v39 : BitVec 32 := Scalar.muli v37 c1_i32_27
  let v40 : BitVec 32 := Scalar.addi c0_i32_28 v39
  v40.toNat
def k2_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c16_i32_83 : BitVec 32 := 16#32
  let v84 : BitVec 32 := Scalar.muli v2 c16_i32_83
  let v85 : Index := Scalar.indexCast v84
  let c0 : Index := 0#32
  ![v85.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc2_transform_2 (i : grid2.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S16x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]
-- ==== ReferenceIdeal.lean ====
abbrev S64x2048 : Shape := ⟨2, ![64, 2048]⟩
abbrev S2048x16384 : Shape := ⟨2, ![2048, 16384]⟩
abbrev S16384x2048 : Shape := ⟨2, ![16384, 2048]⟩
abbrev S64x16384 : Shape := ⟨2, ![64, 16384]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S64x2048, .bf16⟩
  | .hbm, ⟨1, _⟩ => ⟨S2048x16384, .bf16⟩
  | .hbm, ⟨2, _⟩ => ⟨S2048x16384, .bf16⟩
  | .hbm, ⟨3, _⟩ => ⟨S2048x16384, .bf16⟩
  | .hbm, ⟨4, _⟩ => ⟨S16384x2048, .bf16⟩
  | .hbm, ⟨5, _⟩ => ⟨S16384x2048, .bf16⟩
  | .hbm, ⟨6, _⟩ => ⟨S16384x2048, .bf16⟩
  | .hbm, ⟨7, _⟩ => ⟨S64x2048, .f32⟩
  | .hbm, ⟨8, _⟩ => ⟨S2048x16384, .f32⟩
  | .hbm, ⟨9, _⟩ => ⟨S2048x16384, .f32⟩
  | .hbm, ⟨10, _⟩ => ⟨S2048x16384, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S64x16384, .f32⟩
  | .hbm, ⟨15, _⟩ => ⟨S_, .f32⟩
  | .hbm, ⟨16, _⟩ => ⟨S64x16384, .f32⟩
  | .hbm, ⟨17, _⟩ => ⟨S64x16384, .f32⟩
  | .hbm, ⟨18, _⟩ => ⟨S64x2048, .f32⟩
  | .hbm, ⟨19, _⟩ => ⟨S64x16384, .f32⟩
  | .hbm, ⟨20, _⟩ => ⟨S_, .f32⟩
  | .hbm, ⟨21, _⟩ => ⟨S64x16384, .f32⟩
  | .hbm, ⟨22, _⟩ => ⟨S64x16384, .f32⟩
  | .hbm, ⟨23, _⟩ => ⟨S64x2048, .f32⟩
  | .hbm, ⟨24, _⟩ => ⟨S64x16384, .f32⟩
  | .hbm, ⟨25, _⟩ => ⟨S_, .f32⟩
  | .hbm, ⟨26, _⟩ => ⟨S64x16384, .f32⟩
  | .hbm, ⟨27, _⟩ => ⟨S64x16384, .f32⟩
  | .hbm, ⟨28, _⟩ => ⟨S64x2048, .f32⟩
  | _, _ => ⟨S64x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Sched.lean ====
/- The exchange of the three calls as a schedule of rounds: the semaphore cells of a device, who pays them, what each
   payment hands over, the levels at which the cells are waited on, and what a device owes from each point of the run on.

   A ROW is one group of three copies: block `j` of call `p` (`some (p, j)`), or the row slices of the last call (`none`).
   Copy `k` of a row goes to the device whose number differs from the sender's by the mask 1, 3, 2 (`peer k`). -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]

/-! ## Rows, peers, semaphores -/

/-- A group of three copies: block `j` of call `p`, or the last call's row slices. -/
abbrev Row : Type := Option (Fin 2 × Fin 4)

/-- The device copy `k` goes to, and comes from: the masks 1, 3, 2. -/
def peer (k : Fin 3) (c : Dev nD) : Dev nD := (![![1, 0, 3, 2], ![3, 2, 1, 0], ![2, 3, 0, 1]] : Fin 3 → Fin 4 → Fin 4) k c

theorem peer_peer (k : Fin 3) (c : Dev nD) : peer k (peer k c) = c := by revert k c; decide

/-- The send semaphore of copy `k` of a row. -/
def sS : Row → Fin 3 → DmaSem sig
  | some (p, j), k => ⟨36 * p.val + 6 + 3 * j.val + k.val, by show _ < 108; omega⟩
  | none, k => ⟨102 + k.val, by show _ < 108; omega⟩
/-- The receive semaphore of copy `k` of a row. -/
def rS : Row → Fin 3 → DmaSem sig
  | some (p, j), k => ⟨36 * p.val + 18 + 3 * j.val + k.val, by show _ < 108; omega⟩
  | none, k => ⟨105 + k.val, by show _ < 108; omega⟩
/-- The barrier semaphore of call `p`. -/
def bS (p : Fin 3) : Sem sig := ⟨p.val, p.isLt⟩

/-- What a semaphore is for. -/
inductive Kd where
  | bar (p : Fin 3)
  | send (r : Row) (k : Fin 3)
  | recv (r : Row) (k : Fin 3)
  | other
  deriving DecidableEq

/-- Read off its number. -/
def kd : SemLoc sig → Kd
  | .reg s => .bar ⟨s.val % 3, Nat.mod_lt _ (by decide)⟩
  | .dma s =>
    if s.val < 72 then
      if 6 ≤ s.val % 36 ∧ s.val % 36 < 18 then
        .send (some (⟨s.val / 36 % 2, Nat.mod_lt _ (by decide)⟩, ⟨(s.val % 36 - 6) / 3 % 4, Nat.mod_lt _ (by decide)⟩)) ⟨s.val % 3, Nat.mod_lt _ (by decide)⟩
      else if 18 ≤ s.val % 36 ∧ s.val % 36 < 30 then
        .recv (some (⟨s.val / 36 % 2, Nat.mod_lt _ (by decide)⟩, ⟨(s.val % 36 - 18) / 3 % 4, Nat.mod_lt _ (by decide)⟩)) ⟨s.val % 3, Nat.mod_lt _ (by decide)⟩
      else .other
    else if 102 ≤ s.val ∧ s.val < 105 then .send none ⟨s.val % 3, Nat.mod_lt _ (by decide)⟩
    else if 105 ≤ s.val then .recv none ⟨s.val % 3, Nat.mod_lt _ (by decide)⟩
    else .other

theorem kd_bar (p : Fin 3) : kd (.reg (bS p)) = .bar p := by revert p; decide
theorem kd_send (r : Row) (k : Fin 3) : kd (.dma (sS r k)) = .send r k := by revert r k; decide
theorem kd_recv (r : Row) (k : Fin 3) : kd (.dma (rS r k)) = .recv r k := by revert r k; decide

/-- The barrier cell of call `p` on device `c`. -/
abbrev barC (p : Fin 3) (c : Dev nD) : GSem nD τ sig := ((c : Thread nD τ), .reg (bS p))
/-- The send cell of copy `k` of row `r` on device `c`. -/
abbrev sendC (r : Row) (k : Fin 3) (c : Dev nD) : GSem nD τ sig := ((c : Thread nD τ), .dma (sS r k))
/-- The receive cell of copy `k` of row `r` on device `c`. -/
abbrev recvC (r : Row) (k : Fin 3) (c : Dev nD) : GSem nD τ sig := ((c : Thread nD τ), .dma (rS r k))

/-! ## The buffers and their parts -/

/-- The partial products of call `p`, four blocks of columns. -/
abbrev pbufM : Fin 2 → Memref sig .tc .vmem S4x64x512 .bf16
  | 0 => Memref.whole cc0_scratch2
  | 1 => Memref.whole cc1_scratch2
/-- Where the others' partial products of call `p` land, by block and copy. -/
abbrev rbufM : Fin 2 → Memref sig .tc .vmem S4x3x64x512 .bf16
  | 0 => Memref.whole cc0_scratch4
  | 1 => Memref.whole cc1_scratch4
/-- The partial product of the last call. -/
abbrev pslabM : Memref sig .tc .vmem S64x2048 .bf16 := Memref.whole cc2_scratch3
/-- Where the others' row slices land. -/
abbrev rrbufM : Memref sig .tc .vmem S3x16x2048 .bf16 := Memref.whole cc2_scratch5

theorem inb_p (j : Fin 4) : ∀ a, (![j.val, 0, 0] : Fin 3 → Nat) a + S1x64x512.size a ≤ S4x64x512.size a := by revert j; decide
theorem inb_r (j : Fin 4) (k : Fin 3) : ∀ a, (![j.val, k.val, 0, 0] : Fin 4 → Nat) a + S1x1x64x512.size a ≤ S4x3x64x512.size a := by
  revert j k; decide
theorem inb_s (d : Dev nD) : ∀ a, (![16 * d.val, 0] : Fin 2 → Nat) a + S16x2048.size a ≤ S64x2048.size a := by revert d; decide
theorem inb_rr (k : Fin 3) : ∀ a, (![k.val, 0, 0] : Fin 3 → Nat) a + S1x16x2048.size a ≤ S3x16x2048.size a := by revert k; decide

/-- Block `j` of the partial products. -/
abbrev pR (j : Fin 4) : Rect S4x64x512 := Rect.unit ![j.val, 0, 0] S1x64x512.size (inb_p j)
/-- The landing place of copy `k` of block `j`. -/
abbrev rR (j : Fin 4) (k : Fin 3) : Rect S4x3x64x512 := Rect.unit ![j.val, k.val, 0, 0] S1x1x64x512.size (inb_r j k)
/-- Device `d`'s rows. -/
abbrev sR (d : Dev nD) : Rect S64x2048 := Rect.unit ![16 * d.val, 0] S16x2048.size (inb_s d)
/-- The landing place of the last call's copy `k`. -/
abbrev rrR (k : Fin 3) : Rect S3x16x2048 := Rect.unit ![k.val, 0, 0] S1x16x2048.size (inb_rr k)

/-- The shape of a row's copies. -/
abbrev rsh : Row → Shape
  | some _ => S64x512
  | none => S16x2048

/-- What copy `k` of a row reads on device `c`. -/
abbrev src : (r : Row) → Fin 3 → Dev nD → Memref sig .tc .vmem (rsh r) .bf16
  | some (p, j), _, _ => ((pbufM p).slice (pR j) (fun _ => rfl)).squeeze S64x512 squeezes_S1x64x512_S64x512
  | none, k, c => pslabM.slice (sR (peer k c)) (fun _ => rfl)
/-- Where copy `k` of a row lands. -/
abbrev dst : (r : Row) → Fin 3 → Memref sig .tc .vmem (rsh r) .bf16
  | some (p, j), k => ((rbufM p).slice (rR j k) (fun _ => rfl)).squeeze S64x512 squeezes_S1x1x64x512_S64x512
  | none, k => (rrbufM.slice (rrR k) (fun _ => rfl)).squeeze S16x2048 squeezes_S1x16x2048_S16x2048

/-- The units a copy of a row pays. -/
def amt (r : Row) : ℕ := (dst r 0).view.dmaCredit
theorem amt_dst (r : Row) (k : Fin 3) : (dst r k).view.dmaCredit = amt r := by
  rcases r with _ | ⟨p, j⟩
  · rfl
  · match p with
    | 0 => rfl
    | 1 => rfl
theorem amt_src (r : Row) (k : Fin 3) (c : Dev nD) : (src r k c).view.dmaCredit = amt r := by
  rcases r with _ | ⟨p, j⟩
  · rfl
  · match p with
    | 0 => rfl
    | 1 => rfl
theorem amt_pos (r : Row) : 0 < amt r := by
  unfold amt; apply View.dmaCredit_pos
  rcases r with _ | ⟨p, j⟩
  · decide
  · exact (by decide : 0 < S64x512.numel)

/-! ## The schedule -/

abbrev URt : Type := URounds (GSem nD τ sig) (Fin 3)
abbrev UU : Type := UR sig nD τ × URt
local notation "𝕄" => MT nD τ sig Unit (Elt F) ℕ UU ℕ
abbrev EP : Emb (UR sig nD τ) (MT nD τ sig Unit (Elt F) ℕ UU ℕ) := embL
abbrev ER : Emb URt (MT nD τ sig Unit (Elt F) ℕ UU ℕ) := embR

/-- What the devices send: block `j` of call `p`'s partial product on each device, and the last call's partial product. -/
structure Vals (F : FTy → Type) where
  blk : Dev nD → Fin 2 → Fin 4 → FVec F S64x512 .bf16
  slab : Dev nD → FVec F S64x2048 .bf16

variable (v : Vals F)

/-- What device `c` sends with copy `k` of a row. -/
def val : (r : Row) → Fin 3 → Dev nD → FVec F (rsh r) .bf16
  | some (p, j), _, c => v.blk c p j
  | none, k, c => fun y => v.slab c ((sR (peer k c)).emb y)

/-- The share of its source a copy reads at: the three copies of a block share it, a row slice is read by one copy only. -/
def shr : Row → Fin 3 → PosShare TreeShare
  | some _, 0 => fullShare.left
  | some _, 1 => fullShare.right.left
  | some _, 2 => fullShare.right.right
  | none, _ => fullShare

/-- A landing place of device `d`, at contents not chosen. -/
def landAny (r : Row) (k : Fin 3) (d : Dev nD) : sProp 𝕄 := iprop(∃ X, owns (d : Thread nD τ) (dst r k) fullShare X)

/-- Call `p`'s rows. -/
def rowsOf (p : Fin 3) : Finset Row := Finset.univ.filter fun r => (match r with | some (q, _) => q.val | none => 2) = p.val

/-- Paid to device `c`'s barrier cell by its peer `k`: for each row of the call the landing place on that peer, and that its
    receive cell is at round 0. -/
def barPay (p k : Fin 3) (c : Dev nD) : sProp 𝕄 :=
  bigSep (rowsOf p) fun r => iprop(landAny r k (peer k c) ∗ reached ER (recvC r k (peer k c)) 0)
/-- The source comes back. -/
def sendPay (r : Row) (k : Fin 3) (c : Dev nD) : sProp 𝕄 := owns (c : Thread nD τ) (src r k c) (shr r k) (val v r k c)
/-- The landing place comes with what the peer sent. -/
def recvPay (r : Row) (k : Fin 3) (c : Dev nD) : sProp 𝕄 := owns (c : Thread nD τ) (dst r k) fullShare (val v r k (peer k c))

/-- One round on every cell: three payments on a barrier cell, one on a send or receive cell. -/
def Rd : Rounds.Schedule (GSem nD τ sig) (Fin 3) 𝕄 where
  duties g r := if r = 0 ∧ g.1.2 = .tc then (match kd g.2 with | .bar _ => Finset.univ | .send _ _ => {0} | .recv _ _ => {0} | .other => ∅) else ∅
  unitless _ := False
  amount g _ _ := match kd g.2 with | .bar _ => 1 | .send r _ => amt r | .recv r _ => amt r | .other => 1
  payload g _ d := match kd g.2 with | .bar p => barPay p d g.1.1 | .send r k => sendPay v r k g.1.1 | .recv r k => recvPay v r k g.1.1 | .other => iprop(emp)
  amount_pos g _ _ _ := by split <;> first | exact Nat.one_pos | exact amt_pos _

instance landAny_storable (r : Row) (k : Fin 3) (d : Dev nD) : BI.Storable (upEmb : UEmb _ 𝕄) (landAny (F := F) r k d) := by
  unfold landAny; infer_instance
instance payload_storable (g : GSem nD τ sig) (r : ℕ) (d : Fin 3) : BI.Storable (upEmb : UEmb _ 𝕄) ((Rd v).payload g r d) := by
  show BI.Storable upEmb (match kd g.2 with | .bar p => barPay p d g.1.1 | .send r k => sendPay v r k g.1.1 | .recv r k => recvPay v r k g.1.1 | .other => iprop(emp))
  unfold barPay sendPay recvPay
  split <;> infer_instance

section Facts

variable (p k : Fin 3) (r : Row) (c : Dev nD)

theorem duties_bar : (Rd v).duties (barC p c) 0 = Finset.univ := by dsimp only [Rd]; rw [if_pos ⟨rfl, rfl⟩, kd_bar]
theorem duties_send : (Rd v).duties (sendC r k c) 0 = {0} := by dsimp only [Rd]; rw [if_pos ⟨rfl, rfl⟩, kd_send]
theorem duties_recv : (Rd v).duties (recvC r k c) 0 = {0} := by dsimp only [Rd]; rw [if_pos ⟨rfl, rfl⟩, kd_recv]
theorem duties_later (g : GSem nD τ sig) : ∀ n, 1 ≤ n → (Rd v).duties g n = ∅ :=
  fun n hn => by dsimp only [Rd]; rw [if_neg (fun h => by omega)]

theorem amount_bar (d : Fin 3) : (Rd v).amount (barC p c) 0 d = 1 := by dsimp only [Rd]; rw [kd_bar]
theorem amount_send (d : Fin 3) : (Rd v).amount (sendC r k c) 0 d = amt r := by dsimp only [Rd]; rw [kd_send]
theorem amount_recv (d : Fin 3) : (Rd v).amount (recvC r k c) 0 d = amt r := by dsimp only [Rd]; rw [kd_recv]

theorem expect_bar : (Rd v).expect (barC p c) 0 = 3 := by
  unfold Schedule.expect Schedule.amountOf; rw [duties_bar, Finset.sum_congr rfl fun d _ => amount_bar v p c d]; rfl
theorem expect_send : (Rd v).expect (sendC r k c) 0 = amt r := by
  unfold Schedule.expect Schedule.amountOf; rw [duties_send, Finset.sum_singleton, amount_send]
theorem expect_recv : (Rd v).expect (recvC r k c) 0 = amt r := by
  unfold Schedule.expect Schedule.amountOf; rw [duties_recv, Finset.sum_singleton, amount_recv]

theorem payload_bar (d : Fin 3) : (Rd v).payload (barC p c) 0 d = barPay p d c := by dsimp only [Rd]; rw [kd_bar]
theorem payload_send (d : Fin 3) : (Rd v).payload (sendC r k c) 0 d = sendPay v r k c := by dsimp only [Rd]; rw [kd_send]
theorem payload_recv (d : Fin 3) : (Rd v).payload (recvC r k c) 0 d = recvPay v r k c := by dsimp only [Rd]; rw [kd_recv]

theorem rest_bar : bigSep ((Rd v).duties (barC p c) 0 \ ∅) (fun d => (Rd v).payload (barC p c) 0 d)
    = iprop(barPay p 0 c ∗ barPay p 1 c ∗ barPay (F := F) p 2 c) := by
  rw [Finset.sdiff_empty, duties_bar, bigSep_congr fun d _ => payload_bar v p c d,
    bigSep_univ_eq_bigSepL [0, 1, 2] (by decide) (by decide)]
  rfl
theorem rest_send : bigSep ((Rd v).duties (sendC r k c) 0 \ ∅) (fun d => (Rd v).payload (sendC r k c) 0 d) = sendPay v r k c := by
  rw [Finset.sdiff_empty, duties_send, bigSep_singleton, payload_send]
theorem rest_recv : bigSep ((Rd v).duties (recvC r k c) 0 \ ∅) (fun d => (Rd v).payload (recvC r k c) 0 d) = recvPay v r k c := by
  rw [Finset.sdiff_empty, duties_recv, bigSep_singleton, payload_recv]

end Facts

/-! ## Levels, and what a device owes -/

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The barrier of call `p` is at `2p + 1`, its receive cells at `2p + 2`, the rest at 0. -/
def lv (g : GSem nD τ sig) (_ : Unit) : ℕ := match kd g.2 with
  | .bar p => 2 * p.val + 1
  | .recv (some (p, _)) _ => 2 * p.val + 2
  | .recv none _ => 6
  | _ => 0

/-- The three receive credits of a row on the peers, the first paid outermost. -/
def addRow (r : Row) (c : Dev nD) (X : CellTallies nD τ sig Unit) : CellTallies nD τ sig Unit :=
  X + tallyAt (recvC r 2 (peer 2 c)) () (amt r) + tallyAt (recvC r 1 (peer 1 c)) () (amt r) + tallyAt (recvC r 0 (peer 0 c)) () (amt r)
/-- The three barrier units of a call on the peers. -/
def addBar (p : Fin 3) (c : Dev nD) (X : CellTallies nD τ sig Unit) : CellTallies nD τ sig Unit :=
  X + tallyAt (barC p (peer 2 c)) () 1 + tallyAt (barC p (peer 1 c)) () 1 + tallyAt (barC p (peer 0 c)) () 1

/-- Owed once the barrier units of the last call are paid. -/
def aft2 (c : Dev nD) : CellTallies nD τ sig Unit := addRow none c 0
/-- Owed from the start of the last call. -/
def E2 (c : Dev nD) : CellTallies nD τ sig Unit := addBar 2 c (aft2 c)
/-- Owed when, of call `p`, the blocks from `4 - n` on are still to send and then `X`. -/
def blocks (p : Fin 2) (c : Dev nD) (X : CellTallies nD τ sig Unit) : ℕ → CellTallies nD τ sig Unit
  | 0 => X
  | n + 1 => addRow (some (p, Fin.ofNat 4 (3 - n))) c (blocks p c X n)
theorem blocks_succ (p : Fin 2) (c : Dev nD) (X : CellTallies nD τ sig Unit) (j : Fin 4) :
    blocks p c X (4 - j.val) = addRow (some (p, j)) c (blocks p c X (3 - j.val)) := by
  match j with
  | 0 => rfl
  | 1 => rfl
  | 2 => rfl
  | 3 => rfl
/-- Owed from the start of call 1. -/
def E1 (c : Dev nD) : CellTallies nD τ sig Unit := addBar 1 c (blocks 1 c (E2 c) 4)
/-- Owed from the start of call 0. -/
def E0 (c : Dev nD) : CellTallies nD τ sig Unit := addBar 0 c (blocks 0 c (E1 c) 4)
/-- Owed after call `p`. -/
def nxt (c : Dev nD) : Fin 2 → CellTallies nD τ sig Unit | 0 => E1 c | 1 => E2 c

/-- Every cell owed is a cell of a TensorCore, of a level above `n`. -/
def Above (n : ℕ) (X : CellTallies nD τ sig Unit) : Prop := ∀ g u, 0 < X g u → g.1.2 = .tc ∧ n < lv g u

theorem above_zero (n : ℕ) : Above n (0 : CellTallies nD τ sig Unit) := fun g u h => absurd h (Nat.lt_irrefl 0)
theorem above_add {n : ℕ} {X : CellTallies nD τ sig Unit} (hX : Above n X) (d : Dev nD) (sm : SemLoc sig) (a : ℕ)
    (h : n < lv ((d : Thread nD τ), sm) ()) : Above n (X + tallyAt ((d : Thread nD τ), sm) () a) := by
  intro g u hg
  by_cases h0 : 0 < X g u
  · exact hX g u h0
  · have h1 : 0 < tallyAt (((d : Thread nD τ), sm) : GSem nD τ sig) () a g u := by
      have : (X + tallyAt (((d : Thread nD τ), sm) : GSem nD τ sig) () a) g u = X g u + tallyAt (((d : Thread nD τ), sm) : GSem nD τ sig) () a g u := rfl
      omega
    rw [tallyAt_apply] at h1
    by_cases h2 : g = ((d : Thread nD τ), sm) ∧ u = ()
    · rw [h2.1]; exact ⟨rfl, h⟩
    · rw [if_neg h2] at h1; exact absurd h1 (Nat.lt_irrefl 0)

theorem lv_bar (p : Fin 3) (c : Dev nD) : lv (barC p c) () = 2 * p.val + 1 := by unfold lv; rw [kd_bar]
theorem lv_send (r : Row) (k : Fin 3) (c : Dev nD) : lv (sendC r k c) () = 0 := by unfold lv; rw [kd_send]
theorem lv_recv (p : Fin 2) (j : Fin 4) (k : Fin 3) (c : Dev nD) : lv (recvC (some (p, j)) k c) () = 2 * p.val + 2 := by unfold lv; rw [kd_recv]
theorem lv_recv' (k : Fin 3) (c : Dev nD) : lv (recvC none k c) () = 6 := by unfold lv; rw [kd_recv]

theorem above_row {n : ℕ} {X : CellTallies nD τ sig Unit} (hX : Above n X) (r : Row) (c : Dev nD)
    (h : ∀ k d, n < lv (recvC r k d) ()) : Above n (addRow r c X) :=
  above_add (above_add (above_add hX _ _ _ (h _ _)) _ _ _ (h _ _)) _ _ _ (h _ _)
theorem above_bar {n : ℕ} {X : CellTallies nD τ sig Unit} (hX : Above n X) (p : Fin 3) (c : Dev nD)
    (h : n < 2 * p.val + 1) : Above n (addBar p c X) :=
  above_add (above_add (above_add hX _ _ _ (by rw [lv_bar]; exact h)) _ _ _ (by rw [lv_bar]; exact h)) _ _ _ (by rw [lv_bar]; exact h)

theorem above_aft2 (c : Dev nD) : Above 5 (aft2 c) := above_row (above_zero _) _ _ fun k d => by rw [lv_recv']; decide
theorem above_mono {n n' : ℕ} (h : n ≤ n') {X : CellTallies nD τ sig Unit} (hX : Above n' X) : Above n X :=
  fun g u hg => ⟨(hX g u hg).1, lt_of_le_of_lt h (hX g u hg).2⟩
theorem above_E2 (c : Dev nD) : Above 4 (E2 c) := above_bar (above_mono (by decide) (above_aft2 c)) _ _ (by decide)
theorem above_blocks (p : Fin 2) (c : Dev nD) {X : CellTallies nD τ sig Unit} (hX : Above (2 * p.val + 1) X) (n : ℕ) :
    Above (2 * p.val + 1) (blocks p c X n) := by
  have h : ∀ (j : Fin 4) (k : Fin 3) (d : Dev nD), 2 * p.val + 1 < lv (recvC (some (p, j)) k d) () := fun j k d => by rw [lv_recv]; omega
  induction n with
  | zero => exact hX
  | succ n ih => exact above_row ih _ _ fun k d => h _ k d
theorem above_E1 (c : Dev nD) : Above 2 (E1 c) :=
  above_bar (above_mono (by decide) (above_blocks 1 c (X := E2 c) (above_mono (by decide) (above_E2 c)) 4)) _ _ (by decide)
theorem above_nxt (p : Fin 2) (c : Dev nD) : Above (2 * p.val + 2) (nxt c p) := by
  match p with
  | 0 => exact above_E1 c
  | 1 => exact above_E2 c
theorem above_E0 (c : Dev nD) : Above 0 (E0 c) :=
  above_bar (above_mono (by decide) (above_blocks 0 c (X := E1 c) (above_mono (by decide) (above_E1 c)) 4)) _ _ (by decide)

/-- A cell may be waited on while everything owed is above it. -/
theorem mayWait (c : Dev nD) (sm : SemLoc sig) {X : CellTallies nD τ sig Unit} (h : Above (lv ((c : Thread nD τ), sm) ()) X) :
    (levAts L lv : sProp 𝕄) ⊢ MayWait (c : Thread nD τ) sm () X :=
  MayOwe.of_cut (L := L) (lev := lv) (lv ((c : Thread nD τ), sm) ())
    (fun q hq => by rw [Finset.mem_singleton.mp hq, L_tc]; exact Finset.mem_singleton_self _)
    (fun g u hg => by unfold L; rw [if_pos (h g u hg).1]; exact Finset.mem_singleton_self _)
    (fun q hq => by rw [Finset.mem_singleton.mp hq])
    (fun g u hg => (h g u hg).2)

end Cert.KernelIdeal.Talk

end
-- ==== Proof.Steps.lean ====
/- The remote operations of the three kernels as steps over the schedule: a barrier signal, the barrier wait, a copy to a
   peer, and the two waits of a copy. Each is stated for the operation followed by any continuation. -/
module

public import proofs.«01_k».proof.Proof.Sched

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]
local notation "𝕄" => MT nD τ sig Unit (Elt F) ℕ UU ℕ

abbrev 𝒱₀ : Variants := Variants.none

/-! ## All cells -/

def barEmb : Fin 3 × Dev nD ↪ GSem nD τ sig := ⟨fun x => barC x.1 x.2, fun x y h => by
  have h1 : x.2 = y.2 := congrArg (fun g : GSem nD τ sig => g.1.1) h
  have h2 := congrArg (fun g : GSem nD τ sig => kd g.2) h
  simp only [kd_bar] at h2
  exact Prod.ext (Kd.bar.inj h2) h1⟩

/-- A row's copy's send cell (`false`) or receive cell (`true`). -/
abbrev scSem (x : Row × Fin 3 × Bool) : SemLoc sig := if x.2.2 then .dma (rS x.1 x.2.1) else .dma (sS x.1 x.2.1)
theorem scSem_inj : Function.Injective scSem := by
  rintro ⟨r, k, b⟩ ⟨r', k', b'⟩ h
  have h2 := congrArg kd h
  cases b <;> cases b' <;> simp only [scSem, kd_send, kd_recv, if_true, if_false, Bool.false_eq_true] at h2
  · obtain ⟨rfl, rfl⟩ := Kd.send.inj h2; rfl
  · cases h2
  · cases h2
  · obtain ⟨rfl, rfl⟩ := Kd.recv.inj h2; rfl
def scEmb : (Row × Fin 3 × Bool) × Dev nD ↪ GSem nD τ sig := ⟨fun x => ((x.2 : Thread nD τ), scSem x.1), fun _ _ h =>
  Prod.ext (scSem_inj (congrArg Prod.snd h)) (congrArg (fun g : GSem nD τ sig => g.1.1) h)⟩

/-- The barrier cells; the send and receive cells. -/
abbrev barCells : Finset (GSem nD τ sig) := Finset.univ.map barEmb
abbrev scCells : Finset (GSem nD τ sig) := Finset.univ.map scEmb

theorem disjoint_cells : Disjoint (barCells : Finset (GSem nD τ sig)) scCells := by
  rw [Finset.disjoint_left]
  rintro g h₁ h₂
  obtain ⟨x, -, rfl⟩ := Finset.mem_map.mp h₁
  obtain ⟨⟨⟨r, k, b⟩, c⟩, -, h⟩ := Finset.mem_map.mp h₂
  have h3 : kd (scSem (r, k, b)) = kd (.reg (bS x.1)) := congrArg (fun g : GSem nD τ sig => kd g.2) h
  cases b <;> simp [scSem, kd_bar, kd_send, kd_recv] at h3

theorem bar_mem (p : Fin 3) (c : Dev nD) : barC p c ∈ (barCells ∪ scCells : Finset (GSem nD τ sig)) :=
  Finset.mem_union_left _ (Finset.mem_map_of_mem barEmb (Finset.mem_univ (p, c)))
theorem send_mem (r : Row) (k : Fin 3) (c : Dev nD) : sendC r k c ∈ (barCells ∪ scCells : Finset (GSem nD τ sig)) :=
  Finset.mem_union_right _ (Finset.mem_map_of_mem scEmb (Finset.mem_univ ((r, k, false), c)))
theorem recv_mem (r : Row) (k : Fin 3) (c : Dev nD) : recvC r k c ∈ (barCells ∪ scCells : Finset (GSem nD τ sig)) :=
  Finset.mem_union_right _ (Finset.mem_map_of_mem scEmb (Finset.mem_univ ((r, k, true), c)))

variable (v : Vals F) (κ : GSem nD τ sig → ℕ)

/-- What every device may consult: the invariants of all cells under one map of names, and that every barrier cell is at
    round 0. -/
def records : sProp 𝕄 :=
  iprop((bigSep (barCells ∪ scCells) fun g => cellInv ER (Rd v) (κ g) g) ∗ bigSep barCells fun g => reached ER g 0)
instance records_persistent : BI.Persistent (records v κ) := by unfold records; infer_instance

theorem inv_at {g : GSem nD τ sig} (hg : g ∈ (barCells ∪ scCells : Finset (GSem nD τ sig))) :
    records v κ ⊢ cellInv ER (Rd v) (κ g) g := by
  have h : (bigSep (barCells ∪ scCells) fun g => (cellInv ER (Rd v) (κ g) g : sProp 𝕄)) ⊢ cellInv ER (Rd v) (κ g) g := bigSep_elim hg
  unfold records; iintro ⟨H, -⟩; iapply h; iexact H
theorem reached_at (p : Fin 3) (c : Dev nD) : records v κ ⊢ reached ER (barC p c) 0 := by
  have h : (bigSep barCells fun g => (reached ER g 0 : sProp 𝕄)) ⊢ reached ER (barC p c) 0 :=
    bigSep_elim (Finset.mem_map_of_mem barEmb (Finset.mem_univ (p, c)))
  unfold records; iintro ⟨-, H⟩; iapply h; iexact H

/-- What device `c` owes, whatever waits are recorded. -/
def ow (c : Dev nD) (X : CellTallies nD τ sig Unit) : sProp 𝕄 := iprop(∃ W, owes (c : Thread nD τ) X W)

/-- A program's weakest precondition on device `c`. -/
abbrev WP (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

section Steps

variable (c : Dev nD)

/-- Signal the barrier cell of peer `k`, handing it the own landing places of copy `k`. -/
theorem signal_step {α : Type} (kk : PUnit.{1} → Prog (TpuEff nD τ sig (Elt F) Λ₀ .tc) α) (Q : α → sProp 𝕄) (p k : Fin 3) (X : CellTallies nD τ sig Unit) {dev : Thread nD τ} {s : Sem sig} (hdev : dev = (peer k c : Thread nD τ)) (hs : s = bS p) :
    iprop(records v κ ∗ ow c (X + tallyAt (barC p (peer k c)) () 1) ∗ dutyTok ER (barC p (peer k c)) 0 k
        ∗ (bigSep (rowsOf p) fun r => iprop(landAny r k c ∗ reached ER (recvC r k c) 0))
        ∗ (ow c X -∗ WP c (kk ⟨⟩) Q))
      ⊢ WP c (.op (.semSignal dev s 1) kk) Q := by
  subst hdev hs
  unfold ow
  iintro ⟨#HR, ⟨%W, HO⟩, Ht, Hp, Hk⟩
  iapply (Rounds.wp_signal 𝒱₀ ER (Rd v) (c : Thread nD τ) none (dst := (peer k c : Thread nD τ)) (sem := bS p) (r := 0) (d := k) (κ := κ (barC p (peer k c)))
      (by rw [duties_bar]; exact Finset.mem_univ _) (amount_bar v p (peer k c) k) () X rfl)
    $$ [HO Ht Hp]
  · isplitr; · iapply (inv_at v κ (bar_mem p (peer k c))); iexact HR
    isplitl [HO]; · iexact HO
    isplitl [Ht]; · iexact Ht
    isplitl [Hp]
    · rw [payload_bar]; unfold barPay; rw [peer_peer]; iexact Hp
    · iapply (reached_at v κ p (peer k c)); iexact HR
  iintro HO
  iapply Hk; iexists W; iexact HO

theorem close (g : GSem nD τ sig) : iprop(cellInv ER (Rd v) (κ g) g ∗ atPos ER g (0 + 1) ∅ 0) ⊢ (|={Set.univ}=> semVal g 0 : sProp 𝕄) :=
  Rounds.cell_close ER (Rd v) (Set.mem_univ _) id (duties_later v g)

/-- Wait on the own barrier cell and close it: the peers' landing places come. -/
theorem barrier_step {α : Type} (kk : PUnit.{1} → Prog (TpuEff nD τ sig (Elt F) Λ₀ .tc) α) (Q : α → sProp 𝕄) (p : Fin 3) (X : CellTallies nD τ sig Unit) {s : Sem sig} (hs : s = bS p) (hX : Above (2 * p.val + 1) X) :
    iprop(records v κ ∗ levAts L lv ∗ ow c X ∗ atPos ER (barC p c) 0 ∅ 0 ∗ cred (tallyAt (barC p c) () 3)
        ∗ ((ow c X ∗ semVal (barC p c) 0 ∗ barPay p 0 c ∗ barPay p 1 c ∗ barPay p 2 c) -∗ WP c (kk ⟨⟩) Q))
      ⊢ WP c (.op (.semWait s 3) kk) Q := by
  subst hs
  unfold ow
  iintro ⟨#HR, #Hlev, ⟨%W, HO⟩, Hat, Hc, Hk⟩
  ihave #HI := (inv_at v κ (bar_mem p c)) $$ HR
  iapply (Rounds.wp_wait_rest_token 𝒱₀ ER (Rd v) (c : Thread nD τ) none (κ := κ (barC p c))
      (wpE_semWait_eq 𝒱₀ (c : Thread nD τ) none Set.univ) (Set.mem_univ _) () (O := X) (W := W) (R := 0) (m := 0) (T := ∅)
      ((Nat.zero_add 3).trans (expect_bar v p c).symm)) $$ [Hc HO Hat]
  · isplitr; · iexact HI
    isplitl [Hc]; · iexact Hc
    isplitl [HO]; · iexact HO
    isplitr; · iapply (mayWait c (.reg (bS p)) (by rw [lv_bar]; exact hX)); iexact Hlev
    iexact Hat
  iintro ⟨HO, Hat, -, Hpay⟩
  ihave Hp := (Entails.of_eq (rest_bar v p c)) $$ Hpay
  imod (close v κ (barC p c)) $$ [Hat] with Hb
  · isplitr; · iexact HI
    iexact Hat
  iapply Hk
  isplitl [HO]; · iexists _; iexact HO
  isplitl [Hb]; · iexact Hb
  iexact Hp

/-- What device `c` holds for copy `k` of a row before it is sent: its positions, the tokens of the two payments the copy
    makes, the credit of the own receive cell. -/
def tok (r : Row) (k : Fin 3) (c : Dev nD) : sProp 𝕄 :=
  iprop(atPos ER (sendC r k c) 0 ∅ 0 ∗ reached ER (sendC r k c) 0 ∗ atPos ER (recvC r k c) 0 ∅ 0
    ∗ dutyTok ER (sendC r k c) 0 0 ∗ dutyTok ER (recvC r k (peer k c)) 0 0 ∗ cred (tallyAt (recvC r k c) () (amt r)))
/-- What came from the barrier for copy `k` of a row. -/
def land (r : Row) (k : Fin 3) (c : Dev nD) : sProp 𝕄 := iprop(landAny r k (peer k c) ∗ reached ER (recvC r k (peer k c)) 0)
/-- Copy `k` of a row sent, neither wait done. -/
def fly (r : Row) (k : Fin 3) (c : Dev nD) : sProp 𝕄 :=
  iprop((atPos ER (sendC r k c) 0 ∅ 0 ∗ cred (tallyAt (sendC r k c) () (amt r))) ∗ (atPos ER (recvC r k c) 0 ∅ 0 ∗ cred (tallyAt (recvC r k c) () (amt r))))

theorem barPay_eq (p k : Fin 3) : (barPay p k c : sProp 𝕄) = bigSep (rowsOf p) fun r => land r k c := rfl

/-- Copy `k` of a row to peer `k`. -/
theorem send_step {α : Type} (kk : PUnit.{1} → Prog (TpuEff nD τ sig (Elt F) Λ₀ .tc) α) (Q : α → sProp 𝕄) (r : Row) (k : Fin 3) (X : CellTallies nD τ sig Unit) {S : Memref sig .tc .vmem (rsh r) .bf16} {dev : Thread nD τ} {s1 s2 : DmaSem sig}
    (hS : S = src r k c) (hdev : dev = (peer k c : Thread nD τ)) (hs1 : s1 = sS r k) (hs2 : s2 = rS r k)
    {D : Memref sig dev.2.kind .vmem (rsh r) .bf16} (hD : HEq D (dst r k))
    {hsc : D.view.ref.isScScratch = false} {hw1 : S.view.WordExact} {hw2 : D.view.WordExact}
    {hty : DmaTarget.Typed .vmem (.dma s2) (.remote dev D (.dma s1) hsc)} :
    iprop(records v κ ∗ ow c (X + tallyAt (recvC r k (peer k c)) () (amt r)) ∗ owns (c : Thread nD τ) (src r k c) (shr r k) (val v r k c)
        ∗ tok r k c ∗ land r k c ∗ ((ow c X ∗ fly r k c) -∗ WP c (kk ⟨⟩) Q))
      ⊢ WP c (.op (.enqueueDma S (.remote dev D (.dma s1) hsc) (.dma s2) hw1 hw2 hty) kk) Q := by
  subst hS hdev hs1 hs2
  obtain rfl := eq_of_heq hD
  unfold ow tok land fly landAny
  iintro ⟨#HR, ⟨%W, HO⟩, Hs, ⟨HaS, #HrS, HaR, HtS, HtR, Hc⟩, ⟨⟨%Y, Hd⟩, #HrR⟩, Hk⟩
  unfold owns
  icases Hs with ⟨%fs, %hfs, Hs⟩
  icases Hd with ⟨%fd, -, Hd⟩
  iapply (Rounds.wp_send_pointsTo 𝒱₀ ER (Rd v) (c : Thread nD τ) none (c' := (peer k c : Thread nD τ)) (src := src r k c) (dst := dst r k)
      (sS := .dma (sS r k)) (sem := .dma (rS r k)) (q := shr r k) (fs := fs) (κ₁ := κ (sendC r k c)) (κ₂ := κ (recvC r k (peer k c)))
      (r₁ := 0) (r₂ := 0) (d₁ := 0) (d₂ := 0) (fd := fd)
      (by rw [duties_send]; exact Finset.mem_singleton_self _) (by rw [duties_recv]; exact Finset.mem_singleton_self _)
      () () (amt r) (amt_dst r k) (amount_send v k r c 0) (amount_recv v k r (peer k c) 0) X rfl (W := W)
      (by rw [payload_send]; unfold sendPay owns; iintro H; iexists fs; isplitr; · ipureintro; exact hfs
          iexact H)
      (by rw [payload_recv]; unfold recvPay owns; iintro H
          iexists ((dst r k).view.write (Elt F) fd ((src r k c).view.read (Elt F) fs) Finset.univ); isplitr
          · ipureintro; rw [View.read_write_univ, hfs, peer_peer]
          iexact H)) $$ [Hs Hd HO HtS HtR]
  · isplitr; · iapply (inv_at v κ (send_mem r k c)); iexact HR
    isplitr; · iapply (inv_at v κ (recv_mem r k (peer k c))); iexact HR
    isplitl [Hs]; · iexact Hs
    isplitl [Hd]; · iexact Hd
    isplitl [HO]; · iexact HO
    isplitl [HtS]; · iexact HtS
    isplitr; · iexact HrS
    isplitl [HtR]; · iexact HtR
    iexact HrR
  iintro ⟨HcS, HO⟩
  iapply Hk
  isplitl [HO]; · iexists W; iexact HO
  isplitl [HaS HcS]
  · isplitl [HaS] <;> iassumption
  · isplitl [HaR] <;> iassumption

/-- Wait for the own copy `k` of a row to be read, and close the cell. -/
theorem wait_send_step {α : Type} (kk : PUnit.{1} → Prog (TpuEff nD τ sig (Elt F) Λ₀ .tc) α) (Q : α → sProp 𝕄) (r : Row) (k : Fin 3) (X : CellTallies nD τ sig Unit) {sp₁ sp₂ : Space} {S : Memref sig .tc sp₁ (rsh r) .bf16} {D : Memref sig .tc sp₂ (rsh r) .bf16} {s : DmaSem sig}
    (hs : s = sS r k) (hD : D.view.dmaCredit = amt r) (hX : Above 0 X) {h1 : S.view.WordExact} {h2 : D.view.WordExact} :
    iprop(records v κ ∗ levAts L lv ∗ ow c X ∗ (atPos ER (sendC r k c) 0 ∅ 0 ∗ cred (tallyAt (sendC r k c) () (amt r)))
        ∗ ((ow c X ∗ semVal (sendC r k c) 0 ∗ owns (c : Thread nD τ) (src r k c) (shr r k) (val v r k c)) -∗ WP c (kk ⟨⟩) Q))
      ⊢ WP c (.op (.waitDma2 s S D h1 h2) kk) Q := by
  subst hs
  unfold ow
  iintro ⟨#HR, #Hlev, ⟨%W, HO⟩, ⟨Hat, Hc⟩, Hk⟩
  ihave #HI := (inv_at v κ (send_mem r k c)) $$ HR
  iapply (Rounds.wp_wait_rest_token 𝒱₀ ER (Rd v) (c : Thread nD τ) none (κ := κ (sendC r k c))
      (wpE_waitDma2_eq (src := S) (dst := D) 𝒱₀ (c : Thread nD τ) none Set.univ) (Set.mem_univ _) () (O := X) (W := W) (R := 0) (m := 0) (T := ∅)
      ((Nat.zero_add _).trans (hD.trans (expect_send v k r c).symm))) $$ [Hc HO Hat]
  · isplitr; · iexact HI
    isplitl [Hc]; · rw [hD]; iexact Hc
    isplitl [HO]; · iexact HO
    isplitr; · iapply (mayWait c (.dma (sS r k)) (by rw [lv_send]; exact hX)); iexact Hlev
    iexact Hat
  iintro ⟨HO, Hat, -, Hpay⟩
  ihave Hp := (Entails.of_eq ((rest_send v k r c).trans (by unfold sendPay; rfl : _ = owns (c : Thread nD τ) (src r k c) (shr r k) (val v r k c)))) $$ Hpay
  imod (close v κ (sendC r k c)) $$ [Hat] with Hb
  · isplitr; · iexact HI
    iexact Hat
  iapply Hk
  isplitl [HO]; · iexists _; iexact HO
  isplitl [Hb]; · iexact Hb
  iexact Hp

/-- Wait for copy `k` of a row to land from peer `k`, and close the cell. -/
theorem wait_recv_step {α : Type} (kk : PUnit.{1} → Prog (TpuEff nD τ sig (Elt F) Λ₀ .tc) α) (Q : α → sProp 𝕄) (r : Row) (k : Fin 3) (X : CellTallies nD τ sig Unit) {sp₁ sp₂ : Space} {S : Memref sig .tc sp₁ (rsh r) .bf16} {D : Memref sig .tc sp₂ (rsh r) .bf16} {s : DmaSem sig}
    (hs : s = rS r k) (hD : D.view.dmaCredit = amt r) (hX : Above (lv (recvC r k c) ()) X) {h1 : S.view.WordExact} {h2 : D.view.WordExact} :
    iprop(records v κ ∗ levAts L lv ∗ ow c X ∗ (atPos ER (recvC r k c) 0 ∅ 0 ∗ cred (tallyAt (recvC r k c) () (amt r)))
        ∗ ((ow c X ∗ semVal (recvC r k c) 0 ∗ owns (c : Thread nD τ) (dst r k) fullShare (val v r k (peer k c))) -∗ WP c (kk ⟨⟩) Q))
      ⊢ WP c (.op (.waitDma2 s S D h1 h2) kk) Q := by
  subst hs
  unfold ow
  iintro ⟨#HR, #Hlev, ⟨%W, HO⟩, ⟨Hat, Hc⟩, Hk⟩
  ihave #HI := (inv_at v κ (recv_mem r k c)) $$ HR
  iapply (Rounds.wp_wait_rest_token 𝒱₀ ER (Rd v) (c : Thread nD τ) none (κ := κ (recvC r k c))
      (wpE_waitDma2_eq (src := S) (dst := D) 𝒱₀ (c : Thread nD τ) none Set.univ) (Set.mem_univ _) () (O := X) (W := W) (R := 0) (m := 0) (T := ∅)
      ((Nat.zero_add _).trans (hD.trans (expect_recv v k r c).symm))) $$ [Hc HO Hat]
  · isplitr; · iexact HI
    isplitl [Hc]; · rw [hD]; iexact Hc
    isplitl [HO]; · iexact HO
    isplitr; · iapply (mayWait c (.dma (rS r k)) hX); iexact Hlev
    iexact Hat
  iintro ⟨HO, Hat, -, Hpay⟩
  ihave Hp := (Entails.of_eq ((rest_recv v k r c).trans (by unfold recvPay; rfl : _ = owns (c : Thread nD τ) (dst r k) fullShare (val v r k (peer k c))))) $$ Hpay
  imod (close v κ (recvC r k c)) $$ [Hat] with Hb
  · isplitr; · iexact HI
    iexact Hat
  iapply Hk
  isplitl [HO]; · iexists _; iexact HO
  isplitl [Hb]; · iexact Hb
  iexact Hp

end Steps

end Cert.KernelIdeal.Talk

end
-- ==== Proof.Own.lean ====
/- Loads and stores of the kernels over owned memrefs: of a whole memref through a rectangle, and of one slice of it. -/
module

public import proofs.«01_k».proof.Proof.Steps

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]
local notation "𝕄" => MT nD τ sig Unit (Elt F) ℕ UU ℕ

variable {cs : CoreSpace} {s s' : Shape} {e : EltTy} (c : Dev nD)

/-- A program that returns. -/
theorem ret_step {α : Type} (x : α) (Q : α → sProp 𝕄) : Q x ⊢ WP c (.ret x) Q := by
  show _ ⊢ wp _ _ _ _ _
  rw [wp_ret]
  iintro H
  imodintro
  iexact H

/-- Load through a rectangle of an owned memref. -/
theorem load_own {α : Type} (M : Memref sig .tc cs s e) (r : Rect s) {hl : M.view.LoadsAt r.toLoadRect} (q : PosShare TreeShare) (X : s.Idx → Elt F e)
    (kk : (r.shape.Idx → Elt F e) → Prog (TpuEff nD τ sig (Elt F) Λ₀ .tc) α) (Q : α → sProp 𝕄) :
    owns (c : Thread nD τ) M q X
      ⊢ iprop((owns (c : Thread nD τ) M q X -∗ WP c (kk fun y => X (r.emb y)) Q) -∗ WP c (.op (.load M r.toLoadRect hl) kk) Q) := by
  unfold owns
  iintro ⟨%f, %hf, H⟩ Hk
  iapply (wp_load_rect 𝒱₀ (c : Thread nD τ) none Set.univ (r := r) (View.set_slice_subset M.view r)) $$ H
  iintro H
  have : (M.access r).read (Elt F) f = fun y => X (r.emb y) := by rw [← hf]; rfl
  rw [this]
  iapply Hk
  iexists f; isplitr; · ipureintro; exact hf
  iexact H

/-- Load the whole of an owned memref. -/
theorem load_all {α : Type} (M : Memref sig .tc cs s e) {off : Fin s.rank → ℕ} {inb} {hl : M.view.LoadsAt (Rect.unit (s := s) off s.size inb).toLoadRect} (q : PosShare TreeShare) (X : s.Idx → Elt F e)
    (kk : (s.Idx → Elt F e) → Prog (TpuEff nD τ sig (Elt F) Λ₀ .tc) α) (Q : α → sProp 𝕄) :
    owns (c : Thread nD τ) M q X
      ⊢ iprop((owns (c : Thread nD τ) M q X -∗ WP c (kk X) Q) -∗ WP c (.op (.load M (Rect.unit (s := s) off s.size inb).toLoadRect hl) kk) Q) := by
  have h : (fun y => X ((Rect.unit (s := s) off s.size inb).emb y)) = X := by
    funext y
    refine congrArg X (funext fun a => Fin.ext ?_)
    have := inb a
    show off a + 1 * (y a).val = (y a).val
    omega
  have h' := load_own c M (Rect.unit (s := s) off s.size inb) (hl := hl) q X kk Q
  rw [h] at h'
  exact h'

/-- Store through a rectangle of an owned memref. -/
theorem store_own {α : Type} (M : Memref sig .tc cs s e) (r : Rect s) (w : r.shape.Idx → Elt F e) {hx : (M.access r).Stores Finset.univ} {hm} (X : s.Idx → Elt F e)
    (kk : PUnit.{1} → Prog (TpuEff nD τ sig (Elt F) Λ₀ .tc) α) (Q : α → sProp 𝕄) :
    owns (c : Thread nD τ) M fullShare X
      ⊢ iprop((owns (c : Thread nD τ) M fullShare (r.overlay X w) -∗ WP c (kk ⟨⟩) Q) -∗ WP c (.op (.store M r w Finset.univ hx hm) kk) Q) := by
  unfold owns
  iintro ⟨%f, %hf, H⟩ Hk
  iapply (wp_store 𝒱₀ (c : Thread nD τ) none Set.univ (r := r) (View.set_slice_subset M.view r)) $$ H
  iintro H
  iapply Hk
  iexists _; isplitr
  rotate_left
  · iexact H
  · ipureintro
    funext j
    by_cases hj : j ∈ r.set
    · rw [← Rect.map_emb_univ, Finset.mem_map] at hj
      obtain ⟨i, -, rfl⟩ := hj
      rw [Rect.overlay_emb]
      exact congrFun (View.read_write_univ (v := M.access r) (Val := Elt F) f w) i
    · rw [Rect.overlay_of_not_mem r X w hj, ← hf]
      exact View.read_slice_write_of_not_mem r f w Finset.univ (by rwa [Rect.map_emb_univ])

/-- Store through a rectangle whose offsets are known. -/
theorem store_at {α : Type} (M : Memref sig .tc cs s e) {off off₀ size : Fin s.rank → ℕ} (h : off = off₀) {inb inb₀} (w : (⟨s.rank, size⟩ : Shape).Idx → Elt F e)
    {hx : (M.access (Rect.unit (s := s) off size inb)).Stores Finset.univ} {hm} (X : s.Idx → Elt F e)
    (kk : PUnit.{1} → Prog (TpuEff nD τ sig (Elt F) Λ₀ .tc) α) (Q : α → sProp 𝕄) :
    owns (c : Thread nD τ) M fullShare X
      ⊢ iprop((owns (c : Thread nD τ) M fullShare ((Rect.unit (s := s) off₀ size inb₀).overlay X w) -∗ WP c (kk ⟨⟩) Q) -∗ WP c (.op (.store M (Rect.unit (s := s) off size inb) w Finset.univ hx hm) kk) Q) := by
  subst h
  exact store_own c M (Rect.unit (s := s) off size inb) w X kk Q

/-- Store over the whole. -/
theorem store_all {α : Type} (M : Memref sig .tc cs s e) {off : Fin s.rank → ℕ} {inb} (w : s.Idx → Elt F e)
    {hx : (M.access (Rect.unit (s := s) off s.size inb)).Stores Finset.univ} {hm} (X : s.Idx → Elt F e)
    (kk : PUnit.{1} → Prog (TpuEff nD τ sig (Elt F) Λ₀ .tc) α) (Q : α → sProp 𝕄) :
    owns (c : Thread nD τ) M fullShare X
      ⊢ iprop((owns (c : Thread nD τ) M fullShare w -∗ WP c (kk ⟨⟩) Q) -∗ WP c (.op (.store M (Rect.unit (s := s) off s.size inb) w Finset.univ hx hm) kk) Q) := by
  have h : (Rect.unit (s := s) off s.size inb).overlay X w = w := by
    funext y
    have he : (Rect.unit (s := s) off s.size inb).emb y = y := funext fun a => Fin.ext (by
      have := inb a
      show off a + 1 * (y a).val = (y a).val
      omega)
    have := Rect.overlay_emb (Rect.unit (s := s) off s.size inb) X w y
    rwa [he] at this
  have h' := store_own c M (Rect.unit (s := s) off s.size inb) (hx := hx) (hm := hm) w X kk Q
  rw [h] at h'
  exact h'

/-- Load exactly an owned slice. -/
theorem load_slot {α : Type} (M : Memref sig .tc cs s e) {off off₀ size : Fin s.rank → ℕ} (h : off = off₀) {inb inb₀} {hr} {hl : M.view.LoadsAt (Rect.unit (s := s) off size inb).toLoadRect} (q : PosShare TreeShare)
    (X : (⟨s.rank, size⟩ : Shape).Idx → Elt F e)
    (kk : ((⟨s.rank, size⟩ : Shape).Idx → Elt F e) → Prog (TpuEff nD τ sig (Elt F) Λ₀ .tc) α) (Q : α → sProp 𝕄) :
    owns (c : Thread nD τ) (M.slice (Rect.unit (s := s) off₀ size inb₀) hr) q X
      ⊢ iprop((owns (c : Thread nD τ) (M.slice (Rect.unit (s := s) off₀ size inb₀) hr) q X -∗ WP c (kk X) Q) -∗ WP c (.op (.load M (Rect.unit (s := s) off size inb).toLoadRect hl) kk) Q) := by
  subst h
  unfold owns
  iintro ⟨%f, %hf, H⟩ Hk
  iapply (wp_load_rect 𝒱₀ (c : Thread nD τ) none Set.univ (r := Rect.unit (s := s) off size inb) (Finset.Subset.refl _)) $$ H
  iintro H
  have : (M.access (Rect.unit (s := s) off size inb)).read (Elt F) f = X := hf
  rw [this]
  iapply Hk
  iexists f; isplitr; · ipureintro; exact hf
  iexact H

/-- Store exactly an owned slice. -/
theorem store_slot {α : Type} (M : Memref sig .tc cs s e) {off off₀ size : Fin s.rank → ℕ} (h : off = off₀) {inb inb₀} {hr} (w : (⟨s.rank, size⟩ : Shape).Idx → Elt F e)
    {hx : (M.access (Rect.unit (s := s) off size inb)).Stores Finset.univ} {hm} (X : (⟨s.rank, size⟩ : Shape).Idx → Elt F e)
    (kk : PUnit.{1} → Prog (TpuEff nD τ sig (Elt F) Λ₀ .tc) α) (Q : α → sProp 𝕄) :
    owns (c : Thread nD τ) (M.slice (Rect.unit (s := s) off₀ size inb₀) hr) fullShare X
      ⊢ iprop((owns (c : Thread nD τ) (M.slice (Rect.unit (s := s) off₀ size inb₀) hr) fullShare w -∗ WP c (kk ⟨⟩) Q) -∗ WP c (.op (.store M (Rect.unit (s := s) off size inb) w Finset.univ hx hm) kk) Q) := by
  subst h
  unfold owns
  iintro ⟨%f, %hf, H⟩ Hk
  iapply (wp_store 𝒱₀ (c : Thread nD τ) none Set.univ (m := M) (r := Rect.unit (s := s) off size inb) (w := w) (Mk := Finset.univ) (f := f) (S := (M.slice (Rect.unit (s := s) off size inb₀) hr).view.set) (Finset.Subset.refl _)) $$ H
  iintro H
  iapply Hk
  iexists _; isplitr
  rotate_left
  · iexact H
  · ipureintro
    exact View.read_write_univ (v := M.access (Rect.unit (s := s) off size inb)) (Val := Elt F) f w

/-- A squeezed memref is owned at the recast vector exactly as the memref is owned at the vector. -/
theorem owns_squeeze (m : Memref sig .tc cs s e) (hq : s.Squeezes s') (hc : s.ShapeCasts s') (q : PosShare TreeShare) (X : s.Idx → Elt F e) :
    (owns (c : Thread nD τ) (m.squeeze s' hq) q (shapeCast s' X hc) : sProp 𝕄) = owns (c : Thread nD τ) m q X := by
  have hset : (m.squeeze s' hq).view.set = m.view.set := Memref.set_view_squeeze m hq
  have hread : ∀ f, (m.squeeze s' hq).view.read (Elt F) f = shapeCast s' (m.view.read (Elt F) f) hc := fun f => rfl
  have hinj : ∀ {A B : s.Idx → Elt F e}, shapeCast s' A hc = shapeCast s' B hc → A = B := by
    intro A B h
    funext i
    have := congrFun h ((Shape.reshapeEquiv hc).symm i)
    simpa only [shapeCast, Equiv.apply_symm_apply] using this
  have hP : ∀ f, ((m.squeeze s' hq).view.read (Elt F) f = shapeCast s' X hc) = (m.view.read (Elt F) f = X) := fun f =>
    propext ⟨fun h => hinj ((hread f).symm.trans h), fun h => by rw [hread, h]⟩
  have hpt : ∀ f : Buf (Elt F) (m.view.loc (c : Thread nD τ)), ((m.squeeze s' hq).view.loc (c : Thread nD τ) ↦[(m.squeeze s' hq).view.set]{q} f : sProp 𝕄) = (m.view.loc (c : Thread nD τ) ↦[m.view.set]{q} f) := fun f => by
    rw [hset]
  have h1 : (owns (c : Thread nD τ) (m.squeeze s' hq) q (shapeCast s' X hc) : sProp 𝕄) ⊢ owns (c : Thread nD τ) m q X := by
    unfold owns
    iintro ⟨%f, %hf, H⟩
    iexists f; isplitr; · ipureintro; exact (hP f) ▸ hf
    iapply (Entails.of_eq (hpt f)); iexact H
  have h2 : (owns (c : Thread nD τ) m q X : sProp 𝕄) ⊢ owns (c : Thread nD τ) (m.squeeze s' hq) q (shapeCast s' X hc) := by
    unfold owns
    iintro ⟨%f, %hf, H⟩
    iexists f; isplitr; · ipureintro; exact (hP f).symm ▸ hf
    iapply (Entails.of_eq (hpt f).symm); iexact H
  exact equiv_iff.mp ⟨h1, h2⟩

end Cert.KernelIdeal.Talk

end
-- ==== Proof.Tiles.lean ====
/- The buffers by parts: the rectangles that tile them, buffers filled one part after the other, and the payloads computed. -/
module

public import proofs.«01_k».proof.Proof.Own
public import Idealize.ShloMosaic.Lib.Pipeline.Value
public import Idealize.ShloMosaic.Lib.MemrefSat

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]
local notation "𝕄" => MT nD τ sig Unit (Elt F) ℕ UU ℕ

/-! ## Families of rectangles -/

section Family

variable {s : Shape} {α : Type} {n : ℕ} (r : Fin n → Rect s)

/-- `X` has the parts `b` on the first `k` rectangles. -/
def UpTo (b : (t : Fin n) → (r t).shape.Idx → α) (k : ℕ) (X : s.Idx → α) : Prop :=
  ∀ t : Fin n, t.val < k → ∀ z, X ((r t).emb z) = b t z

theorem upTo_zero (b : (t : Fin n) → (r t).shape.Idx → α) (X : s.Idx → α) : UpTo r b 0 X := fun _ h => absurd h (Nat.not_lt_zero _)

theorem upTo_step (hd : ∀ t t', t ≠ t' → Disjoint (r t).set (r t').set) {b : (t : Fin n) → (r t).shape.Idx → α} {X : s.Idx → α} (k : Fin n)
    (h : UpTo r b k.val X) : UpTo r b (k.val + 1) ((r k).overlay X (b k)) := by
  intro t ht z
  by_cases htk : t = k
  · subst htk; exact Rect.overlay_emb _ _ _ z
  · rw [Rect.overlay_of_not_mem]
    · exact h t (by have : t.val ≠ k.val := fun e => htk (Fin.ext e)
                    omega) z
    · exact Finset.disjoint_left.mp (hd t k htk) (by rw [← Rect.map_emb_univ]; exact Finset.mem_map_of_mem _ (Finset.mem_univ z))

theorem upTo_full (hcov : (Finset.univ : Finset (Fin n)).biUnion (fun t => (r t).set) = Finset.univ)
    (hd : ∀ t t', t ≠ t' → Disjoint (r t).set (r t').set) {b : (t : Fin n) → (r t).shape.Idx → α} {X : s.Idx → α} {k : ℕ} (hk : n ≤ k)
    (h : UpTo r b k X) : X = Rect.glue r hcov b := by
  funext x
  obtain ⟨t, -, hx⟩ := Finset.mem_biUnion.mp (hcov.symm ▸ Finset.mem_univ x)
  rw [← Rect.map_emb_univ, Finset.mem_map] at hx
  obtain ⟨y, -, rfl⟩ := hx
  rw [h t (by omega) y, Rect.glue_emb r hcov hd]

end Family

theorem inb_h (t : Fin 8) : ∀ a, (![0, 512 * t.val] : Fin 2 → Nat) a + S64x512.size a ≤ S64x4096.size a := by revert t; decide
theorem inb_c (t : Fin 4) : ∀ a, (![0, 512 * t.val] : Fin 2 → Nat) a + S64x512.size a ≤ S64x2048.size a := by revert t; decide
/-- Column block `t` of the hidden activations. -/
abbrev hR (t : Fin 8) : Rect S64x4096 := Rect.unit ![0, 512 * t.val] S64x512.size (inb_h t)
/-- Column block `t` of a layer's result. -/
abbrev cR (t : Fin 4) : Rect S64x2048 := Rect.unit ![0, 512 * t.val] S64x512.size (inb_c t)
/-- The landing places of a call, by block and copy. -/
abbrev rRR (x : Fin 4 × Fin 3) : Rect S4x3x64x512 := rR x.1 x.2

theorem lt0 {s : Shape} (x : s.Idx) (a : Fin s.rank) : (x a).val < s.size a := (x a).isLt

theorem hR_disj (t t' : Fin 8) (h : t ≠ t') : Disjoint (hR t).set (hR t').set := by
  have h' : t.val ≠ t'.val := fun e => h (Fin.ext e)
  refine Rect.unit_disjoint (1 : Fin 2) ?_
  show 512 * t.val + 512 ≤ 512 * t'.val ∨ 512 * t'.val + 512 ≤ 512 * t.val
  omega
theorem cR_disj (t t' : Fin 4) (h : t ≠ t') : Disjoint (cR t).set (cR t').set := by
  have h' : t.val ≠ t'.val := fun e => h (Fin.ext e)
  refine Rect.unit_disjoint (1 : Fin 2) ?_
  show 512 * t.val + 512 ≤ 512 * t'.val ∨ 512 * t'.val + 512 ≤ 512 * t.val
  omega
theorem pR_disj (t t' : Fin 4) (h : t ≠ t') : Disjoint (pR t).set (pR t').set := by
  have h' : t.val ≠ t'.val := fun e => h (Fin.ext e)
  refine Rect.unit_disjoint (0 : Fin 3) ?_
  show t.val + 1 ≤ t'.val ∨ t'.val + 1 ≤ t.val
  omega
theorem rRR_disj (x x' : Fin 4 × Fin 3) (h : x ≠ x') : Disjoint (rRR x).set (rRR x').set := by
  by_cases h1 : x.1 = x'.1
  · have h' : x.2.val ≠ x'.2.val := fun e => h (Prod.ext h1 (Fin.ext e))
    refine Rect.unit_disjoint (1 : Fin 4) ?_
    show x.2.val + 1 ≤ x'.2.val ∨ x'.2.val + 1 ≤ x.2.val
    omega
  · have h' : x.1.val ≠ x'.1.val := fun e => h1 (Fin.ext e)
    refine Rect.unit_disjoint (0 : Fin 4) ?_
    show x.1.val + 1 ≤ x'.1.val ∨ x'.1.val + 1 ≤ x.1.val
    omega
theorem sR_disj (t t' : Dev nD) (h : t ≠ t') : Disjoint (sR t).set (sR t').set := by
  have h' : t.val ≠ t'.val := fun e => h (Fin.ext e)
  refine Rect.unit_disjoint (0 : Fin 2) ?_
  show 16 * t.val + 16 ≤ 16 * t'.val ∨ 16 * t'.val + 16 ≤ 16 * t.val
  omega
theorem rrR_disj (t t' : Fin 3) (h : t ≠ t') : Disjoint (rrR t).set (rrR t').set := by
  have h' : t.val ≠ t'.val := fun e => h (Fin.ext e)
  refine Rect.unit_disjoint (0 : Fin 3) ?_
  show t.val + 1 ≤ t'.val ∨ t'.val + 1 ≤ t.val
  omega

theorem cov_of {s : Shape} {T : Type} [Fintype T] {r : T → Rect s} (h : ∀ x : s.Idx, ∃ t, x ∈ (r t).set) :
    (Finset.univ : Finset T).biUnion (fun t => (r t).set) = Finset.univ :=
  Finset.eq_univ_iff_forall.mpr fun x => let ⟨t, ht⟩ := h x; Finset.mem_biUnion.mpr ⟨t, Finset.mem_univ _, ht⟩

theorem hR_cov : (Finset.univ : Finset (Fin 8)).biUnion (fun t => (hR t).set) = Finset.univ := cov_of fun x => by
  have h0 : (x 0).val < 64 := lt0 x 0
  have h1 : (x 1).val < 4096 := lt0 x 1
  refine ⟨⟨(x 1).val / 512, by omega⟩, Rect.mem_set_unit.mpr fun a => ?_⟩
  match a with
  | 0 => exact ⟨Nat.zero_le _, (Nat.zero_add 64).symm ▸ h0⟩
  | 1 => show 512 * ((x 1).val / 512) ≤ (x 1).val ∧ (x 1).val < 512 * ((x 1).val / 512) + 512; omega
theorem cR_cov : (Finset.univ : Finset (Fin 4)).biUnion (fun t => (cR t).set) = Finset.univ := cov_of fun x => by
  have h0 : (x 0).val < 64 := lt0 x 0
  have h1 : (x 1).val < 2048 := lt0 x 1
  refine ⟨⟨(x 1).val / 512, by omega⟩, Rect.mem_set_unit.mpr fun a => ?_⟩
  match a with
  | 0 => exact ⟨Nat.zero_le _, (Nat.zero_add 64).symm ▸ h0⟩
  | 1 => show 512 * ((x 1).val / 512) ≤ (x 1).val ∧ (x 1).val < 512 * ((x 1).val / 512) + 512; omega
theorem pR_cov : (Finset.univ : Finset (Fin 4)).biUnion (fun t => (pR t).set) = Finset.univ := cov_of fun x => by
  have h1 : (x 1).val < 64 := lt0 x 1
  have h2 : (x 2).val < 512 := lt0 x 2
  refine ⟨x 0, Rect.mem_set_unit.mpr fun a => ?_⟩
  match a with
  | 0 => exact ⟨Nat.le_refl _, Nat.lt_succ_self _⟩
  | 1 => exact ⟨Nat.zero_le _, (Nat.zero_add 64).symm ▸ h1⟩
  | 2 => exact ⟨Nat.zero_le _, (Nat.zero_add 512).symm ▸ h2⟩
theorem rRR_cov : (Finset.univ : Finset (Fin 4 × Fin 3)).biUnion (fun t => (rRR t).set) = Finset.univ := cov_of fun x => by
  have h1 : (x 2).val < 64 := lt0 x 2
  have h2 : (x 3).val < 512 := lt0 x 3
  refine ⟨(x 0, x 1), Rect.mem_set_unit.mpr fun a => ?_⟩
  match a with
  | 0 => exact ⟨Nat.le_refl _, Nat.lt_succ_self _⟩
  | 1 => exact ⟨Nat.le_refl _, Nat.lt_succ_self _⟩
  | 2 => exact ⟨Nat.zero_le _, (Nat.zero_add 64).symm ▸ h1⟩
  | 3 => exact ⟨Nat.zero_le _, (Nat.zero_add 512).symm ▸ h2⟩
theorem sR_cov : (Finset.univ : Finset (Dev nD)).biUnion (fun t => (sR t).set) = Finset.univ := cov_of fun x => by
  have h0 : (x 0).val < 64 := lt0 x 0
  have h1 : (x 1).val < 2048 := lt0 x 1
  refine ⟨(⟨(x 0).val / 16, by omega⟩ : Fin 4), Rect.mem_set_unit.mpr fun a => ?_⟩
  match a with
  | 0 => show 16 * ((x 0).val / 16) ≤ (x 0).val ∧ (x 0).val < 16 * ((x 0).val / 16) + 16; omega
  | 1 => exact ⟨Nat.zero_le _, (Nat.zero_add 2048).symm ▸ h1⟩
theorem rrR_cov : (Finset.univ : Finset (Fin 3)).biUnion (fun t => (rrR t).set) = Finset.univ := cov_of fun x => by
  have h1 : (x 1).val < 16 := lt0 x 1
  have h2 : (x 2).val < 2048 := lt0 x 2
  refine ⟨x 0, Rect.mem_set_unit.mpr fun a => ?_⟩
  match a with
  | 0 => exact ⟨Nat.le_refl _, Nat.lt_succ_self _⟩
  | 1 => exact ⟨Nat.zero_le _, (Nat.zero_add 16).symm ▸ h1⟩
  | 2 => exact ⟨Nat.zero_le _, (Nat.zero_add 2048).symm ▸ h2⟩

/-! ## Owned at contents not chosen -/

/-- Owned whole, at contents not chosen. -/
def own' {cs : CoreSpace} {s : Shape} {e : EltTy} (c : Dev nD) (M : Memref sig .tc cs s e) : sProp 𝕄 := iprop(∃ X, owns (c : Thread nD τ) M fullShare X)

section Any

variable {cs : CoreSpace} {s s' : Shape} {e : EltTy} (c : Dev nD) (M : Memref sig .tc cs s e)

theorem own'_intro (X : s.Idx → Elt F e) : (owns (c : Thread nD τ) M fullShare X : sProp 𝕄) ⊢ own' c M := by
  unfold own'; iintro H; iexists X; iexact H

theorem own'_squeeze (hq : s.Squeezes s') (hc : s.ShapeCasts s') : (own' c M : sProp 𝕄) ⊢ own' c (M.squeeze s' hq) := by
  unfold own'
  iintro ⟨%X, H⟩
  iexists (shapeCast s' X hc)
  rw [owns_squeeze c M hq hc]; iexact H

/-- A squeezed memref owned at `Y` is the memref owned at `Y` recast. -/
theorem owns_unsqueeze (hq : s.Squeezes s') (hc : s.ShapeCasts s') (hc' : s'.ShapeCasts s) (q : PosShare TreeShare) (Y : s'.Idx → Elt F e) :
    (owns (c : Thread nD τ) (M.squeeze s' hq) q Y : sProp 𝕄) = owns (c : Thread nD τ) M q (shapeCast s Y hc') := by
  have h := owns_squeeze (F := F) c M hq hc q (shapeCast s Y hc')
  rwa [shapeCast_shapeCast] at h

theorem own'_unsqueeze (hq : s.Squeezes s') (hc : s.ShapeCasts s') (hc' : s'.ShapeCasts s) : (own' c (M.squeeze s' hq) : sProp 𝕄) ⊢ own' c M := by
  unfold own'
  iintro ⟨%X, H⟩
  iexists (shapeCast s X hc')
  rw [← owns_unsqueeze c M hq hc hc']; iexact H

/-- Split along a disjoint covering family. -/
theorem own'_split {T : Type} [Fintype T] [DecidableEq T] (r : T → Rect s) (hr : ∀ t a, (r t).stride a = 1)
    (hd : ∀ t t', t ≠ t' → Disjoint (r t).set (r t').set) (hcov : (Finset.univ : Finset T).biUnion (fun t => (r t).set) = Finset.univ) :
    (own' c M : sProp 𝕄) ⊢ bigSep Finset.univ fun t => own' c (M.slice (r t) (hr t)) := by
  unfold own'
  iintro ⟨%X, H⟩
  ihave H := (owns_rects (c : Thread nD τ) M fullShare r hr hd hcov X) $$ H
  have h : (bigSep Finset.univ fun t => (owns (c : Thread nD τ) (M.slice (r t) (hr t)) fullShare (fun j => X ((r t).emb j)) : sProp 𝕄))
      ⊢ bigSep Finset.univ fun t => iprop(∃ X, owns (c : Thread nD τ) (M.slice (r t) (hr t)) fullShare X) :=
    bigSep_mono fun t _ => own'_intro c _ _
  iapply h; iexact H

/-- And joined again. -/
theorem own'_join {T : Type} [Fintype T] [DecidableEq T] (r : T → Rect s) (hr : ∀ t a, (r t).stride a = 1)
    (hd : ∀ t t', t ≠ t' → Disjoint (r t).set (r t').set) (hcov : (Finset.univ : Finset T).biUnion (fun t => (r t).set) = Finset.univ) :
    (bigSep Finset.univ fun t => own' c (M.slice (r t) (hr t)) : sProp 𝕄) ⊢ own' c M := by
  have h : (bigSep Finset.univ fun t => own' c (M.slice (r t) (hr t)) : sProp 𝕄)
      ⊢ iprop(∃ Z : (t : T) → (r t).shape.Idx → Elt F e, bigSep Finset.univ fun t => owns (c : Thread nD τ) (M.slice (r t) (hr t)) fullShare (Z t)) :=
    bigSep_exists_pi Finset.univ fun t X => owns (c : Thread nD τ) (M.slice (r t) (hr t)) fullShare X
  iintro H
  ihave H := h $$ H
  icases H with ⟨%Z, H⟩
  unfold own'
  iexists (Rect.glue r hcov Z)
  have hg : (fun t => (fun j => Rect.glue r hcov Z ((r t).emb j) : (r t).shape.Idx → Elt F e)) = Z := funext fun t => funext fun y => Rect.glue_emb r hcov hd Z t y
  have h2 : (bigSep Finset.univ fun t => (owns (c : Thread nD τ) (M.slice (r t) (hr t)) fullShare ((fun t => (fun j => Rect.glue r hcov Z ((r t).emb j) : (r t).shape.Idx → Elt F e)) t) : sProp 𝕄)) ⊢ owns (c : Thread nD τ) M fullShare (Rect.glue r hcov Z) :=
    owns_of_rects (c : Thread nD τ) M fullShare r hr hd hcov (Rect.glue r hcov Z)
  rw [hg] at h2
  iapply h2
  iexact H

/-- The three shares of a block. -/
theorem share3 (X : s.Idx → Elt F e) : (owns (c : Thread nD τ) M fullShare X : sProp 𝕄)
    ⊢ iprop(owns (c : Thread nD τ) M fullShare.left X ∗ owns (c : Thread nD τ) M fullShare.right.left X ∗ owns (c : Thread nD τ) M fullShare.right.right X) := by
  iintro H
  ihave H := (owns_halves (c : Thread nD τ) M fullShare X).1 $$ H
  icases H with ⟨Hl, Hr⟩
  ihave Hr := (owns_halves (c : Thread nD τ) M fullShare.right X).1 $$ Hr
  icases Hr with ⟨H1, H2⟩
  isplitl [Hl]; · iexact Hl
  isplitl [H1]; · iexact H1
  iexact H2
theorem join3 (X : s.Idx → Elt F e) :
    iprop(owns (c : Thread nD τ) M fullShare.left X ∗ owns (c : Thread nD τ) M fullShare.right.left X ∗ owns (c : Thread nD τ) M fullShare.right.right X)
      ⊢ (owns (c : Thread nD τ) M fullShare X : sProp 𝕄) := by
  iintro ⟨Hl, H1, H2⟩
  iapply (owns_halves (c : Thread nD τ) M fullShare X).2
  isplitl [Hl]; · iexact Hl
  iapply (owns_halves (c : Thread nD τ) M fullShare.right X).2
  isplitl [H1]; · iexact H1
  iexact H2

end Any

/-! ## What the kernel computes -/

/-- A column block of the hidden activations. -/
abbrev hid (W : Vec F S2048x512 .bf16) (X : Vec F S64x2048 .bf16) : FVec F S64x512 .bf16 := k0_pay2 W X
/-- A column block of the partial product. -/
abbrev part (W : Vec F S4096x512 .bf16) (H : Vec F S64x4096 .bf16) : FVec F S64x512 .bf16 := shapeCast S64x512 (k0_pay4 W H) shapeCasts_S1x64x512_S64x512
theorem part_cast (W : Vec F S4096x512 .bf16) (H : Vec F S64x4096 .bf16) :
    shapeCast S1x64x512 (part W H) shapeCasts_S64x512_S1x64x512 = k0_pay4 W H := shapeCast_shapeCast _ _ _

theorem castR : S64x512.ShapeCasts S1x1x64x512 := by decide
/-- The sum of the four devices' blocks. -/
def sum4 (a b c d : FVec F S64x512 .bf16) : FVec F S64x512 .bf16 :=
  k0_pay3 (shapeCast S1x64x512 a shapeCasts_S64x512_S1x64x512) (shapeCast S1x1x64x512 b castR) (shapeCast S1x1x64x512 c castR) (shapeCast S1x1x64x512 d castR)

theorem k1_pay1_eq : @k1_pay1 F _ = @k0_pay2 F _ := by
  funext W X; unfold k1_pay1 k0_pay2; rw [shapeCast_self X]
theorem k2_pay1_eq : @k2_pay1 F _ = @k0_pay2 F _ := by
  funext W X; unfold k2_pay1 k0_pay2; rw [shapeCast_self X]

end Cert.KernelIdeal.Talk

end
-- ==== Proof.Blocks.lean ====
/- The exchange of a layer in combined steps: the barrier, sending a block, and waiting for a block and summing it. -/
module

public import proofs.«01_k».proof.Proof.Tiles

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]
local notation "𝕄" => MT nD τ sig Unit (Elt F) ℕ UU ℕ

variable (v : Vals F) (κ : GSem nD τ sig → ℕ) (c : Dev nD)

/-- One thing for each peer. -/
def three (f : Fin 3 → sProp 𝕄) : sProp 𝕄 := iprop(f 0 ∗ f 1 ∗ f 2)

theorem three_mono {f g : Fin 3 → sProp 𝕄} (h : ∀ k, f k ⊢ g k) : three f ⊢ three g := by
  unfold three
  iintro ⟨H0, H1, H2⟩
  isplitl [H0]; · iapply (h 0); iexact H0
  isplitl [H1]; · iapply (h 1); iexact H1
  iapply (h 2); iexact H2

/-! ## The semaphores, devices and offsets the program computes -/

abbrev sArr : Fin 2 → DmaSems sig S12 | 0 => cc0_scratch6 | 1 => cc1_scratch6
abbrev rArr : Fin 2 → DmaSems sig S12 | 0 => cc0_scratch7 | 1 => cc1_scratch7

theorem sArr_sem (p : Fin 2) (j : Fin 4) (k : Fin 3) {off : Fin 1 → ℕ} (h : off = ![3 * j.val + k.val]) {inb} :
    (((sArr p).slice (Rect.unit (s := S12) off S1.size inb)).squeeze S_ squeezes_S1_S_).sem = sS (some (p, j)) k := by
  subst h; revert p j k; decide
theorem rArr_sem (p : Fin 2) (j : Fin 4) (k : Fin 3) {off : Fin 1 → ℕ} (h : off = ![3 * j.val + k.val]) {inb} :
    (((rArr p).slice (Rect.unit (s := S12) off S1.size inb)).squeeze S_ squeezes_S1_S_).sem = rS (some (p, j)) k := by
  subst h; revert p j k; decide
theorem sArr2_sem (k : Fin 3) {off : Fin 1 → ℕ} (h : off = ![k.val]) {inb} :
    (((cc2_scratch8 : DmaSems sig S3).slice (Rect.unit (s := S3) off S1.size inb)).squeeze S_ squeezes_S1_S_).sem = sS none k := by
  subst h; revert k; decide
theorem rArr2_sem (k : Fin 3) {off : Fin 1 → ℕ} (h : off = ![k.val]) {inb} :
    (((cc2_scratch9 : DmaSems sig S3).slice (Rect.unit (s := S3) off S1.size inb)).squeeze S_ squeezes_S1_S_).sem = rS none k := by
  subst h; revert k; decide

theorem slice_congr {cs : CoreSpace} {s : Shape} {e : EltTy} (M : Memref sig .tc cs s e) {off off₀ size : Fin s.rank → ℕ} (h : off = off₀) {inb inb₀} {hr} {hr₀} :
    M.slice (Rect.unit (s := s) off size inb) hr = M.slice (Rect.unit (s := s) off₀ size inb₀) hr₀ := by subst h; rfl

/-! ## The barrier -/

/-- What a device brings to the barrier of call `p` besides its landing places. -/
def barTok (p : Fin 3) : sProp 𝕄 :=
  iprop(atPos ER (barC p c) 0 ∅ 0 ∗ cred (tallyAt (barC p c) () 3) ∗ three fun k => dutyTok ER (barC p (peer k c)) 0 k)
/-- The own landing places of copy `k`, each with its receive cell at round 0. -/
def lands (p k : Fin 3) : sProp 𝕄 := bigSep (rowsOf p) fun r => iprop(landAny r k c ∗ reached ER (recvC r k c) 0)

theorem barrier3 {α : Type} (kk : PUnit.{1} → Prog (TpuEff nD τ sig (Elt F) Λ₀ .tc) α) (Q : α → sProp 𝕄) (p : Fin 3) (X : CellTallies nD τ sig Unit)
    {d0 d1 d2 : Thread nD τ} {s : Sem sig} (h0 : d0 = (peer 0 c : Thread nD τ)) (h1 : d1 = (peer 1 c : Thread nD τ)) (h2 : d2 = (peer 2 c : Thread nD τ)) (hs : s = bS p)
    (hX : Above (2 * p.val + 1) X) {n0 n1 n2 n3 : ℤ} (hn0 : n0 = 1) (hn1 : n1 = 1) (hn2 : n2 = 1) (hn3 : n3 = 3) :
    iprop(records v κ ∗ levAts L lv ∗ ow c (addBar p c X) ∗ barTok c p ∗ three (lands c p)
        ∗ ((ow c X ∗ semVal (barC p c) 0 ∗ three fun k => barPay p k c) -∗ WP c (kk ⟨⟩) Q))
      ⊢ WP c (.op (.semSignal d0 s n0) fun _ => .op (.semSignal d1 s n1) fun _ => .op (.semSignal d2 s n2) fun _ => .op (.semWait s n3) kk) Q := by
  subst hn0 hn1 hn2 hn3
  unfold barTok three lands addBar
  iintro ⟨#HR, #HL, HO, ⟨Hat, Hcr, Ht0, Ht1, Ht2⟩, ⟨Hl0, Hl1, Hl2⟩, Hk⟩
  iapply (signal_step v κ c _ Q p 0 _ h0 hs)
  isplitr; · iexact HR
  isplitl [HO]; · iexact HO
  isplitl [Ht0]; · iexact Ht0
  isplitl [Hl0]; · iexact Hl0
  iintro HO
  iapply (signal_step v κ c _ Q p 1 _ h1 hs)
  isplitr; · iexact HR
  isplitl [HO]; · iexact HO
  isplitl [Ht1]; · iexact Ht1
  isplitl [Hl1]; · iexact Hl1
  iintro HO
  iapply (signal_step v κ c _ Q p 2 _ h2 hs)
  isplitr; · iexact HR
  isplitl [HO]; · iexact HO
  isplitl [Ht2]; · iexact Ht2
  isplitl [Hl2]; · iexact Hl2
  iintro HO
  iapply (barrier_step v κ c kk Q p X hs hX)
  isplitr; · iexact HR
  isplitr; · iexact HL
  isplitl [HO]; · iexact HO
  isplitl [Hat]; · iexact Hat
  isplitl [Hcr]; · iexact Hcr
  iintro ⟨HO, Hs, H0, H1, H2⟩
  iapply Hk
  isplitl [HO]; · iexact HO
  isplitl [Hs]; · iexact Hs
  isplitl [H0]; · iexact H0
  isplitl [H1]; · iexact H1
  iexact H2

/-! ## Sending a row -/

/-- The sources of a row's copies, as the copies read them. -/
def srcs (r : Row) : sProp 𝕄 := three fun k => owns (c : Thread nD τ) (src r k c) (shr r k) (val v r k c)
/-- The landing places of a row with what the peers sent. -/
def landed (r : Row) : sProp 𝕄 := three fun k => owns (c : Thread nD τ) (dst r k) fullShare (val v r k (peer k c))
/-- A row's counters at zero. -/
def zeros (r : Row) : sProp 𝕄 := three fun k => iprop(semVal (sendC r k c) 0 ∗ semVal (recvC r k c) 0)
def toks (r : Row) : sProp 𝕄 := three fun k => tok r k c
def landsAt (r : Row) : sProp 𝕄 := three fun k => land r k c
def flies (r : Row) : sProp 𝕄 := three fun k => fly r k c

theorem send3 {α : Type} (kk : PUnit.{1} → Prog (TpuEff nD τ sig (Elt F) Λ₀ .tc) α) (Q : α → sProp 𝕄) (r : Row) (X : CellTallies nD τ sig Unit)
    {d0 d1 d2 : Thread nD τ} {S0 S1 S2 : Memref sig .tc .vmem (rsh r) .bf16} {a0 a1 a2 b0 b1 b2 : DmaSem sig}
    {D0 : Memref sig d0.2.kind .vmem (rsh r) .bf16} {D1 : Memref sig d1.2.kind .vmem (rsh r) .bf16} {D2 : Memref sig d2.2.kind .vmem (rsh r) .bf16}
    (hS0 : S0 = src r 0 c) (hS1 : S1 = src r 1 c) (hS2 : S2 = src r 2 c)
    (h0 : d0 = (peer 0 c : Thread nD τ)) (h1 : d1 = (peer 1 c : Thread nD τ)) (h2 : d2 = (peer 2 c : Thread nD τ))
    (ha0 : a0 = sS r 0) (ha1 : a1 = sS r 1) (ha2 : a2 = sS r 2) (hb0 : b0 = rS r 0) (hb1 : b1 = rS r 1) (hb2 : b2 = rS r 2)
    (hD0 : HEq D0 (dst r 0)) (hD1 : HEq D1 (dst r 1)) (hD2 : HEq D2 (dst r 2))
    {hsc0 : D0.view.ref.isScScratch = false} {hsc1 : D1.view.ref.isScScratch = false} {hsc2 : D2.view.ref.isScScratch = false}
    {hw0 : S0.view.WordExact} {hw1 : S1.view.WordExact} {hw2 : S2.view.WordExact} {hx0 : D0.view.WordExact} {hx1 : D1.view.WordExact} {hx2 : D2.view.WordExact}
    {hty0 : DmaTarget.Typed .vmem (.dma b0) (.remote d0 D0 (.dma a0) hsc0)} {hty1 : DmaTarget.Typed .vmem (.dma b1) (.remote d1 D1 (.dma a1) hsc1)} {hty2 : DmaTarget.Typed .vmem (.dma b2) (.remote d2 D2 (.dma a2) hsc2)} :
    iprop(records v κ ∗ ow c (addRow r c X) ∗ srcs v c r ∗ toks c r ∗ landsAt c r ∗ ((ow c X ∗ flies c r) -∗ WP c (kk ⟨⟩) Q))
      ⊢ WP c (.op (.enqueueDma S0 (.remote d0 D0 (.dma a0) hsc0) (.dma b0) hw0 hx0 hty0) fun _ =>
          .op (.enqueueDma S1 (.remote d1 D1 (.dma a1) hsc1) (.dma b1) hw1 hx1 hty1) fun _ =>
          .op (.enqueueDma S2 (.remote d2 D2 (.dma a2) hsc2) (.dma b2) hw2 hx2 hty2) kk) Q := by
  unfold srcs toks landsAt flies three addRow
  iintro ⟨#HR, HO, ⟨Hs0, Hs1, Hs2⟩, ⟨Ht0, Ht1, Ht2⟩, ⟨Hl0, Hl1, Hl2⟩, Hk⟩
  iapply (send_step v κ c _ Q r 0 _ hS0 h0 ha0 hb0 hD0)
  isplitr; · iexact HR
  isplitl [HO]; · iexact HO
  isplitl [Hs0]; · iexact Hs0
  isplitl [Ht0]; · iexact Ht0
  isplitl [Hl0]; · iexact Hl0
  iintro ⟨HO, Hf0⟩
  iapply (send_step v κ c _ Q r 1 _ hS1 h1 ha1 hb1 hD1)
  isplitr; · iexact HR
  isplitl [HO]; · iexact HO
  isplitl [Hs1]; · iexact Hs1
  isplitl [Ht1]; · iexact Ht1
  isplitl [Hl1]; · iexact Hl1
  iintro ⟨HO, Hf1⟩
  iapply (send_step v κ c kk Q r 2 X hS2 h2 ha2 hb2 hD2)
  isplitr; · iexact HR
  isplitl [HO]; · iexact HO
  isplitl [Hs2]; · iexact Hs2
  isplitl [Ht2]; · iexact Ht2
  isplitl [Hl2]; · iexact Hl2
  iintro ⟨HO, Hf2⟩
  iapply Hk
  isplitl [HO]; · iexact HO
  isplitl [Hf0]; · iexact Hf0
  isplitl [Hf1]; · iexact Hf1
  iexact Hf2

/-! ## Waiting for a row -/

theorem wait2 {α : Type} (kk : PUnit.{1} → Prog (TpuEff nD τ sig (Elt F) Λ₀ .tc) α) (Q : α → sProp 𝕄) (r : Row) (k : Fin 3) (X : CellTallies nD τ sig Unit)
    {sp₁ sp₂ sp₃ sp₄ : Space} {S : Memref sig .tc sp₁ (rsh r) .bf16} {D : Memref sig .tc sp₂ (rsh r) .bf16} {S' : Memref sig .tc sp₃ (rsh r) .bf16} {D' : Memref sig .tc sp₄ (rsh r) .bf16}
    {s s' : DmaSem sig} (hs : s = sS r k) (hs' : s' = rS r k) (hD : D.view.dmaCredit = amt r) (hD' : D'.view.dmaCredit = amt r) (hX : Above (lv (recvC r k c) ()) X)
    {h1 : S.view.WordExact} {h2 : D.view.WordExact} {h3 : S'.view.WordExact} {h4 : D'.view.WordExact} :
    iprop(records v κ ∗ levAts L lv ∗ ow c X ∗ fly r k c
        ∗ ((ow c X ∗ (semVal (sendC r k c) 0 ∗ semVal (recvC r k c) 0) ∗ owns (c : Thread nD τ) (src r k c) (shr r k) (val v r k c)
            ∗ owns (c : Thread nD τ) (dst r k) fullShare (val v r k (peer k c))) -∗ WP c (kk ⟨⟩) Q))
      ⊢ WP c (.op (.waitDma2 s S D h1 h2) fun _ => .op (.waitDma2 s' S' D' h3 h4) kk) Q := by
  unfold fly
  iintro ⟨#HR, #HL, HO, ⟨Hf, Hf'⟩, Hk⟩
  iapply (wait_send_step v κ c _ Q r k X hs hD (above_mono (Nat.zero_le _) hX))
  isplitr; · iexact HR
  isplitr; · iexact HL
  isplitl [HO]; · iexact HO
  isplitl [Hf]; · iexact Hf
  iintro ⟨HO, Hz, Hs⟩
  iapply (wait_recv_step v κ c kk Q r k X hs' hD' hX)
  isplitr; · iexact HR
  isplitr; · iexact HL
  isplitl [HO]; · iexact HO
  isplitl [Hf']; · iexact Hf'
  iintro ⟨HO, Hz', Hd⟩
  iapply Hk
  isplitl [HO]; · iexact HO
  isplitl [Hz Hz']
  · isplitl [Hz]; · iexact Hz
    iexact Hz'
  isplitl [Hs]; · iexact Hs
  iexact Hd

theorem wait6 {α : Type} (kk : PUnit.{1} → Prog (TpuEff nD τ sig (Elt F) Λ₀ .tc) α) (Q : α → sProp 𝕄) (r : Row) (X : CellTallies nD τ sig Unit)
    {S0 D0 S0' D0' S1 D1 S1' D1' S2 D2 S2' D2' : Memref sig .tc .vmem (rsh r) .bf16} {a0 a1 a2 b0 b1 b2 : DmaSem sig}
    (ha0 : a0 = sS r 0) (hb0 : b0 = rS r 0) (ha1 : a1 = sS r 1) (hb1 : b1 = rS r 1) (ha2 : a2 = sS r 2) (hb2 : b2 = rS r 2)
    (hD0 : D0.view.dmaCredit = amt r) (hD0' : D0'.view.dmaCredit = amt r) (hD1 : D1.view.dmaCredit = amt r) (hD1' : D1'.view.dmaCredit = amt r)
    (hD2 : D2.view.dmaCredit = amt r) (hD2' : D2'.view.dmaCredit = amt r) (hX : ∀ k, Above (lv (recvC r k c) ()) X)
    {g0 : S0.view.WordExact} {h0 : D0.view.WordExact} {g0' : S0'.view.WordExact} {h0' : D0'.view.WordExact}
    {g1 : S1.view.WordExact} {h1 : D1.view.WordExact} {g1' : S1'.view.WordExact} {h1' : D1'.view.WordExact}
    {g2 : S2.view.WordExact} {h2 : D2.view.WordExact} {g2' : S2'.view.WordExact} {h2' : D2'.view.WordExact} :
    iprop(records v κ ∗ levAts L lv ∗ ow c X ∗ flies c r
        ∗ ((ow c X ∗ zeros c r ∗ srcs v c r ∗ landed v c r) -∗ WP c (kk ⟨⟩) Q))
      ⊢ WP c (.op (.waitDma2 a0 S0 D0 g0 h0) fun _ => .op (.waitDma2 b0 S0' D0' g0' h0') fun _ =>
          .op (.waitDma2 a1 S1 D1 g1 h1) fun _ => .op (.waitDma2 b1 S1' D1' g1' h1') fun _ =>
          .op (.waitDma2 a2 S2 D2 g2 h2) fun _ => .op (.waitDma2 b2 S2' D2' g2' h2') kk) Q := by
  unfold flies zeros srcs landed three
  iintro ⟨#HR, #HL, HO, ⟨Hf0, Hf1, Hf2⟩, Hk⟩
  iapply (wait2 v κ c _ Q r 0 X ha0 hb0 hD0 hD0' (hX 0))
  isplitr; · iexact HR
  isplitr; · iexact HL
  isplitl [HO]; · iexact HO
  isplitl [Hf0]; · iexact Hf0
  iintro ⟨HO, Hz0, Hs0, Hd0⟩
  iapply (wait2 v κ c _ Q r 1 X ha1 hb1 hD1 hD1' (hX 1))
  isplitr; · iexact HR
  isplitr; · iexact HL
  isplitl [HO]; · iexact HO
  isplitl [Hf1]; · iexact Hf1
  iintro ⟨HO, Hz1, Hs1, Hd1⟩
  iapply (wait2 v κ c _ Q r 2 X ha2 hb2 hD2 hD2' (hX 2))
  isplitr; · iexact HR
  isplitr; · iexact HL
  isplitl [HO]; · iexact HO
  isplitl [Hf2]; · iexact Hf2
  iintro ⟨HO, Hz2, Hs2, Hd2⟩
  iapply Hk
  isplitl [HO]; · iexact HO
  isplitl [Hz0 Hz1 Hz2]
  · isplitl [Hz0]; · iexact Hz0
    isplitl [Hz1]; · iexact Hz1
    iexact Hz2
  isplitl [Hs0 Hs1 Hs2]
  · isplitl [Hs0]; · iexact Hs0
    isplitl [Hs1]; · iexact Hs1
    iexact Hs2
  isplitl [Hd0]; · iexact Hd0
  isplitl [Hd1]; · iexact Hd1
  iexact Hd2

/-! ## A block's buffers between copies and loads -/

/-- Block `j` of call `p`'s partial products; landing place `k` of the block. -/
abbrev pS (p : Fin 2) (j : Fin 4) : Memref sig .tc .vmem S1x64x512 .bf16 := (pbufM p).slice (pR j) (fun _ => rfl)
abbrev rSl (p : Fin 2) (j : Fin 4) (k : Fin 3) : Memref sig .tc .vmem S1x1x64x512 .bf16 := (rbufM p).slice (rR j k) (fun _ => rfl)

theorem castP : S1x64x512.ShapeCasts S64x512 := shapeCasts_S1x64x512_S64x512
theorem castQ : S1x1x64x512.ShapeCasts S64x512 := shapeCasts_S1x1x64x512_S64x512

/-- A stored block, as its three copies read it. -/
theorem srcs_of_block (p : Fin 2) (j : Fin 4) {W : Vec F S4096x512 .bf16} {H : Vec F S64x4096 .bf16} (hv : v.blk c p j = part W H) :
    (owns (c : Thread nD τ) (pS p j) fullShare (k0_pay4 W H) : sProp 𝕄) ⊢ srcs v c (some (p, j)) := by
  unfold srcs three
  rw [← owns_squeeze c (pS p j) squeezes_S1x64x512_S64x512 castP]
  rw [show shapeCast S64x512 (k0_pay4 W H) castP = v.blk c p j from hv.symm]
  exact share3 c _ _

theorem block_of_srcs (p : Fin 2) (j : Fin 4) :
    (srcs v c (some (p, j)) : sProp 𝕄) ⊢ owns (c : Thread nD τ) (pS p j) fullShare (shapeCast S1x64x512 (v.blk c p j) shapeCasts_S64x512_S1x64x512) := by
  unfold srcs three
  rw [← owns_unsqueeze c (pS p j) squeezes_S1x64x512_S64x512 castP]
  exact join3 c _ _

theorem slots_of_landed (p : Fin 2) (j : Fin 4) :
    (landed v c (some (p, j)) : sProp 𝕄) ⊢ iprop(owns (c : Thread nD τ) (rSl p j 0) fullShare (shapeCast S1x1x64x512 (v.blk (peer 0 c) p j) castR)
      ∗ owns (c : Thread nD τ) (rSl p j 1) fullShare (shapeCast S1x1x64x512 (v.blk (peer 1 c) p j) castR)
      ∗ owns (c : Thread nD τ) (rSl p j 2) fullShare (shapeCast S1x1x64x512 (v.blk (peer 2 c) p j) castR)) := by
  show _ ⊢ three fun k => owns (c : Thread nD τ) (rSl p j k) fullShare (shapeCast S1x1x64x512 (v.blk (peer k c) p j) castR)
  refine three_mono fun k => ?_
  exact Entails.of_eq (owns_unsqueeze c (rSl p j k) squeezes_S1x1x64x512_S64x512 castQ castR fullShare _)

/-- A row's resources after its waits: the counters at zero and the buffers, at contents not chosen. -/
def rowEnd (p : Fin 2) (j : Fin 4) : sProp 𝕄 :=
  iprop(zeros c (some (p, j)) ∗ own' c (pS p j) ∗ three fun k => own' c (rSl p j k))

/-- Column block `j` of call `p`'s result on a device. -/
def res (p : Fin 2) (j : Fin 4) : FVec F S64x512 .bf16 := sum4 (v.blk c p j) (v.blk (peer 0 c) p j) (v.blk (peer 1 c) p j) (v.blk (peer 2 c) p j)

/-- A row's four blocks loaded, and their sum stored. -/
theorem sum_step {α : Type} (kk : PUnit.{1} → Prog (TpuEff nD τ sig (Elt F) Λ₀ .tc) α) (Q : α → sProp 𝕄) (p : Fin 2) (j : Fin 4)
    (M : Memref sig .tc .vmem S64x2048 .bf16) (O : Vec F S64x2048 .bf16)
    {o7 : Fin 3 → ℕ} {o90 o91 o92 : Fin 4 → ℕ} {o4 o4' : Fin 2 → ℕ} (h7 : o7 = ![j.val, 0, 0]) (h90 : o90 = ![j.val, (0 : Fin 3).val, 0, 0]) (h91 : o91 = ![j.val, (1 : Fin 3).val, 0, 0]) (h92 : o92 = ![j.val, (2 : Fin 3).val, 0, 0])
    (h4 : o4 = ![0, 512 * j.val]) {i7 i90 i91 i92 i4 i4'} {l7 l90 l91 l92 l4 hx hm} :
    iprop(zeros c (some (p, j)) ∗ srcs v c (some (p, j)) ∗ landed v c (some (p, j)) ∗ owns (c : Thread nD τ) M fullShare O
        ∗ ((rowEnd c p j ∗ owns (c : Thread nD τ) M fullShare ((cR j).overlay O (res v c p j))) -∗ WP c (kk ⟨⟩) Q))
      ⊢ WP c (.op (.load (pbufM p) (Rect.unit (s := S4x64x512) o7 S1x64x512.size i7).toLoadRect l7) fun a =>
          .op (.load (rbufM p) (Rect.unit (s := S4x3x64x512) o90 S1x1x64x512.size i90).toLoadRect l90) fun b0 =>
          .op (.load (rbufM p) (Rect.unit (s := S4x3x64x512) o91 S1x1x64x512.size i91).toLoadRect l91) fun b1 =>
          .op (.load (rbufM p) (Rect.unit (s := S4x3x64x512) o92 S1x1x64x512.size i92).toLoadRect l92) fun b2 =>
          .op (.load M (Rect.unit (s := S64x2048) o4' S64x512.size i4').toLoadRect l4) fun _ =>
          .op (.store M (Rect.unit (s := S64x2048) o4 S64x512.size i4) (k0_pay3 a b0 b1 b2) Finset.univ hx hm) kk) Q := by
  unfold rowEnd
  iintro ⟨Hz, Hs, Hd, HM, Hk⟩
  ihave Hs := (block_of_srcs v c p j) $$ Hs
  ihave Hd := (slots_of_landed v c p j) $$ Hd
  unfold three
  icases Hd with ⟨Hd0, Hd1, Hd2⟩
  iapply (load_slot c (pbufM p) h7 fullShare _) $$ Hs
  iintro Hs
  iapply (load_slot c (rbufM p) h90 fullShare _) $$ Hd0
  iintro Hd0
  iapply (load_slot c (rbufM p) h91 fullShare _) $$ Hd1
  iintro Hd1
  iapply (load_slot c (rbufM p) h92 fullShare _) $$ Hd2
  iintro Hd2
  iapply (load_own c M _ fullShare O) $$ HM
  iintro HM
  iapply (store_at c M h4 (inb₀ := inb_c j) _ O) $$ HM
  iintro HM
  iapply Hk
  isplitr [HM]
  · isplitl [Hz]; · iexact Hz
    isplitl [Hs]; · iapply (own'_intro c _ _); iexact Hs
    isplitl [Hd0]; · iapply (own'_intro c _ _); iexact Hd0
    isplitl [Hd1]; · iapply (own'_intro c _ _); iexact Hd1
    iapply (own'_intro c _ _); iexact Hd2
  iexact HM

end Cert.KernelIdeal.Talk

end
-- ==== Proof.Body01.lean ====
/- The body of calls 0 and 1 at each grid point. -/
module

public import proofs.«01_k».proof.Proof.Blocks

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]
local notation "𝕄" => MT nD τ sig Unit (Elt F) ℕ UU ℕ

/-! ## What the program computes from the grid point and the device -/

theorem cond1_pos (t : Fin grid0.N) (h : t.val = 0) : k0_cond1 (grid0.coords t) = 1#1 := by revert t; decide
theorem cond1_neg (t : Fin grid0.N) (h : 0 < t.val) : ¬ k0_cond1 (grid0.coords t) = 1#1 := by revert t; decide
theorem cond2_pos (t : Fin grid0.N) (h : t.val < 8) : k0_cond2 (grid0.coords t) = 1#1 := by revert t; decide
theorem cond2_neg (t : Fin grid0.N) (h : 8 ≤ t.val) : ¬ k0_cond2 (grid0.coords t) = 1#1 := by revert t; decide
theorem cond3_pos (t : Fin grid0.N) (h : 8 ≤ t.val) : k0_cond3 (grid0.coords t) = 1#1 := by revert t; decide
theorem cond3_neg (t : Fin grid0.N) (h : t.val < 8) : ¬ k0_cond3 (grid0.coords t) = 1#1 := by revert t; decide
theorem cond4_pos (t : Fin grid0.N) (h : t.val = 11) : k0_cond4 (grid0.coords t) = 1#1 := by revert t; decide
theorem cond4_neg (t : Fin grid0.N) (h : t.val < 11) : ¬ k0_cond4 (grid0.coords t) = 1#1 := by revert t; decide

theorem off1_at (t : Fin grid0.N) : k0_off1 (grid0.coords t) = ![0, 512 * t.val] := by revert t; decide
theorem off2_at (t : Fin grid0.N) (j : Fin 4) (h : t.val = 8 + j.val) : k0_off2 (grid0.coords t) = ![j.val, 0, 0] := by revert t j; decide
theorem off3_at (t : Fin grid0.N) (j : Fin 4) (h : t.val = 8 + j.val) (k : Fin 3) : k0_off3 (grid0.coords t) (BitVec.ofNat 32 k.val) = ![3 * j.val + k.val] := by
  revert t j k; decide
theorem off4_at (t : Fin grid0.N) (j : Fin 4) (h : t.val = 8 + j.val) : k0_off4 (grid0.coords t) = ![j.val, 0, 0, 0] := by revert t j; decide
theorem off5_at (t : Fin grid0.N) (j : Fin 4) (h : t.val = 8 + j.val) : k0_off5 (grid0.coords t) = ![j.val, 0, 0] := by revert t j; decide
theorem off6_at (t : Fin grid0.N) (j : Fin 4) (h : t.val = 8 + j.val) : k0_off6 (grid0.coords t) = ![j.val, 1, 0, 0] := by revert t j; decide
theorem off7_at (t : Fin grid0.N) (j : Fin 4) (h : t.val = 8 + j.val) : k0_off7 (grid0.coords t) = ![j.val, 2, 0, 0] := by revert t j; decide

theorem dev1_eq (c : Dev nD) : k0_dev1 c = (peer 0 c).val := by revert c; decide
theorem dev2_eq (c : Dev nD) : k0_dev2 c = (peer 1 c).val := by revert c; decide
theorem dev3_eq (c : Dev nD) : k0_dev3 c = (peer 2 c).val := by revert c; decide
theorem dev4_eq (c : Dev nD) : k0_dev4 c = (peer 0 c).val := by revert c; decide
theorem dev5_eq (c : Dev nD) : k0_dev5 c = (peer 1 c).val := by revert c; decide
theorem dev6_eq (c : Dev nD) : k0_dev6 c = (peer 2 c).val := by revert c; decide

theorem dev_eq {n : ℕ} {k : Fin 3} {c : Dev nD} (h : n = (peer k c).val) {hn : n < nD} : ((⟨n, hn⟩ : Dev nD) : Thread nD τ) = (peer k c : Thread nD τ) := by
  subst h; rfl

section Points

variable (v : Vals F) (κ : GSem nD τ sig → ℕ) (c : Dev nD) (t : Fin grid0.N)
  (arg1 : Memref sig .tc .vmem S64x2048 .bf16) (harg1 : arg1.IsWhole) (arg2 : Memref sig .tc .vmem S2048x512 .bf16) (harg2 : arg2.IsWhole)
  (arg3 : Memref sig .tc .vmem S4096x512 .bf16) (harg3 : arg3.IsWhole) (arg4 : Memref sig .tc .vmem S64x2048 .bf16) (harg4 : arg4.IsWhole)
  (arg5 : Memref sig .tc .vmem S64x2048 .bf16) (harg5 : arg5.IsWhole) (arg6 : Memref sig .tc .vmem S64x4096 .bf16) (harg6 : arg6.IsWhole)

/-- A product with a column block of the first weight. -/
theorem bodyB (arg7 : Memref sig .tc .vmem S4x64x512 .bf16) (harg7 : arg7.IsWhole) (arg8 : Memref sig .tc .vmem S64x2048 .bf16) (harg8 : arg8.IsWhole)
    (arg9 : Memref sig .tc .vmem S4x3x64x512 .bf16) (harg9 : arg9.IsWhole) (arg10 : Memref sig .tc .vmem S3x16x2048 .bf16) (harg10 : arg10.IsWhole) (arg11 arg12 : DmaSems sig S12) (arg13 arg14 : DmaSems sig S3)
    (h0 : 0 < t.val) (t8 : Fin 8) (h8 : t.val = t8.val)
    (W : Vec F S2048x512 .bf16) (X : Vec F S64x2048 .bf16) (H : Vec F S64x4096 .bf16) (Q : PUnit.{1} → sProp 𝕄) :
   iprop(owns (c : Thread nD τ) arg2 fullShare W ∗ owns (c : Thread nD τ) arg5 fullShare X ∗ owns (c : Thread nD τ) arg6 fullShare H
     ∗ ((owns (c : Thread nD τ) arg2 fullShare W ∗ owns (c : Thread nD τ) arg5 fullShare X ∗ owns (c : Thread nD τ) arg6 fullShare ((hR t8).overlay H (hid W X))) -∗ Q ⟨⟩))
    ⊢ WP c (cc0__layer_body (F := F) (grid0.coords t) arg1 harg1 arg2 harg2 arg3 harg3 arg4 harg4 arg5 harg5 arg6 harg6 arg7 harg7 arg8 harg8 arg9 harg9 arg10 harg10 arg11 arg12 arg13 arg14) Q := by
  have hl : t.val < 8 := h8 ▸ t8.isLt
  have hoff : k0_off1 (grid0.coords t) = ![0, 512 * t8.val] := h8 ▸ off1_at t
  rw [cc0__layer_body_eq_skeleton]
  unfold cc0__layer_body_skel
  simp only [Prog.bind_lift, bind_assoc, pure_bind, Prog.pure_eq_ret, Prog.bind_ret, wp_deviceId, dif_neg (cond1_neg t h0), dif_pos (cond2_pos t hl), dif_neg (cond3_neg t hl), dif_neg (cond4_neg t (by omega))]
  iintro ⟨H2, H5, H6, Hk⟩
  iapply (load_all c arg2 fullShare W) $$ H2
  iintro H2
  iapply (load_all c arg5 fullShare X) $$ H5
  iintro H5
  iapply (load_own c arg6 _ fullShare H) $$ H6
  iintro H6
  iapply (store_at c arg6 hoff (inb₀ := inb_h t8) _ H) $$ H6
  iintro H6
  iapply (ret_step c)
  iapply Hk
  isplitl [H2]; · iexact H2
  isplitl [H5]; · iexact H5
  iexact H6

/-- The first point of call 0: the barrier, the copy of the activations, the first product. -/
theorem bodyA0 (arg7 : Memref sig .tc .vmem S4x64x512 .bf16) (harg7 : arg7.IsWhole) (arg8 : Memref sig .tc .vmem S64x2048 .bf16) (harg8 : arg8.IsWhole)
    (arg9 : Memref sig .tc .vmem S4x3x64x512 .bf16) (harg9 : arg9.IsWhole) (arg10 : Memref sig .tc .vmem S3x16x2048 .bf16) (harg10 : arg10.IsWhole) (arg11 arg12 : DmaSems sig S12) (arg13 arg14 : DmaSems sig S3)
    (h0 : t.val = 0) (Y : CellTallies nD τ sig Unit) (hY : Above 1 Y)
    (A X : Vec F S64x2048 .bf16) (W : Vec F S2048x512 .bf16) (H : Vec F S64x4096 .bf16) (Q : PUnit.{1} → sProp 𝕄) :
   iprop(records v κ ∗ levAts L lv ∗ ow c (addBar 0 c Y) ∗ barTok c 0 ∗ three (lands c 0)
     ∗ owns (c : Thread nD τ) arg1 fullShare A ∗ owns (c : Thread nD τ) arg2 fullShare W ∗ owns (c : Thread nD τ) arg5 fullShare X ∗ owns (c : Thread nD τ) arg6 fullShare H
     ∗ (((ow c Y ∗ semVal (barC 0 c) 0 ∗ three fun k => barPay 0 k c) ∗ owns (c : Thread nD τ) arg1 fullShare A ∗ owns (c : Thread nD τ) arg2 fullShare W ∗ owns (c : Thread nD τ) arg5 fullShare (k0_pay1 A)
          ∗ owns (c : Thread nD τ) arg6 fullShare ((hR 0).overlay H (hid W (k0_pay1 A)))) -∗ Q ⟨⟩))
    ⊢ WP c (cc0__layer_body (F := F) (grid0.coords t) arg1 harg1 arg2 harg2 arg3 harg3 arg4 harg4 arg5 harg5 arg6 harg6 arg7 harg7 arg8 harg8 arg9 harg9 arg10 harg10 arg11 arg12 arg13 arg14) Q := by
  have hl : t.val < 8 := by omega
  have hoff : k0_off1 (grid0.coords t) = ![0, 512 * (0 : Fin 8).val] := (off1_at t).trans (by rw [h0]; rfl)
  rw [cc0__layer_body_eq_skeleton]
  unfold cc0__layer_body_skel
  simp only [semSignalWord, semWaitWord, Prog.bind_lift, Prog.bind_op, bind_assoc, pure_bind, Prog.pure_eq_ret, Prog.bind_ret, wp_deviceId, dif_pos (cond1_pos t h0), dif_pos (cond2_pos t hl), dif_neg (cond3_neg t hl), dif_neg (cond4_neg t (by omega))]
  iintro ⟨#HR, #HL, HO, Hb, Hl, H1, H2, H5, H6, Hk⟩
  iapply (barrier3 v κ c _ Q 0 Y (dev_eq (dev1_eq c)) (dev_eq (dev2_eq c)) (dev_eq (dev3_eq c)) rfl hY rfl rfl rfl rfl)
  isplitr; · iexact HR
  isplitr; · iexact HL
  isplitl [HO]; · iexact HO
  isplitl [Hb]; · iexact Hb
  isplitl [Hl]; · iexact Hl
  iintro Hbar
  iapply (load_all c arg1 fullShare A) $$ H1
  iintro H1
  iapply (load_all c arg5 fullShare X) $$ H5
  iintro H5
  iapply (store_all c arg5 _ X) $$ H5
  iintro H5
  iapply (load_all c arg2 fullShare W) $$ H2
  iintro H2
  iapply (load_all c arg5 fullShare (k0_pay1 A)) $$ H5
  iintro H5
  iapply (load_own c arg6 _ fullShare H) $$ H6
  iintro H6
  iapply (store_at c arg6 hoff (inb₀ := inb_h 0) _ H) $$ H6
  iintro H6
  iapply (ret_step c)
  iapply Hk
  isplitl [Hbar]; · iexact Hbar
  isplitl [H1]; · iexact H1
  isplitl [H2]; · iexact H2
  isplitl [H5]; · iexact H5
  iexact H6

/-- A product with a column block of the second weight, stored and sent. -/
theorem bodyC (p : Fin 2) (j : Fin 4) (harg7 : (pbufM p).IsWhole) (arg8 : Memref sig .tc .vmem S64x2048 .bf16) (harg8 : arg8.IsWhole)
    (harg9 : (rbufM p).IsWhole) (arg10 : Memref sig .tc .vmem S3x16x2048 .bf16) (harg10 : arg10.IsWhole) (arg13 arg14 : DmaSems sig S3)
    (ht : t.val = 8 + j.val) (hj : j.val < 3) (Y : CellTallies nD τ sig Unit)
    (W : Vec F S4096x512 .bf16) (H : Vec F S64x4096 .bf16) (hv : v.blk c p j = part W H) (Q : PUnit.{1} → sProp 𝕄) :
   iprop(records v κ ∗ ow c (addRow (some (p, j)) c Y) ∗ own' c (pS p j) ∗ toks c (some (p, j)) ∗ landsAt c (some (p, j))
     ∗ owns (c : Thread nD τ) arg3 fullShare W ∗ owns (c : Thread nD τ) arg6 fullShare H
     ∗ ((ow c Y ∗ flies c (some (p, j)) ∗ owns (c : Thread nD τ) arg3 fullShare W ∗ owns (c : Thread nD τ) arg6 fullShare H) -∗ Q ⟨⟩))
    ⊢ WP c (cc0__layer_body (F := F) (grid0.coords t) arg1 harg1 arg2 harg2 arg3 harg3 arg4 harg4 arg5 harg5 arg6 harg6 (pbufM p) harg7 arg8 harg8 (rbufM p) harg9 arg10 harg10 (sArr p) (rArr p) arg13 arg14) Q := by
  rw [cc0__layer_body_eq_skeleton]
  unfold cc0__layer_body_skel
  simp only [k0_part1_eq_skeleton, k0_part1_skel, Prog.bind_lift, Prog.bind_op, bind_assoc, pure_bind, Prog.pure_eq_ret, Prog.bind_ret, wp_deviceId, dif_neg (cond1_neg t (by omega)), dif_neg (cond2_neg t (by omega)), dif_pos (cond3_pos t (by omega)), dif_neg (cond4_neg t (by omega))]
  unfold own'
  iintro ⟨#HR, HO, ⟨%P, HP⟩, Ht, Hl, H3, H6, Hk⟩
  iapply (load_all c arg3 fullShare W) $$ H3
  iintro H3
  iapply (load_all c arg6 fullShare H) $$ H6
  iintro H6
  iapply (load_slot c (pbufM p) (off2_at t j ht) fullShare P) $$ HP
  iintro HP
  iapply (store_slot c (pbufM p) (off2_at t j ht) _ P) $$ HP
  iintro HP
  ihave HS := (srcs_of_block v c p j hv) $$ HP
  iapply (send3 v κ c _ Q (some (p, j)) Y (congrArg (Memref.squeeze · _ _) (slice_congr (pbufM p) (off5_at t j ht))) (congrArg (Memref.squeeze · _ _) (slice_congr (pbufM p) (off5_at t j ht)))
    (congrArg (Memref.squeeze · _ _) (slice_congr (pbufM p) (off5_at t j ht))) (dev_eq (dev4_eq c)) (dev_eq (dev5_eq c)) (dev_eq (dev6_eq c))
    (sArr_sem p j 0 (off3_at t j ht 0)) (sArr_sem p j 1 (off3_at t j ht 1)) (sArr_sem p j 2 (off3_at t j ht 2))
    (rArr_sem p j 0 (off3_at t j ht 0)) (rArr_sem p j 1 (off3_at t j ht 1)) (rArr_sem p j 2 (off3_at t j ht 2))
    (heq_of_eq (congrArg (Memref.squeeze · _ _) (slice_congr (rbufM p) (off4_at t j ht)))) (heq_of_eq (congrArg (Memref.squeeze · _ _) (slice_congr (rbufM p) (off6_at t j ht))))
    (heq_of_eq (congrArg (Memref.squeeze · _ _) (slice_congr (rbufM p) (off7_at t j ht)))))
  isplitr; · iexact HR
  isplitl [HO]; · iexact HO
  isplitl [HS]; · iexact HS
  isplitl [Ht]; · iexact Ht
  isplitl [Hl]; · iexact Hl
  iintro ⟨HO, Hf⟩
  iapply (ret_step c)
  iapply Hk
  isplitl [HO]; · iexact HO
  isplitl [Hf]; · iexact Hf
  isplitl [H3]; · iexact H3
  iexact H6

set_option maxHeartbeats 1000000 in
/-- The last point: the last block sent, every row waited for and summed. -/
theorem bodyD (p : Fin 2) (harg7 : (pbufM p).IsWhole) (arg8 : Memref sig .tc .vmem S64x2048 .bf16) (harg8 : arg8.IsWhole)
    (harg9 : (rbufM p).IsWhole) (arg10 : Memref sig .tc .vmem S3x16x2048 .bf16) (harg10 : arg10.IsWhole) (arg13 arg14 : DmaSems sig S3)
    (ht : t.val = 11) (Y : CellTallies nD τ sig Unit) (hY : Above (2 * p.val + 2) Y) (O : Vec F S64x2048 .bf16)
    (W : Vec F S4096x512 .bf16) (H : Vec F S64x4096 .bf16) (hv : v.blk c p 3 = part W H) (Q : PUnit.{1} → sProp 𝕄) :
   iprop(records v κ ∗ levAts L lv ∗ ow c (addRow (some (p, 3)) c Y) ∗ own' c (pS p 3) ∗ toks c (some (p, 3)) ∗ landsAt c (some (p, 3)) ∗ flies c (some (p, 0)) ∗ flies c (some (p, 1)) ∗ flies c (some (p, 2)) ∗ owns (c : Thread nD τ) arg4 fullShare O
     ∗ owns (c : Thread nD τ) arg3 fullShare W ∗ owns (c : Thread nD τ) arg6 fullShare H
     ∗ ((ow c Y ∗ (rowEnd c p 0 ∗ rowEnd c p 1 ∗ rowEnd c p 2 ∗ rowEnd c p 3) ∗ owns (c : Thread nD τ) arg3 fullShare W ∗ owns (c : Thread nD τ) arg6 fullShare H
          ∗ owns (c : Thread nD τ) arg4 fullShare (Rect.glue cR cR_cov (res v c p))) -∗ Q ⟨⟩))
    ⊢ WP c (cc0__layer_body (F := F) (grid0.coords t) arg1 harg1 arg2 harg2 arg3 harg3 arg4 harg4 arg5 harg5 arg6 harg6 (pbufM p) harg7 arg8 harg8 (rbufM p) harg9 arg10 harg10 (sArr p) (rArr p) arg13 arg14) Q := by
  have hX : ∀ (j : Fin 4) (k : Fin 3), Above (lv (recvC (some (p, j)) k c) ()) Y := fun j k => by rw [lv_recv]; exact hY
  have hup : ∀ O : Vec F S64x2048 .bf16, (cR 3).overlay ((cR 2).overlay ((cR 1).overlay ((cR 0).overlay O (res v c p 0)) (res v c p 1)) (res v c p 2)) (res v c p 3) = Rect.glue cR cR_cov (res v c p) := fun O =>
    upTo_full cR cR_cov cR_disj (k := 4) (Nat.le_refl _) (upTo_step cR cR_disj (b := res v c p) 3 (upTo_step cR cR_disj (b := res v c p) 2 (upTo_step cR cR_disj (b := res v c p) 1 (upTo_step cR cR_disj (b := res v c p) 0 (upTo_zero cR _ O)))))
  rw [cc0__layer_body_eq_skeleton]
  unfold cc0__layer_body_skel
  simp only [k0_part1_eq_skeleton, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part1_skel, Prog.bind_lift, Prog.bind_op, bind_assoc, pure_bind, Prog.pure_eq_ret, Prog.bind_ret, wp_deviceId, dif_neg (cond1_neg t (by omega)), dif_neg (cond2_neg t (by omega)), dif_pos (cond3_pos t (by omega)), dif_pos (cond4_pos t ht)]
  unfold own'
  iintro ⟨#HR, #HL, HO, ⟨%P, HP⟩, Ht, Hl, Hf0, Hf1, Hf2, H4, H3, H6, Hk⟩
  iapply (load_all c arg3 fullShare W) $$ H3
  iintro H3
  iapply (load_all c arg6 fullShare H) $$ H6
  iintro H6
  iapply (load_slot c (pbufM p) (off2_at t 3 ht) fullShare P) $$ HP
  iintro HP
  iapply (store_slot c (pbufM p) (off2_at t 3 ht) _ P) $$ HP
  iintro HP
  ihave HS := (srcs_of_block v c p 3 hv) $$ HP
  iapply (send3 v κ c _ Q (some (p, 3)) Y (congrArg (Memref.squeeze · _ _) (slice_congr (pbufM p) (off5_at t 3 ht))) (congrArg (Memref.squeeze · _ _) (slice_congr (pbufM p) (off5_at t 3 ht)))
    (congrArg (Memref.squeeze · _ _) (slice_congr (pbufM p) (off5_at t 3 ht))) (dev_eq (dev4_eq c)) (dev_eq (dev5_eq c)) (dev_eq (dev6_eq c))
    (sArr_sem p 3 0 (off3_at t 3 ht 0)) (sArr_sem p 3 1 (off3_at t 3 ht 1)) (sArr_sem p 3 2 (off3_at t 3 ht 2))
    (rArr_sem p 3 0 (off3_at t 3 ht 0)) (rArr_sem p 3 1 (off3_at t 3 ht 1)) (rArr_sem p 3 2 (off3_at t 3 ht 2))
    (heq_of_eq (congrArg (Memref.squeeze · _ _) (slice_congr (rbufM p) (off4_at t 3 ht)))) (heq_of_eq (congrArg (Memref.squeeze · _ _) (slice_congr (rbufM p) (off6_at t 3 ht))))
    (heq_of_eq (congrArg (Memref.squeeze · _ _) (slice_congr (rbufM p) (off7_at t 3 ht)))))
  isplitr; · iexact HR
  isplitl [HO]; · iexact HO
  isplitl [HS]; · iexact HS
  isplitl [Ht]; · iexact Ht
  isplitl [Hl]; · iexact Hl
  iintro ⟨HO, Hf3⟩
  iapply (wait6 v κ c _ Q (some (p, 0)) Y (sArr_sem p 0 0 rfl) (rArr_sem p 0 0 rfl) (sArr_sem p 0 1 rfl) (rArr_sem p 0 1 rfl) (sArr_sem p 0 2 rfl) (rArr_sem p 0 2 rfl)
    (amt_src (some (p, 0)) 0 c) (amt_dst (some (p, 0)) 0) (amt_src (some (p, 0)) 1 c) (amt_dst (some (p, 0)) 1) (amt_src (some (p, 0)) 2 c) (amt_dst (some (p, 0)) 2) (hX 0))
  isplitr; · iexact HR
  isplitr; · iexact HL
  isplitl [HO]; · iexact HO
  isplitl [Hf0]; · iexact Hf0
  iintro ⟨HO, Hz, Hs, Hd⟩
  iapply (sum_step v c _ Q p 0 arg4 _ rfl rfl rfl rfl rfl)
  isplitl [Hz]; · iexact Hz
  isplitl [Hs]; · iexact Hs
  isplitl [Hd]; · iexact Hd
  isplitl [H4]; · iexact H4
  iintro ⟨He0, H4⟩
  iapply (wait6 v κ c _ Q (some (p, 1)) Y (sArr_sem p 1 0 rfl) (rArr_sem p 1 0 rfl) (sArr_sem p 1 1 rfl) (rArr_sem p 1 1 rfl) (sArr_sem p 1 2 rfl) (rArr_sem p 1 2 rfl)
    (amt_src (some (p, 1)) 0 c) (amt_dst (some (p, 1)) 0) (amt_src (some (p, 1)) 1 c) (amt_dst (some (p, 1)) 1) (amt_src (some (p, 1)) 2 c) (amt_dst (some (p, 1)) 2) (hX 1))
  isplitr; · iexact HR
  isplitr; · iexact HL
  isplitl [HO]; · iexact HO
  isplitl [Hf1]; · iexact Hf1
  iintro ⟨HO, Hz, Hs, Hd⟩
  iapply (sum_step v c _ Q p 1 arg4 _ rfl rfl rfl rfl rfl)
  isplitl [Hz]; · iexact Hz
  isplitl [Hs]; · iexact Hs
  isplitl [Hd]; · iexact Hd
  isplitl [H4]; · iexact H4
  iintro ⟨He1, H4⟩
  iapply (wait6 v κ c _ Q (some (p, 2)) Y (sArr_sem p 2 0 rfl) (rArr_sem p 2 0 rfl) (sArr_sem p 2 1 rfl) (rArr_sem p 2 1 rfl) (sArr_sem p 2 2 rfl) (rArr_sem p 2 2 rfl)
    (amt_src (some (p, 2)) 0 c) (amt_dst (some (p, 2)) 0) (amt_src (some (p, 2)) 1 c) (amt_dst (some (p, 2)) 1) (amt_src (some (p, 2)) 2 c) (amt_dst (some (p, 2)) 2) (hX 2))
  isplitr; · iexact HR
  isplitr; · iexact HL
  isplitl [HO]; · iexact HO
  isplitl [Hf2]; · iexact Hf2
  iintro ⟨HO, Hz, Hs, Hd⟩
  iapply (sum_step v c _ Q p 2 arg4 _ rfl rfl rfl rfl rfl)
  isplitl [Hz]; · iexact Hz
  isplitl [Hs]; · iexact Hs
  isplitl [Hd]; · iexact Hd
  isplitl [H4]; · iexact H4
  iintro ⟨He2, H4⟩
  iapply (wait6 v κ c _ Q (some (p, 3)) Y (sArr_sem p 3 0 rfl) (rArr_sem p 3 0 rfl) (sArr_sem p 3 1 rfl) (rArr_sem p 3 1 rfl) (sArr_sem p 3 2 rfl) (rArr_sem p 3 2 rfl)
    (amt_src (some (p, 3)) 0 c) (amt_dst (some (p, 3)) 0) (amt_src (some (p, 3)) 1 c) (amt_dst (some (p, 3)) 1) (amt_src (some (p, 3)) 2 c) (amt_dst (some (p, 3)) 2) (hX 3))
  isplitr; · iexact HR
  isplitr; · iexact HL
  isplitl [HO]; · iexact HO
  isplitl [Hf3]; · iexact Hf3
  iintro ⟨HO, Hz, Hs, Hd⟩
  iapply (sum_step v c _ Q p 3 arg4 _ rfl rfl rfl rfl rfl)
  isplitl [Hz]; · iexact Hz
  isplitl [Hs]; · iexact Hs
  isplitl [Hd]; · iexact Hd
  isplitl [H4]; · iexact H4
  iintro ⟨He3, H4⟩
  iapply (ret_step c)
  iapply Hk
  isplitl [HO]; · iexact HO
  isplitl [He0 He1 He2 He3]
  · isplitl [He0]; · iexact He0
    isplitl [He1]; · iexact He1
    isplitl [He2]; · iexact He2
    iexact He3
  isplitl [H3]; · iexact H3
  isplitl [H6]; · iexact H6
  rw [← hup O]; iexact H4

theorem c1_cond1_pos (t : Fin grid0.N) (h : t.val = 0) : k1_cond1 (grid1.coords t) = 1#1 := cond1_pos t h
theorem c1_cond1_neg (t : Fin grid0.N) (h : 0 < t.val) : ¬ k1_cond1 (grid1.coords t) = 1#1 := cond1_neg t h
theorem c1_cond2_pos (t : Fin grid0.N) (h : t.val < 8) : k1_cond2 (grid1.coords t) = 1#1 := cond2_pos t h
theorem c1_cond3_neg (t : Fin grid0.N) (h : t.val < 8) : ¬ k1_cond3 (grid1.coords t) = 1#1 := cond3_neg t h
theorem c1_cond4_neg (t : Fin grid0.N) (h : t.val < 11) : ¬ k1_cond4 (grid1.coords t) = 1#1 := cond4_neg t h

/-- The first point of call 1: the barrier and the first product. -/
theorem bodyA1 (arg7 : Memref sig .tc .vmem S4x64x512 .bf16) (harg7 : arg7.IsWhole) (arg8 : Memref sig .tc .vmem S64x2048 .bf16) (harg8 : arg8.IsWhole)
    (arg9 : Memref sig .tc .vmem S4x3x64x512 .bf16) (harg9 : arg9.IsWhole) (arg10 : Memref sig .tc .vmem S3x16x2048 .bf16) (harg10 : arg10.IsWhole) (arg11 arg12 : DmaSems sig S12) (arg13 arg14 : DmaSems sig S3)
    (h0 : t.val = 0) (Y : CellTallies nD τ sig Unit) (hY : Above 3 Y)
    (X : Vec F S64x2048 .bf16) (W : Vec F S2048x512 .bf16) (H : Vec F S64x4096 .bf16) (Q : PUnit.{1} → sProp 𝕄) :
   iprop(records v κ ∗ levAts L lv ∗ ow c (addBar 1 c Y) ∗ barTok c 1 ∗ three (lands c 1)
     ∗ owns (c : Thread nD τ) arg1 fullShare X ∗ owns (c : Thread nD τ) arg2 fullShare W ∗ owns (c : Thread nD τ) arg6 fullShare H
     ∗ (((ow c Y ∗ semVal (barC 1 c) 0 ∗ three fun k => barPay 1 k c) ∗ owns (c : Thread nD τ) arg1 fullShare X ∗ owns (c : Thread nD τ) arg2 fullShare W
          ∗ owns (c : Thread nD τ) arg6 fullShare ((hR 0).overlay H (hid W X))) -∗ Q ⟨⟩))
    ⊢ WP c (cc1__layer_body (F := F) (grid1.coords t) arg1 harg1 arg2 harg2 arg3 harg3 arg4 harg4 arg5 harg5 arg6 harg6 arg7 harg7 arg8 harg8 arg9 harg9 arg10 harg10 arg11 arg12 arg13 arg14) Q := by
  have hl : t.val < 8 := by omega
  have hoff : k1_off1 (grid1.coords t) = ![0, 512 * (0 : Fin 8).val] := (off1_at t).trans (by rw [h0]; rfl)
  rw [cc1__layer_body_eq_skeleton]
  unfold cc1__layer_body_skel
  simp only [k1_pay1_eq, semSignalWord, semWaitWord, Prog.bind_lift, Prog.bind_op, bind_assoc, pure_bind, Prog.pure_eq_ret, Prog.bind_ret, wp_deviceId, dif_pos (c1_cond1_pos t h0), dif_pos (c1_cond2_pos t hl), dif_neg (c1_cond3_neg t hl), dif_neg (c1_cond4_neg t (by omega))]
  iintro ⟨#HR, #HL, HO, Hb, Hl, H1, H2, H6, Hk⟩
  iapply (barrier3 v κ c _ Q 1 Y (dev_eq (dev1_eq c)) (dev_eq (dev2_eq c)) (dev_eq (dev3_eq c)) rfl hY rfl rfl rfl rfl)
  isplitr; · iexact HR
  isplitr; · iexact HL
  isplitl [HO]; · iexact HO
  isplitl [Hb]; · iexact Hb
  isplitl [Hl]; · iexact Hl
  iintro Hbar
  iapply (load_all c arg2 fullShare W) $$ H2
  iintro H2
  iapply (load_all c arg1 fullShare X) $$ H1
  iintro H1
  iapply (load_own c arg6 _ fullShare H) $$ H6
  iintro H6
  iapply (store_at c arg6 hoff (inb₀ := inb_h 0) _ H) $$ H6
  iintro H6
  iapply (ret_step c)
  iapply Hk
  isplitl [Hbar]; · iexact Hbar
  isplitl [H1]; · iexact H1
  isplitl [H2]; · iexact H2
  iexact H6

/-- After its first point, call 1 runs as call 0, its activations read where they are. -/
theorem cc1_eq (arg7 : Memref sig .tc .vmem S4x64x512 .bf16) (harg7 : arg7.IsWhole) (arg8 : Memref sig .tc .vmem S64x2048 .bf16) (harg8 : arg8.IsWhole)
    (arg9 : Memref sig .tc .vmem S4x3x64x512 .bf16) (harg9 : arg9.IsWhole) (arg10 : Memref sig .tc .vmem S3x16x2048 .bf16) (harg10 : arg10.IsWhole) (arg11 arg12 : DmaSems sig S12) (arg13 arg14 : DmaSems sig S3)
    (h0 : 0 < t.val) :
    cc1__layer_body (F := F) (grid1.coords t) arg1 harg1 arg2 harg2 arg3 harg3 arg4 harg4 arg5 harg5 arg6 harg6 arg7 harg7 arg8 harg8 arg9 harg9 arg10 harg10 arg11 arg12 arg13 arg14
      = cc0__layer_body (F := F) (grid0.coords t) arg1 harg1 arg2 harg2 arg3 harg3 arg4 harg4 arg1 harg1 arg6 harg6 arg7 harg7 arg8 harg8 arg9 harg9 arg10 harg10 arg11 arg12 arg13 arg14 := by
  rw [cc0__layer_body_eq_skeleton, cc1__layer_body_eq_skeleton]
  unfold cc0__layer_body_skel cc1__layer_body_skel
  simp only [dif_neg (cond1_neg t h0), dif_neg (c1_cond1_neg t h0), k1_pay1_eq]
  rfl

end Points

end Cert.KernelIdeal.Talk

end
-- ==== Proof.Body2.lean ====
/- The body of the last call at each of its points, on a symbolic device. -/
module

public import proofs.«01_k».proof.Proof.Body01

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]
local notation "𝕄" => MT nD τ sig Unit (Elt F) ℕ UU ℕ

/-! ## Where the program is at each point -/

theorem c2_cond1_pos (t : Fin grid0.N) (h : t.val = 0) : k2_cond1 (grid2.coords t) = 1#1 := cond1_pos t h
theorem c2_cond1_neg (t : Fin grid0.N) (h : 0 < t.val) : ¬ k2_cond1 (grid2.coords t) = 1#1 := cond1_neg t h
theorem c2_cond2_pos (t : Fin grid0.N) (h : t.val < 8) : k2_cond2 (grid2.coords t) = 1#1 := cond2_pos t h
theorem c2_cond2_neg (t : Fin grid0.N) (h : 8 ≤ t.val) : ¬ k2_cond2 (grid2.coords t) = 1#1 := cond2_neg t h
theorem c2_cond3_pos (t : Fin grid0.N) (h : 8 ≤ t.val) : k2_cond3 (grid2.coords t) = 1#1 := cond3_pos t h
theorem c2_cond3_neg (t : Fin grid0.N) (h : t.val < 8) : ¬ k2_cond3 (grid2.coords t) = 1#1 := cond3_neg t h
theorem c2_cond4_pos (t : Fin grid0.N) (h : t.val = 11) : k2_cond4 (grid2.coords t) = 1#1 := cond4_pos t h
theorem c2_cond4_neg (t : Fin grid0.N) (h : t.val < 11) : ¬ k2_cond4 (grid2.coords t) = 1#1 := cond4_neg t h
theorem c2_off2_at (t : Fin grid0.N) (j : Fin 4) (h : t.val = 8 + j.val) : k2_off2 (grid2.coords t) = ![0, 512 * j.val] := by revert t j; decide
theorem c2_off3_at0 (c : Dev nD) : k2_off3 c 1#32 = ![16 * (peer 0 c).val, 0] := by revert c; decide
theorem c2_off3_at1 (c : Dev nD) : k2_off3 c 3#32 = ![16 * (peer 1 c).val, 0] := by revert c; decide
theorem c2_off3_at2 (c : Dev nD) : k2_off3 c 2#32 = ![16 * (peer 2 c).val, 0] := by revert c; decide
theorem c2_off4_at (c : Dev nD) : k2_off4 c = ![16 * c.val, 0] := by revert c; decide

/-! ## The partial product by rows -/

/-- One thing for each device: the own one and the three peers'. -/
theorem four (c : Dev nD) (Φ : Dev nD → sProp 𝕄) : bigSep Finset.univ Φ = iprop(Φ c ∗ Φ (peer 0 c) ∗ Φ (peer 1 c) ∗ Φ (peer 2 c)) :=
  bigSep_univ_eq_bigSepL [c, peer 0 c, peer 1 c, peer 2 c] (by revert c; decide) (by revert c; decide) Φ
theorem threes (Φ : Fin 3 → sProp 𝕄) : bigSep Finset.univ Φ = three Φ :=
  bigSep_univ_eq_bigSepL [(0 : Fin 3), 1, 2] (by decide) (by decide) Φ

variable (v : Vals F) (c : Dev nD)

/-- A device's own rows of its partial product. -/
abbrev ownM : Memref sig .tc .vmem S16x2048 .bf16 := pslabM.slice (sR c) (fun _ => rfl)
/-- Landing place `k` of the last call. -/
abbrev rrSl (k : Fin 3) : Memref sig .tc .vmem S1x16x2048 .bf16 := rrbufM.slice (rrR k) (fun _ => rfl)
/-- Device `c`'s rows of device `d`'s partial product. -/
def ownV (d : Dev nD) : FVec F S16x2048 .bf16 := fun y => v.slab d ((sR c).emb y)

theorem rows_of_slab (X : S64x2048.Idx → Elt F .bf16) : (owns (c : Thread nD τ) pslabM fullShare X : sProp 𝕄)
    ⊢ bigSep Finset.univ fun d => owns (c : Thread nD τ) (pslabM.slice (sR d) (fun _ => rfl)) fullShare (fun y => X ((sR d).emb y)) :=
  owns_rects (c : Thread nD τ) pslabM fullShare sR (fun _ _ => rfl) sR_disj sR_cov X

theorem srcs_of_slab : (owns (c : Thread nD τ) pslabM fullShare (v.slab c) : sProp 𝕄)
    ⊢ iprop(owns (c : Thread nD τ) (ownM c) fullShare (ownV v c c) ∗ srcs v c none) := by
  have h := rows_of_slab (F := F) c (v.slab c)
  rw [four c] at h
  exact h

theorem slab_of_srcs (X : Vec F S16x2048 .bf16) : iprop(owns (c : Thread nD τ) (ownM c) fullShare X ∗ srcs v c none) ⊢ (own' c pslabM : sProp 𝕄) := by
  have h := own'_join (F := F) c pslabM sR (fun _ _ => rfl) sR_disj sR_cov
  rw [four c] at h
  unfold srcs three
  iintro ⟨H, H0, H1, H2⟩
  iapply h
  isplitl [H]; · iapply (own'_intro c _ _); iexact H
  isplitl [H0]; · iapply (own'_intro c _ _); iexact H0
  isplitl [H1]; · iapply (own'_intro c _ _); iexact H1
  iapply (own'_intro c _ _); iexact H2

theorem amt_row0 : (pslabM.slice (Rect.unit (s := S64x2048) ![0, 0] S16x2048.size inb_S64x2048_S16x2048_0_0) (fun _ => rfl)).view.dmaCredit = amt none := rfl
theorem castL : S16x2048.ShapeCasts S1x16x2048 := by decide
theorem castL' : S1x16x2048.ShapeCasts S16x2048 := by decide
theorem places_of_landed : (landed v c none : sProp 𝕄) ⊢ three fun k => owns (c : Thread nD τ) (rrSl k) fullShare (shapeCast S1x16x2048 (ownV v c (peer k c)) castL) := by
  refine three_mono fun k => ?_
  have h : val v none k (peer k c) = ownV v c (peer k c) := by
    show (fun y => v.slab (peer k c) ((sR (peer k (peer k c))).emb y)) = _
    rw [peer_peer]; rfl
  rw [h]
  exact Entails.of_eq (owns_unsqueeze c (rrSl k) squeezes_S1x16x2048_S16x2048 castL' castL fullShare _)

theorem place_join : (three fun k => own' c (rrSl k) : sProp 𝕄) ⊢ own' c rrbufM := by
  have h := own'_join (F := F) c rrbufM rrR (fun _ _ => rfl) rrR_disj rrR_cov
  rw [threes] at h
  exact h

/-- A device's rows of the result. -/
def res2 : FVec F S16x2048 .f32 :=
  k2_pay3 (k2_pay4 (ownV v c c) (shapeCast S1x16x2048 (ownV v c (peer 0 c)) castL) (shapeCast S1x16x2048 (ownV v c (peer 1 c)) castL)) (shapeCast S1x16x2048 (ownV v c (peer 2 c)) castL)

section Points

variable (κ : GSem nD τ sig → ℕ) (t : Fin grid0.N)
  (arg1 : Memref sig .tc .vmem S64x2048 .bf16) (harg1 : arg1.IsWhole) (arg2 : Memref sig .tc .vmem S2048x512 .bf16) (harg2 : arg2.IsWhole)
  (arg3 : Memref sig .tc .vmem S4096x512 .bf16) (harg3 : arg3.IsWhole) (arg4 : Memref sig .tc .vmem S16x2048 .f32) (harg4 : arg4.IsWhole)
  (arg5 : Memref sig .tc .vmem S64x2048 .bf16) (harg5 : arg5.IsWhole) (arg6 : Memref sig .tc .vmem S64x4096 .bf16) (harg6 : arg6.IsWhole)

/-- The first point: the barrier and the first product. -/
theorem bodyA2 (arg7 : Memref sig .tc .vmem S4x64x512 .bf16) (harg7 : arg7.IsWhole) (arg8 : Memref sig .tc .vmem S64x2048 .bf16) (harg8 : arg8.IsWhole)
    (arg9 : Memref sig .tc .vmem S4x3x64x512 .bf16) (harg9 : arg9.IsWhole) (arg10 : Memref sig .tc .vmem S3x16x2048 .bf16) (harg10 : arg10.IsWhole) (arg11 arg12 : DmaSems sig S12) (arg13 arg14 : DmaSems sig S3)
    (h0 : t.val = 0) (Y : CellTallies nD τ sig Unit) (hY : Above 5 Y)
    (X : Vec F S64x2048 .bf16) (W : Vec F S2048x512 .bf16) (H : Vec F S64x4096 .bf16) (Q : PUnit.{1} → sProp 𝕄) :
   iprop(records v κ ∗ levAts L lv ∗ ow c (addBar 2 c Y) ∗ barTok c 2 ∗ three (lands c 2)
     ∗ owns (c : Thread nD τ) arg1 fullShare X ∗ owns (c : Thread nD τ) arg2 fullShare W ∗ owns (c : Thread nD τ) arg6 fullShare H
     ∗ (((ow c Y ∗ semVal (barC 2 c) 0 ∗ three fun k => barPay 2 k c) ∗ owns (c : Thread nD τ) arg1 fullShare X ∗ owns (c : Thread nD τ) arg2 fullShare W
          ∗ owns (c : Thread nD τ) arg6 fullShare ((hR 0).overlay H (hid W X))) -∗ Q ⟨⟩))
    ⊢ WP c (cc2__layer_body (F := F) (grid2.coords t) arg1 harg1 arg2 harg2 arg3 harg3 arg4 harg4 arg5 harg5 arg6 harg6 arg7 harg7 arg8 harg8 arg9 harg9 arg10 harg10 arg11 arg12 arg13 arg14) Q := by
  have hl : t.val < 8 := by omega
  have hoff : k2_off1 (grid2.coords t) = ![0, 512 * (0 : Fin 8).val] := (off1_at t).trans (by rw [h0]; rfl)
  rw [cc2__layer_body_eq_skeleton]
  unfold cc2__layer_body_skel
  simp only [k2_pay1_eq, semSignalWord, semWaitWord, Prog.bind_lift, Prog.bind_op, bind_assoc, pure_bind, Prog.pure_eq_ret, Prog.bind_ret, wp_deviceId, dif_pos (c2_cond1_pos t h0), dif_pos (c2_cond2_pos t hl), dif_neg (c2_cond3_neg t hl), dif_neg (c2_cond4_neg t (by omega))]
  iintro ⟨#HR, #HL, HO, Hb, Hl, H1, H2, H6, Hk⟩
  iapply (barrier3 v κ c _ Q 2 Y (dev_eq (dev1_eq c)) (dev_eq (dev2_eq c)) (dev_eq (dev3_eq c)) rfl hY rfl rfl rfl rfl)
  isplitr; · iexact HR
  isplitr; · iexact HL
  isplitl [HO]; · iexact HO
  isplitl [Hb]; · iexact Hb
  isplitl [Hl]; · iexact Hl
  iintro Hbar
  iapply (load_all c arg2 fullShare W) $$ H2
  iintro H2
  iapply (load_all c arg1 fullShare X) $$ H1
  iintro H1
  iapply (load_own c arg6 _ fullShare H) $$ H6
  iintro H6
  iapply (store_at c arg6 hoff (inb₀ := inb_h 0) _ H) $$ H6
  iintro H6
  iapply (ret_step c)
  iapply Hk
  isplitl [Hbar]; · iexact Hbar
  isplitl [H1]; · iexact H1
  isplitl [H2]; · iexact H2
  iexact H6

/-- A later column block of the hidden activations. -/
theorem bodyB2 (arg7 : Memref sig .tc .vmem S4x64x512 .bf16) (harg7 : arg7.IsWhole) (arg8 : Memref sig .tc .vmem S64x2048 .bf16) (harg8 : arg8.IsWhole)
    (arg9 : Memref sig .tc .vmem S4x3x64x512 .bf16) (harg9 : arg9.IsWhole) (arg10 : Memref sig .tc .vmem S3x16x2048 .bf16) (harg10 : arg10.IsWhole) (arg11 arg12 : DmaSems sig S12) (arg13 arg14 : DmaSems sig S3)
    (h0 : 0 < t.val) (t8 : Fin 8) (h8 : t.val = t8.val)
    (W : Vec F S2048x512 .bf16) (X : Vec F S64x2048 .bf16) (H : Vec F S64x4096 .bf16) (Q : PUnit.{1} → sProp 𝕄) :
   iprop(owns (c : Thread nD τ) arg2 fullShare W ∗ owns (c : Thread nD τ) arg1 fullShare X ∗ owns (c : Thread nD τ) arg6 fullShare H
     ∗ ((owns (c : Thread nD τ) arg2 fullShare W ∗ owns (c : Thread nD τ) arg1 fullShare X ∗ owns (c : Thread nD τ) arg6 fullShare ((hR t8).overlay H (hid W X))) -∗ Q ⟨⟩))
    ⊢ WP c (cc2__layer_body (F := F) (grid2.coords t) arg1 harg1 arg2 harg2 arg3 harg3 arg4 harg4 arg5 harg5 arg6 harg6 arg7 harg7 arg8 harg8 arg9 harg9 arg10 harg10 arg11 arg12 arg13 arg14) Q := by
  have hl : t.val < 8 := h8 ▸ t8.isLt
  have hoff : k2_off1 (grid2.coords t) = ![0, 512 * t8.val] := h8 ▸ off1_at t
  rw [cc2__layer_body_eq_skeleton]
  unfold cc2__layer_body_skel
  simp only [k2_pay1_eq, Prog.bind_lift, bind_assoc, pure_bind, Prog.pure_eq_ret, Prog.bind_ret, wp_deviceId, dif_neg (c2_cond1_neg t h0), dif_pos (c2_cond2_pos t hl), dif_neg (c2_cond3_neg t hl), dif_neg (c2_cond4_neg t (by omega))]
  iintro ⟨H2, H1, H6, Hk⟩
  iapply (load_all c arg2 fullShare W) $$ H2
  iintro H2
  iapply (load_all c arg1 fullShare X) $$ H1
  iintro H1
  iapply (load_own c arg6 _ fullShare H) $$ H6
  iintro H6
  iapply (store_at c arg6 hoff (inb₀ := inb_h t8) _ H) $$ H6
  iintro H6
  iapply (ret_step c)
  iapply Hk
  isplitl [H2]; · iexact H2
  isplitl [H1]; · iexact H1
  iexact H6

/-- A column block of the partial product. -/
theorem bodyC2 (arg7 : Memref sig .tc .vmem S4x64x512 .bf16) (harg7 : arg7.IsWhole) (arg8 : Memref sig .tc .vmem S64x2048 .bf16) (harg8 : arg8.IsWhole)
    (arg9 : Memref sig .tc .vmem S4x3x64x512 .bf16) (harg9 : arg9.IsWhole) (arg10 : Memref sig .tc .vmem S3x16x2048 .bf16) (harg10 : arg10.IsWhole) (arg11 arg12 : DmaSems sig S12) (arg13 arg14 : DmaSems sig S3)
    (j : Fin 4) (ht : t.val = 8 + j.val) (hj : j.val < 3)
    (W : Vec F S4096x512 .bf16) (H : Vec F S64x4096 .bf16) (S : Vec F S64x2048 .bf16) (Q : PUnit.{1} → sProp 𝕄) :
   iprop(owns (c : Thread nD τ) arg3 fullShare W ∗ owns (c : Thread nD τ) arg6 fullShare H ∗ owns (c : Thread nD τ) arg8 fullShare S
     ∗ ((owns (c : Thread nD τ) arg3 fullShare W ∗ owns (c : Thread nD τ) arg6 fullShare H ∗ owns (c : Thread nD τ) arg8 fullShare ((cR j).overlay S (k2_pay2 W H))) -∗ Q ⟨⟩))
    ⊢ WP c (cc2__layer_body (F := F) (grid2.coords t) arg1 harg1 arg2 harg2 arg3 harg3 arg4 harg4 arg5 harg5 arg6 harg6 arg7 harg7 arg8 harg8 arg9 harg9 arg10 harg10 arg11 arg12 arg13 arg14) Q := by
  rw [cc2__layer_body_eq_skeleton]
  unfold cc2__layer_body_skel
  simp only [Prog.bind_lift, Prog.bind_op, bind_assoc, pure_bind, Prog.pure_eq_ret, Prog.bind_ret, wp_deviceId, dif_neg (c2_cond1_neg t (by omega)), dif_neg (c2_cond2_neg t (by omega)), dif_pos (c2_cond3_pos t (by omega)), dif_neg (c2_cond4_neg t (by omega))]
  iintro ⟨H3, H6, H8, Hk⟩
  iapply (load_all c arg3 fullShare W) $$ H3
  iintro H3
  iapply (load_all c arg6 fullShare H) $$ H6
  iintro H6
  iapply (load_own c arg8 _ fullShare S) $$ H8
  iintro H8
  iapply (store_at c arg8 (c2_off2_at t j ht) (inb₀ := inb_c j) _ S) $$ H8
  iintro H8
  iapply (ret_step c)
  iapply Hk
  isplitl [H3]; · iexact H3
  isplitl [H6]; · iexact H6
  iexact H8

/-- What the last point leaves besides the windows: the counters at zero and the buffers, at contents not chosen. -/
def end2 : sProp 𝕄 := iprop(zeros c none ∗ own' c pslabM ∗ own' c rrbufM)

set_option maxHeartbeats 1000000 in
/-- The last point: the last column block, the row slices sent, waited for and summed. -/
theorem bodyD2 (arg7 : Memref sig .tc .vmem S4x64x512 .bf16) (harg7 : arg7.IsWhole) (harg8 : pslabM.IsWhole)
    (arg9 : Memref sig .tc .vmem S4x3x64x512 .bf16) (harg9 : arg9.IsWhole) (harg10 : rrbufM.IsWhole) (arg11 arg12 : DmaSems sig S12)
    (ht : t.val = 11) (Y : CellTallies nD τ sig Unit) (hY : Above 6 Y) (O : Vec F S16x2048 .f32)
    (W : Vec F S4096x512 .bf16) (H : Vec F S64x4096 .bf16) (S : Vec F S64x2048 .bf16) (hv : (cR 3).overlay S (k2_pay2 W H) = v.slab c) (Q : PUnit.{1} → sProp 𝕄) :
   iprop(records v κ ∗ levAts L lv ∗ ow c (addRow none c Y) ∗ toks c none ∗ landsAt c none ∗ owns (c : Thread nD τ) arg4 fullShare O
     ∗ owns (c : Thread nD τ) arg3 fullShare W ∗ owns (c : Thread nD τ) arg6 fullShare H ∗ owns (c : Thread nD τ) pslabM fullShare S
     ∗ ((ow c Y ∗ end2 c ∗ owns (c : Thread nD τ) arg3 fullShare W ∗ owns (c : Thread nD τ) arg6 fullShare H
          ∗ owns (c : Thread nD τ) arg4 fullShare (res2 v c)) -∗ Q ⟨⟩))
    ⊢ WP c (cc2__layer_body (F := F) (grid2.coords t) arg1 harg1 arg2 harg2 arg3 harg3 arg4 harg4 arg5 harg5 arg6 harg6 arg7 harg7 pslabM harg8 arg9 harg9 rrbufM harg10 arg11 arg12 cc2_scratch8 cc2_scratch9) Q := by
  have hX : ∀ k : Fin 3, Above (lv (recvC none k c) ()) Y := fun k => by rw [lv_recv']; exact hY
  rw [cc2__layer_body_eq_skeleton]
  unfold cc2__layer_body_skel
  simp only [k2_part1_eq_skeleton, k2_part1_skel, k2_part2_eq_skeleton, k2_part2_skel, k2_part3_eq_skeleton, k2_part3_skel, Prog.bind_lift, Prog.bind_op, bind_assoc, pure_bind, Prog.pure_eq_ret, Prog.bind_ret, wp_deviceId, dif_neg (c2_cond1_neg t (by omega)), dif_neg (c2_cond2_neg t (by omega)), dif_pos (c2_cond3_pos t (by omega)), dif_pos (c2_cond4_pos t ht)]
  iintro ⟨#HR, #HL, HO, Ht, Hl, H4, H3, H6, H8, Hk⟩
  iapply (load_all c arg3 fullShare W) $$ H3
  iintro H3
  iapply (load_all c arg6 fullShare H) $$ H6
  iintro H6
  iapply (load_own c pslabM _ fullShare S) $$ H8
  iintro H8
  iapply (store_at c pslabM (c2_off2_at t 3 ht) (inb₀ := inb_c 3) _ S) $$ H8
  iintro H8
  rw [hv]
  ihave H8 := (srcs_of_slab v c) $$ H8
  icases H8 with ⟨H8, HS⟩
  iapply (send3 v κ c _ Q none Y (slice_congr pslabM (c2_off3_at0 c) (hr₀ := fun _ => rfl)) (slice_congr pslabM (c2_off3_at1 c) (hr₀ := fun _ => rfl)) (slice_congr pslabM (c2_off3_at2 c) (hr₀ := fun _ => rfl))
    (dev_eq (dev4_eq c)) (dev_eq (dev5_eq c)) (dev_eq (dev6_eq c))
    (sArr2_sem 0 rfl) (sArr2_sem 1 rfl) (sArr2_sem 2 rfl) (rArr2_sem 0 rfl) (rArr2_sem 1 rfl) (rArr2_sem 2 rfl) HEq.rfl HEq.rfl HEq.rfl)
  isplitr; · iexact HR
  isplitl [HO]; · iexact HO
  isplitl [HS]; · iexact HS
  isplitl [Ht]; · iexact Ht
  isplitl [Hl]; · iexact Hl
  iintro ⟨HO, Hf⟩
  iapply (wait6 v κ c _ Q none Y (sArr2_sem 0 rfl) (rArr2_sem 0 rfl) (sArr2_sem 1 rfl) (rArr2_sem 1 rfl) (sArr2_sem 2 rfl) (rArr2_sem 2 rfl)
    amt_row0 (amt_dst none 0) amt_row0 (amt_dst none 1) amt_row0 (amt_dst none 2) hX)
  isplitr; · iexact HR
  isplitr; · iexact HL
  isplitl [HO]; · iexact HO
  isplitl [Hf]; · iexact Hf
  iintro ⟨HO, Hz, Hs, Hd⟩
  ihave Hd := (places_of_landed v c) $$ Hd
  unfold three
  icases Hd with ⟨Hd0, Hd1, Hd2⟩
  iapply (load_slot c pslabM (c2_off4_at c) fullShare _) $$ H8
  iintro H8
  iapply (load_slot c rrbufM (off₀ := ![(0 : Fin 3).val, 0, 0]) rfl fullShare _) $$ Hd0
  iintro Hd0
  iapply (load_slot c rrbufM (off₀ := ![(1 : Fin 3).val, 0, 0]) rfl fullShare _) $$ Hd1
  iintro Hd1
  iapply (load_slot c rrbufM (off₀ := ![(2 : Fin 3).val, 0, 0]) rfl fullShare _) $$ Hd2
  iintro Hd2
  iapply (load_all c arg4 fullShare O) $$ H4
  iintro H4
  iapply (store_all c arg4 _ O) $$ H4
  iintro H4
  iapply (ret_step c)
  iapply Hk
  isplitl [HO]; · iexact HO
  isplitl [Hz H8 Hs Hd0 Hd1 Hd2]
  · unfold end2
    isplitl [Hz]; · iexact Hz
    isplitl [H8 Hs]
    · iapply (slab_of_srcs v c _)
      isplitl [H8]; · iexact H8
      iexact Hs
    iapply (place_join c)
    unfold three
    isplitl [Hd0]; · iapply (own'_intro c _ _); iexact Hd0
    isplitl [Hd1]; · iapply (own'_intro c _ _); iexact Hd1
    iapply (own'_intro c _ _); iexact Hd2
  isplitl [H3]; · iexact H3
  isplitl [H6]; · iexact H6
  iexact H4

end Points

end Cert.KernelIdeal.Talk

end
-- ==== Proof.Rows.lean ====
/- The resources of a call's copies between the launch, the call's points and its end. -/
module

public import proofs.«01_k».proof.Proof.Body2

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]
local notation "𝕄" => MT nD τ sig Unit (Elt F) ℕ UU ℕ

section Call

variable {J : Type} [Fintype J] [DecidableEq J] (ρ : J ↪ Row) (p : Fin 3) (c : Dev nD)

/-- The copies' counters of a call. -/
def callSem (x : J × Fin 3 × Bool) : SemLoc sig := scSem (ρ x.1, x.2.1, x.2.2)

/-- What a device holds of one copy before the copy's call. -/
def hold1 (r : Row) (k : Fin 3) (c : Dev nD) : sProp 𝕄 :=
  iprop(openTok ER (sendC r k c) ∗ openTok ER (recvC r k c) ∗ dutyTok ER (sendC r k c) 0 0 ∗ dutyTok ER (recvC r k (peer k c)) 0 0
    ∗ cred (tallyAt (recvC r k c) () (amt r)))
/-- What a device holds of a call before it. -/
def hand : sProp 𝕄 := iprop(barTok c p ∗ bigSep Finset.univ fun j => three fun k => hold1 (ρ j) k c)
/-- The same with the counters opened. -/
def opened : sProp 𝕄 :=
  iprop(barTok c p ∗ bigSep Finset.univ fun j => iprop(toks c (ρ j) ∗ three fun k => reached ER (recvC (ρ j) k c) 0))

theorem open1 (v : Vals F) (κ : GSem nD τ sig → ℕ) (r : Row) (k : Fin 3) :
    iprop(records v κ ∗ (hold1 r k c ∗ (semVal (sendC r k c) 0 ∗ semVal (recvC r k c) 0)))
      ⊢ (|={Set.univ}=> iprop(tok r k c ∗ reached ER (recvC r k c) 0) : sProp 𝕄) := by
  unfold hold1 tok
  iintro ⟨#HR, ⟨Hos, Hor, Hd1, Hd2, Hc⟩, Hs, Hr⟩
  imod (Rounds.cell_open ER (Rd v) (g := sendC r k c) (κ := κ (sendC r k c)) (Set.mem_univ _)) $$ [Hos Hs] with ⟨Has, #Hrs⟩
  · isplitr
    · iapply (inv_at v κ (send_mem r k c)); iexact HR
    isplitl [Hos]; · iexact Hos
    iexact Hs
  imod (Rounds.cell_open ER (Rd v) (g := recvC r k c) (κ := κ (recvC r k c)) (Set.mem_univ _)) $$ [Hor Hr] with ⟨Har, #Hrr⟩
  · isplitr
    · iapply (inv_at v κ (recv_mem r k c)); iexact HR
    isplitl [Hor]; · iexact Hor
    iexact Hr
  imodintro
  isplitl
  · isplitl [Has]; · iexact Has
    isplitr; · iexact Hrs
    isplitl [Har]; · iexact Har
    isplitl [Hd1]; · iexact Hd1
    isplitl [Hd2]; · iexact Hd2
    iexact Hc
  iexact Hrr

theorem ownSems_eq : (Pipeline.ownSems0 (callSem ρ) c : sProp 𝕄) = bigSep Finset.univ fun j => zeros c (ρ j) := by
  unfold Pipeline.ownSems0
  rw [bigSep_univ_prod]
  refine bigSep_congr fun j _ => ?_
  rw [bigSep_univ_prod]
  unfold zeros
  rw [← threes]
  refine bigSep_congr fun k _ => ?_
  exact bigSep_univ_eq_bigSepL [false, true] (by decide) (by decide) _

theorem open_call (v : Vals F) (κ : GSem nD τ sig → ℕ) :
    iprop(records v κ ∗ hand ρ p c ∗ Pipeline.ownSems0 (callSem ρ) c) ⊢ (|={Set.univ}=> opened ρ p c : sProp 𝕄) := by
  rw [ownSems_eq]
  unfold hand opened
  have h : iprop(records v κ ∗ (bigSep Finset.univ fun j => iprop((three fun k => hold1 (ρ j) k c) ∗ zeros c (ρ j))))
      ⊢ (|={Set.univ}=> bigSep Finset.univ fun j => iprop(toks c (ρ j) ∗ three fun k => reached ER (recvC (ρ j) k c) 0) : sProp 𝕄) := by
    refine (bigSep_with_persistent (R := records v κ) (Ψ := fun j => iprop(|={Set.univ}=> (toks c (ρ j) ∗ three fun k => reached ER (recvC (ρ j) k c) 0))) fun j _ => ?_).trans (bigSep_fupd _ _)
    have h3 : iprop(records v κ ∗ (bigSep Finset.univ fun k => iprop(hold1 (ρ j) k c ∗ (semVal (sendC (ρ j) k c) 0 ∗ semVal (recvC (ρ j) k c) 0))))
        ⊢ (|={Set.univ}=> bigSep Finset.univ fun k => iprop(tok (ρ j) k c ∗ reached ER (recvC (ρ j) k c) 0) : sProp 𝕄) :=
      (bigSep_with_persistent (R := records v κ) (Ψ := fun k => iprop(|={Set.univ}=> (tok (ρ j) k c ∗ reached ER (recvC (ρ j) k c) 0))) fun k _ => open1 c v κ (ρ j) k).trans (bigSep_fupd _ _)
    have e1 : (bigSep Finset.univ fun k => iprop(hold1 (ρ j) k c ∗ (semVal (sendC (ρ j) k c) 0 ∗ semVal (recvC (ρ j) k c) 0)) : sProp 𝕄)
        = iprop((three fun k => hold1 (ρ j) k c) ∗ zeros c (ρ j)) := by rw [bigSep_sep' , threes, threes]; rfl
    have e2 : (bigSep Finset.univ fun k => iprop(tok (ρ j) k c ∗ reached ER (recvC (ρ j) k c) 0) : sProp 𝕄)
        = iprop(toks c (ρ j) ∗ three fun k => reached ER (recvC (ρ j) k c) 0) := by rw [bigSep_sep' , threes, threes]; rfl
    rwa [e1, e2] at h3
  rw [bigSep_sep'] at h
  iintro ⟨#HR, ⟨Hb, Hh⟩, Hz⟩
  imod h $$ [Hh Hz] with H
  · isplitr; · iexact HR
    isplitl [Hh]; · iexact Hh
    iexact Hz
  imodintro
  isplitl [Hb]; · iexact Hb
  iexact H

theorem three_comm (Φ : J → Fin 3 → sProp 𝕄) : (bigSep Finset.univ fun j => three (Φ j)) = three fun k => bigSep Finset.univ fun j => Φ j k := by
  unfold three; rw [bigSep_sep', bigSep_sep']

variable (hp : rowsOf p = Finset.univ.map ρ)

include hp in
/-- What the barrier brought, by rows. -/
theorem pays_rows : (three fun k => barPay p k c : sProp 𝕄) = bigSep Finset.univ fun j => landsAt c (ρ j) := by
  have h (k : Fin 3) : (barPay p k c : sProp 𝕄) = bigSep Finset.univ fun j => land (ρ j) k c := by rw [barPay_eq, hp, bigSep_map]
  unfold landsAt
  rw [three_comm]
  exact congrArg three (funext h)

include hp in
/-- The own landing places, by copies. -/
theorem lands_rows : (bigSep Finset.univ fun j => three fun k => iprop(landAny (ρ j) k c ∗ reached ER (recvC (ρ j) k c) 0) : sProp 𝕄) = three (lands c p) := by
  have h (k : Fin 3) : (lands c p k : sProp 𝕄) = bigSep Finset.univ fun j => iprop(landAny (ρ j) k c ∗ reached ER (recvC (ρ j) k c) 0) := by
    unfold lands; rw [hp, bigSep_map]
  rw [three_comm]
  exact congrArg three (funext fun k => (h k).symm)

end Call

/-! ## The calls before the last -/

/-- The rows of call `p`. -/
def rowE (p : Fin 2) : Fin 4 ↪ Row := ⟨fun j => some (p, j), fun _ _ h => congrArg Prod.snd (Option.some.inj h)⟩
theorem rowsOf_rowE (p : Fin 2) : rowsOf p.castSucc = Finset.univ.map (rowE p) := by revert p; decide
/-- The rows of the last call. -/
def rowL : Unit ↪ Row := ⟨fun _ => none, fun _ _ _ => rfl⟩
theorem rowsOf_rowL : rowsOf 2 = Finset.univ.map rowL := by decide

variable (c : Dev nD)

theorem three_sep (Φ Ψ : Fin 3 → sProp 𝕄) : (three fun k => iprop(Φ k ∗ Ψ k)) = iprop(three Φ ∗ three Ψ) := by
  rw [← threes, ← threes, ← threes, bigSep_sep']

/-- The landing buffer of call `p` cut into the landing places, and joined again. -/
theorem places_split (p : Fin 2) : (own' c (rbufM p) : sProp 𝕄) ⊢ bigSep Finset.univ fun j => three fun k => landAny (rowE p j) k c := by
  have h := own'_split (F := F) c (rbufM p) rRR (fun _ _ => rfl) rRR_disj rRR_cov
  rw [bigSep_univ_prod] at h
  refine h.trans (bigSep_mono fun j _ => ?_)
  rw [threes]
  exact three_mono fun k => own'_squeeze c (rSl p j k) squeezes_S1x1x64x512_S64x512 castQ
theorem places_join (p : Fin 2) : (bigSep Finset.univ fun j => three fun k => own' c (rSl p j k) : sProp 𝕄) ⊢ own' c (rbufM p) := by
  have h := own'_join (F := F) c (rbufM p) rRR (fun _ _ => rfl) rRR_disj rRR_cov
  rw [bigSep_univ_prod] at h
  refine (show _ from bigSep_mono fun j _ => Entails.of_eq (threes _).symm).trans h

/-- A row before its block is computed. -/
def fresh (p : Fin 2) (j : Fin 4) : sProp 𝕄 := iprop(own' c (pS p j) ∗ toks c (some (p, j)) ∗ landsAt c (some (p, j)))
/-- The rows before the first point. -/
def rows0 (p : Fin 2) : sProp 𝕄 := bigSep Finset.univ fun j : Fin 4 => iprop(own' c (pS p j) ∗ toks c (some (p, j)))
/-- The rows after the first points of a call. -/
def rowsAt (p : Fin 2) (t : ℕ) : sProp 𝕄 := bigSep Finset.univ fun j : Fin 4 => if j.val + 8 < t then flies c (some (p, j)) else fresh c p j

/-- What a call's first point finds: the rows, and the landing places to give away. -/
theorem rows_start (p : Fin 2) : iprop(opened (rowE p) p.castSucc c ∗ own' c (pbufM p) ∗ own' c (rbufM p))
    ⊢ (iprop(barTok c p.castSucc ∗ three (lands c p.castSucc) ∗ rows0 c p) : sProp 𝕄) := by
  have hs := own'_split (F := F) c (pbufM p) pR (fun _ _ => rfl) pR_disj pR_cov
  have hl := lands_rows (F := F) (rowE p) p.castSucc c (rowsOf_rowE p)
  simp only [three_sep] at hl
  rw [bigSep_sep'] at hl
  unfold opened rows0
  rw [bigSep_sep', bigSep_sep', ← hl]
  iintro ⟨⟨Hb, Ht, Hr⟩, Hp, Hd⟩
  isplitl [Hb]; · iexact Hb
  isplitl [Hr Hd]
  · isplitl [Hd]; · iapply (places_split c p); iexact Hd
    iexact Hr
  isplitl [Hp]; · iapply hs; iexact Hp
  iexact Ht

theorem rows_barrier (p : Fin 2) (t : ℕ) (ht : t ≤ 8) : iprop(rows0 c p ∗ three fun k => barPay p.castSucc k c) ⊢ (rowsAt c p t : sProp 𝕄) := by
  rw [pays_rows (rowE p) p.castSucc c (rowsOf_rowE p)]
  unfold rows0 rowsAt
  rw [← bigSep_sep']
  refine bigSep_mono fun j _ => ?_
  rw [if_neg (by omega)]
  show iprop((own' c (pS p j) ∗ toks c (some (p, j))) ∗ landsAt c (some (p, j))) ⊢ fresh c p j
  unfold fresh
  iintro ⟨⟨H1, H2⟩, H3⟩
  isplitl [H1]; · iexact H1
  isplitl [H2]; · iexact H2
  iexact H3

theorem rows_same (p : Fin 2) (t t' : ℕ) (ht : t ≤ 8) (ht' : t' ≤ 8) : (rowsAt c p t : sProp 𝕄) = rowsAt c p t' := by
  unfold rowsAt
  exact bigSep_congr fun j _ => by rw [if_neg (by omega), if_neg (by omega)]

theorem rows_step (p : Fin 2) (j : Fin 4) : (rowsAt c p (8 + j.val) : sProp 𝕄) ⊢ iprop(fresh c p j ∗ (flies c (some (p, j)) -∗ rowsAt c p (8 + j.val + 1))) := by
  unfold rowsAt
  have h := bigSep_univ_update (Φ := fun i : Fin 4 => if i.val + 8 < 8 + j.val then (flies c (some (p, i)) : sProp 𝕄) else fresh c p i)
    (Ψ := fun i : Fin 4 => if i.val + 8 < 8 + j.val + 1 then flies c (some (p, i)) else fresh c p i) j (fun i hi => by
      have : i.val ≠ j.val := fun e => hi (Fin.ext e)
      by_cases h : i.val < j.val
      · rw [if_pos (by omega), if_pos (by omega)]
      · rw [if_neg (by omega), if_neg (by omega)])
  simp only [if_neg (show ¬ j.val + 8 < 8 + j.val by omega), if_pos (show j.val + 8 < 8 + j.val + 1 by omega)] at h
  exact h

theorem rows_last (p : Fin 2) : (rowsAt c p 11 : sProp 𝕄)
    = iprop(flies c (some (p, 0)) ∗ flies c (some (p, 1)) ∗ flies c (some (p, 2)) ∗ fresh c p 3) :=
  bigSep_univ_eq_bigSepL [(0 : Fin 4), 1, 2, 3] (by decide) (by decide) _

/-- What a call's last point leaves, as the call gives it back. -/
theorem rows_end (p : Fin 2) : iprop(rowEnd c p 0 ∗ rowEnd c p 1 ∗ rowEnd c p 2 ∗ rowEnd c p 3)
    ⊢ (iprop(Pipeline.ownSems0 (callSem (rowE p)) c ∗ own' c (pbufM p) ∗ own' c (rbufM p)) : sProp 𝕄) := by
  have e : (bigSep Finset.univ fun j : Fin 4 => (rowEnd c p j : sProp 𝕄)) = iprop(rowEnd c p 0 ∗ rowEnd c p 1 ∗ rowEnd c p 2 ∗ rowEnd c p 3) :=
    bigSep_univ_eq_bigSepL [(0 : Fin 4), 1, 2, 3] (by decide) (by decide) _
  have hs := own'_join (F := F) c (pbufM p) pR (fun _ _ => rfl) pR_disj pR_cov
  rw [← e, ownSems_eq]
  unfold rowEnd
  rw [bigSep_sep', bigSep_sep']
  iintro ⟨H1, H2, H3⟩
  isplitl [H1]; · iexact H1
  isplitl [H2]; · iapply hs; iexact H2
  iapply (places_join c p); iexact H3

/-! ## The last call -/

theorem last_start : iprop(opened rowL 2 c ∗ own' c rrbufM) ⊢ (iprop(barTok c 2 ∗ three (lands c 2) ∗ toks c none) : sProp 𝕄) := by
  have hs := own'_split (F := F) c rrbufM rrR (fun _ _ => rfl) rrR_disj rrR_cov
  rw [threes] at hs
  have hq : (three fun k => own' c (rrSl k) : sProp 𝕄) ⊢ three fun k => landAny none k c :=
    three_mono fun k => own'_squeeze c (rrSl k) squeezes_S1x16x2048_S16x2048 castL'
  have hl := lands_rows (F := F) rowL 2 c rowsOf_rowL
  rw [show (Finset.univ : Finset Unit) = {()} from rfl, bigSep_singleton, three_sep] at hl
  unfold opened
  rw [show (Finset.univ : Finset Unit) = {()} from rfl, bigSep_singleton, ← hl]
  iintro ⟨⟨Hb, Ht, Hr⟩, Hd⟩
  isplitl [Hb]; · iexact Hb
  isplitl [Hr Hd]
  · isplitl [Hd]; · iapply hq; iapply hs; iexact Hd
    iexact Hr
  iexact Ht

theorem last_barrier : (three fun k => barPay 2 k c : sProp 𝕄) = landsAt c none := by
  rw [pays_rows rowL 2 c rowsOf_rowL, show (Finset.univ : Finset Unit) = {()} from rfl, bigSep_singleton]; rfl

theorem last_end : (Pipeline.ownSems0 (callSem rowL) c : sProp 𝕄) = zeros c none := by
  rw [ownSems_eq, show (Finset.univ : Finset Unit) = {()} from rfl, bigSep_singleton]; rfl

end Cert.KernelIdeal.Talk

end
-- ==== Proof.Values.lean ====
/- What each call computes, as functions of the buffers before it. -/
module

public import proofs.«01_k».proof.Proof.Body2

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]
local notation "𝕄" => MT nD τ sig Unit (Elt F) ℕ UU ℕ

theorem inb_w (t : Fin 8) : ∀ a, (![0, 512 * t.val] : Fin 2 → Nat) a + S2048x512.size a ≤ S2048x4096.size a := by revert t; decide
theorem inb_u (t : Fin 4) : ∀ a, (![0, 512 * t.val] : Fin 2 → Nat) a + S4096x512.size a ≤ S4096x2048.size a := by revert t; decide
/-- Column block `t` of a first weight; column block `j` of a second weight. -/
abbrev wR (t : Fin 8) : Rect S2048x4096 := Rect.unit ![0, 512 * t.val] S2048x512.size (inb_w t)
abbrev uR (j : Fin 4) : Rect S4096x2048 := Rect.unit ![0, 512 * j.val] S4096x512.size (inb_u j)

def Wi (W : Vec F S2048x4096 .bf16) (t : Fin 8) : Vec F S2048x512 .bf16 := fun y => W ((wR t).emb y)
def Wo (U : Vec F S4096x2048 .bf16) (j : Fin 4) : Vec F S4096x512 .bf16 := fun y => U ((uR j).emb y)

/-- The hidden activations; a column block of the partial product; the whole partial product of the last call. -/
def HB (W : Vec F S2048x4096 .bf16) (X : Vec F S64x2048 .bf16) : Vec F S64x4096 .bf16 :=
  Rect.glue hR hR_cov fun t => hid (Wi W t) X
def blkV (W : Vec F S2048x4096 .bf16) (U : Vec F S4096x2048 .bf16) (X : Vec F S64x2048 .bf16) (j : Fin 4) : FVec F S64x512 .bf16 :=
  part (Wo U j) (HB W X)
def slabV (W : Vec F S2048x4096 .bf16) (U : Vec F S4096x2048 .bf16) (X : Vec F S64x2048 .bf16) : Vec F S64x2048 .bf16 :=
  Rect.glue cR cR_cov fun j => k2_pay2 (Wo U j) (HB W X)
/-- The sum over the devices, block by block, as device `c` forms it. -/
def sumV (b : Dev nD → Fin 4 → FVec F S64x512 .bf16) (c : Dev nD) : Vec F S64x2048 .bf16 :=
  Rect.glue cR cR_cov fun j => sum4 (b c j) (b (peer 0 c) j) (b (peer 1 c) j) (b (peer 2 c) j)

variable (m : (ℓ : Loc nD τ sig) → Buf (Elt F) ℓ)

def iX (c : Dev nD) : Vec F S64x2048 .bf16 := V0 m c main_arg0
def iW0 (c : Dev nD) : Vec F S2048x4096 .bf16 := V0 m c main_arg1
def iW1 (c : Dev nD) : Vec F S2048x4096 .bf16 := V0 m c main_arg2
def iW2 (c : Dev nD) : Vec F S2048x4096 .bf16 := V0 m c main_arg3
def iU0 (c : Dev nD) : Vec F S4096x2048 .bf16 := V0 m c main_arg4
def iU1 (c : Dev nD) : Vec F S4096x2048 .bf16 := V0 m c main_arg5
def iU2 (c : Dev nD) : Vec F S4096x2048 .bf16 := V0 m c main_arg6

/-- The activations before each layer. -/
def x0 (c : Dev nD) : Vec F S64x2048 .bf16 := k0_pay1 (iX m c)
def b0 (c : Dev nD) (j : Fin 4) : FVec F S64x512 .bf16 := blkV (iW0 m c) (iU0 m c) (x0 m c) j
def x1 (c : Dev nD) : Vec F S64x2048 .bf16 := sumV (b0 m) c
def b1 (c : Dev nD) (j : Fin 4) : FVec F S64x512 .bf16 := blkV (iW1 m c) (iU1 m c) (x1 m c) j
def x2 (c : Dev nD) : Vec F S64x2048 .bf16 := sumV (b1 m) c
def sl (c : Dev nD) : Vec F S64x2048 .bf16 := slabV (iW2 m c) (iU2 m c) (x2 m c)

/-- What the copies of the run carry. -/
def vals : Vals F where
  blk c p j := match p with | 0 => b0 m c j | 1 => b1 m c j
  slab c := sl m c

/-- The result on a device. -/
def x3 (c : Dev nD) : FVec F S16x2048 .f32 := res2 (vals m) c

theorem res_0 (c : Dev nD) : Rect.glue cR cR_cov (res (vals m) c 0) = x1 m c := rfl
theorem res_1 (c : Dev nD) : Rect.glue cR cR_cov (res (vals m) c 1) = x2 m c := rfl

/-- What each call leaves in its result array. -/
def outs : Outs (F := F) := fun n r c => match n, r with
  | 1, r => if h : r = main_v1 then h ▸ x1 m c else V0 m c r
  | 2, r => if h : r = main_v2 then h ▸ x2 m c else V0 m c r
  | 3, r => if h : r = main_v3 then h ▸ x3 m c else V0 m c r
  | _, r => V0 m c r

theorem outs_1 (c : Dev nD) : outs m 1 main_v1 c = x1 m c := by simp [outs]
theorem outs_2 (c : Dev nD) : outs m 2 main_v2 c = x2 m c := by simp [outs]
theorem outs_3 (c : Dev nD) : outs m 3 main_v3 c = x3 m c := by simp [outs]

/-! ## The windows' blocks -/

theorem ix0_0 : ∀ t : Fin grid0.N, cc0_transform_0 (grid0.coords t) = ![0, 0] := by decide
theorem ix0_1 : ∀ t : Fin grid0.N, cc0_transform_1 (grid0.coords t) = ![0, min t.val 7] := by decide
theorem ix0_2 : ∀ t : Fin grid0.N, cc0_transform_2 (grid0.coords t) = ![0, t.val - 8] := by decide
theorem ix0_3 : ∀ t : Fin grid0.N, cc0_transform_3 (grid0.coords t) = ![0, 0] := by decide
theorem ix1_0 : ∀ t : Fin grid1.N, cc1_transform_0 (grid1.coords t) = ![0, 0] := by decide
theorem ix1_1 : ∀ t : Fin grid1.N, cc1_transform_1 (grid1.coords t) = ![0, min t.val 7] := by decide
theorem ix1_2 : ∀ t : Fin grid1.N, cc1_transform_2 (grid1.coords t) = ![0, t.val - 8] := by decide
theorem ix1_3 : ∀ t : Fin grid1.N, cc1_transform_3 (grid1.coords t) = ![0, 0] := by decide
theorem ix2_0 : ∀ t : Fin grid2.N, cc2_transform_0 (grid2.coords t) = ![0, 0] := by decide
theorem ix2_1 : ∀ t : Fin grid2.N, cc2_transform_1 (grid2.coords t) = ![0, min t.val 7] := by decide
theorem ix2_2 : ∀ t : Fin grid2.N, cc2_transform_2 (grid2.coords t) = ![0, t.val - 8] := by decide
theorem ix2_3 : ∀ t : Fin grid2.N, cc2_transform_3 (grid2.coords t) = ![0, 0] := by decide

theorem blk0_0 (t : Fin grid0.N) (X : Vec F S64x2048 .bf16) : (win0_0.blk t).view.read (Elt F) X = X := by
  funext y
  refine congrArg X (funext fun a => Fin.ext ?_)
  have h := congrFun (ix0_0 t) a
  show cc0_transform_0 (grid0.coords t) a * S64x2048.size a + 1 * (y a).val = (y a).val
  rw [h]
  match a with
  | 0 => show 0 * 64 + 1 * _ = _; omega
  | 1 => show 0 * 2048 + 1 * _ = _; omega

theorem blk0_1 (t : Fin grid0.N) (t8 : Fin 8) (h8 : t.val = t8.val) (X : Vec F S2048x4096 .bf16) : (win0_1.blk t).view.read (Elt F) X = Wi X t8 := by
  funext y
  refine congrArg X (funext fun a => Fin.ext ?_)
  have h := congrFun (ix0_1 t) a
  have hl := t8.isLt
  show cc0_transform_1 (grid0.coords t) a * S2048x512.size a + 1 * (y a).val = (![0, 512 * t8.val] : Fin 2 → ℕ) a + 1 * (y a).val
  rw [h]
  match a with
  | 0 => show 0 * 2048 + 1 * _ = 0 + 1 * _; omega
  | 1 => show min t.val 7 * 512 + 1 * _ = 512 * t8.val + 1 * _; omega

theorem blk0_2 (t : Fin grid0.N) (j : Fin 4) (hj : t.val = 8 + j.val) (X : Vec F S4096x2048 .bf16) : (win0_2.blk t).view.read (Elt F) X = Wo X j := by
  funext y
  refine congrArg X (funext fun a => Fin.ext ?_)
  have h := congrFun (ix0_2 t) a
  show cc0_transform_2 (grid0.coords t) a * S4096x512.size a + 1 * (y a).val = (![0, 512 * j.val] : Fin 2 → ℕ) a + 1 * (y a).val
  rw [h]
  match a with
  | 0 => show 0 * 4096 + 1 * _ = 0 + 1 * _; omega
  | 1 => show (t.val - 8) * 512 + 1 * _ = 512 * j.val + 1 * _; omega

theorem blk1_0 (t : Fin grid1.N) (X : Vec F S64x2048 .bf16) : (win1_0.blk t).view.read (Elt F) X = X := by
  funext y
  refine congrArg X (funext fun a => Fin.ext ?_)
  have h := congrFun (ix1_0 t) a
  show cc1_transform_0 (grid1.coords t) a * S64x2048.size a + 1 * (y a).val = (y a).val
  rw [h]
  match a with
  | 0 => show 0 * 64 + 1 * _ = _; omega
  | 1 => show 0 * 2048 + 1 * _ = _; omega

theorem blk1_1 (t : Fin grid1.N) (t8 : Fin 8) (h8 : t.val = t8.val) (X : Vec F S2048x4096 .bf16) : (win1_1.blk t).view.read (Elt F) X = Wi X t8 := by
  funext y
  refine congrArg X (funext fun a => Fin.ext ?_)
  have h := congrFun (ix1_1 t) a
  have hl := t8.isLt
  show cc1_transform_1 (grid1.coords t) a * S2048x512.size a + 1 * (y a).val = (![0, 512 * t8.val] : Fin 2 → ℕ) a + 1 * (y a).val
  rw [h]
  match a with
  | 0 => show 0 * 2048 + 1 * _ = 0 + 1 * _; omega
  | 1 => show min t.val 7 * 512 + 1 * _ = 512 * t8.val + 1 * _; omega

theorem blk1_2 (t : Fin grid1.N) (j : Fin 4) (hj : t.val = 8 + j.val) (X : Vec F S4096x2048 .bf16) : (win1_2.blk t).view.read (Elt F) X = Wo X j := by
  funext y
  refine congrArg X (funext fun a => Fin.ext ?_)
  have h := congrFun (ix1_2 t) a
  show cc1_transform_2 (grid1.coords t) a * S4096x512.size a + 1 * (y a).val = (![0, 512 * j.val] : Fin 2 → ℕ) a + 1 * (y a).val
  rw [h]
  match a with
  | 0 => show 0 * 4096 + 1 * _ = 0 + 1 * _; omega
  | 1 => show (t.val - 8) * 512 + 1 * _ = 512 * j.val + 1 * _; omega

theorem blk2_0 (t : Fin grid2.N) (X : Vec F S64x2048 .bf16) : (win2_0.blk t).view.read (Elt F) X = X := by
  funext y
  refine congrArg X (funext fun a => Fin.ext ?_)
  have h := congrFun (ix2_0 t) a
  show cc2_transform_0 (grid2.coords t) a * S64x2048.size a + 1 * (y a).val = (y a).val
  rw [h]
  match a with
  | 0 => show 0 * 64 + 1 * _ = _; omega
  | 1 => show 0 * 2048 + 1 * _ = _; omega

theorem blk2_1 (t : Fin grid2.N) (t8 : Fin 8) (h8 : t.val = t8.val) (X : Vec F S2048x4096 .bf16) : (win2_1.blk t).view.read (Elt F) X = Wi X t8 := by
  funext y
  refine congrArg X (funext fun a => Fin.ext ?_)
  have h := congrFun (ix2_1 t) a
  have hl := t8.isLt
  show cc2_transform_1 (grid2.coords t) a * S2048x512.size a + 1 * (y a).val = (![0, 512 * t8.val] : Fin 2 → ℕ) a + 1 * (y a).val
  rw [h]
  match a with
  | 0 => show 0 * 2048 + 1 * _ = 0 + 1 * _; omega
  | 1 => show min t.val 7 * 512 + 1 * _ = 512 * t8.val + 1 * _; omega

theorem blk2_2 (t : Fin grid2.N) (j : Fin 4) (hj : t.val = 8 + j.val) (X : Vec F S4096x2048 .bf16) : (win2_2.blk t).view.read (Elt F) X = Wo X j := by
  funext y
  refine congrArg X (funext fun a => Fin.ext ?_)
  have h := congrFun (ix2_2 t) a
  show cc2_transform_2 (grid2.coords t) a * S4096x512.size a + 1 * (y a).val = (![0, 512 * j.val] : Fin 2 → ℕ) a + 1 * (y a).val
  rw [h]
  match a with
  | 0 => show 0 * 4096 + 1 * _ = 0 + 1 * _; omega
  | 1 => show (t.val - 8) * 512 + 1 * _ = 512 * j.val + 1 * _; omega

end Cert.KernelIdeal.Talk

end
-- ==== Proof.Points.lean ====
/- The calls before the last, point by point: what a device holds and owes between points, and that the body takes it on. -/
module

public import proofs.«01_k».proof.Proof.Rows
public import proofs.«01_k».proof.Proof.Values

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]
local notation "𝕄" => MT nD τ sig Unit (Elt F) ℕ UU ℕ

/-- What lasts through the run. -/
def pers (v : Vals F) : sProp 𝕄 := iprop((∃ κ, records v κ) ∗ levAts L lv)
instance pers_persistent (v : Vals F) : BI.Persistent (pers v : sProp 𝕄) := by unfold pers; infer_instance

/-- What a device owes before point `n` of call `p`. -/
def owedAt (p : Fin 2) (c : Dev nD) (n : ℕ) : CellTallies nD τ sig Unit :=
  if n = 0 then addBar p.castSucc c (blocks p c (nxt c p) 4) else blocks p c (nxt c p) (min 4 (12 - n))

theorem owedAt_zero (p : Fin 2) (c : Dev nD) : owedAt p c 0 = addBar p.castSucc c (blocks p c (nxt c p) 4) := if_pos rfl
theorem owedAt_early (p : Fin 2) (c : Dev nD) {n : ℕ} (h : 0 < n) (h' : n ≤ 8) : owedAt p c n = blocks p c (nxt c p) 4 := by
  unfold owedAt; rw [if_neg (by omega), show min 4 (12 - n) = 4 from by omega]
theorem owedAt_row (p : Fin 2) (c : Dev nD) (j : Fin 4) : owedAt p c (8 + j.val) = addRow (some (p, j)) c (owedAt p c (8 + j.val + 1)) := by
  have hj := j.isLt
  unfold owedAt
  rw [if_neg (by omega), if_neg (by omega), show min 4 (12 - (8 + j.val)) = 4 - j.val from by omega,
    show min 4 (12 - (8 + j.val + 1)) = 3 - j.val from by omega]
  exact blocks_succ p c _ j
theorem owedAt_last (p : Fin 2) (c : Dev nD) : owedAt p c 12 = nxt c p := rfl

section State

variable (v : Vals F) (p : Fin 2) (W : Vec F S2048x4096 .bf16) (X : Vec F S64x2048 .bf16) (hM : Memref sig .tc .vmem S64x4096 .bf16) (c : Dev nD)

/-- The hidden activations' buffer with its first `n` column blocks computed. -/
def hidAt (n : ℕ) : sProp 𝕄 := iprop(∃ H, ⌜UpTo hR (fun t => hid (Wi W t) X) n H⌝ ∗ owns (c : Thread nD τ) hM fullShare H)

/-- What a device holds between points besides the windows. -/
def st (n : ℕ) : sProp 𝕄 :=
  if n = 0 then iprop(barTok c p.castSucc ∗ three (lands c p.castSucc) ∗ rows0 c p ∗ own' c hM)
  else if n = 12 then iprop(semVal (barC p.castSucc c) 0 ∗ (rowEnd c p 0 ∗ rowEnd c p 1 ∗ rowEnd c p 2 ∗ rowEnd c p 3) ∗ own' c hM)
  else iprop(semVal (barC p.castSucc c) 0 ∗ rowsAt c p n ∗ hidAt W X hM c n)

theorem st_zero : (st p W X hM c 0 : sProp 𝕄) = iprop(barTok c p.castSucc ∗ three (lands c p.castSucc) ∗ rows0 c p ∗ own' c hM) := if_pos rfl
theorem st_last : (st p W X hM c 12 : sProp 𝕄) = iprop(semVal (barC p.castSucc c) 0 ∗ (rowEnd c p 0 ∗ rowEnd c p 1 ∗ rowEnd c p 2 ∗ rowEnd c p 3) ∗ own' c hM) := rfl
theorem st_mid {n : ℕ} (h : 0 < n) (h' : n < 12) : (st p W X hM c n : sProp 𝕄) = iprop(semVal (barC p.castSucc c) 0 ∗ rowsAt c p n ∗ hidAt W X hM c n) := by
  unfold st; rw [if_neg (by omega), if_neg (by omega)]

/-- After the eighth block the buffer holds all of them. -/
theorem hid_full {n : ℕ} (h : 8 ≤ n) {H : Vec F S64x4096 .bf16} (hu : UpTo hR (fun t => hid (Wi W t) X) n H) : H = HB W X :=
  upTo_full hR hR_cov hR_disj h hu
theorem hid_all (n : ℕ) {H : Vec F S64x4096 .bf16} (hH : H = HB W X) : UpTo hR (fun t => hid (Wi W t) X) n H := by
  subst hH; intro t _ z; exact Rect.glue_emb hR hR_cov hR_disj _ t z

variable (t : Fin grid0.N)
  (arg1 : Memref sig .tc .vmem S64x2048 .bf16) (harg1 : arg1.IsWhole) (arg2 : Memref sig .tc .vmem S2048x512 .bf16) (harg2 : arg2.IsWhole)
  (arg3 : Memref sig .tc .vmem S4096x512 .bf16) (harg3 : arg3.IsWhole) (arg4 : Memref sig .tc .vmem S64x2048 .bf16) (harg4 : arg4.IsWhole)
  (arg5 : Memref sig .tc .vmem S64x2048 .bf16) (harg5 : arg5.IsWhole) (harg6 : hM.IsWhole)

set_option maxHeartbeats 1000000 in
/-- Every point after the first. -/
theorem point (U : Vec F S4096x2048 .bf16) (hv : ∀ j, v.blk c p j = part (Wo U j) (HB W X))
    (harg7 : (pbufM p).IsWhole) (arg8 : Memref sig .tc .vmem S64x2048 .bf16) (harg8 : arg8.IsWhole)
    (harg9 : (rbufM p).IsWhole) (arg10 : Memref sig .tc .vmem S3x16x2048 .bf16) (harg10 : arg10.IsWhole) (arg13 arg14 : DmaSems sig S3)
    (h0 : 0 < t.val) (B1 : Vec F S2048x512 .bf16) (h1 : ∀ t8 : Fin 8, t.val = t8.val → B1 = Wi W t8)
    (B2 : Vec F S4096x512 .bf16) (h2 : ∀ j : Fin 4, t.val = 8 + j.val → B2 = Wo U j) (O : Vec F S64x2048 .bf16) (Q : PUnit.{1} → sProp 𝕄) :
    iprop(pers v ∗ ow c (owedAt p c t.val) ∗ st p W X hM c t.val ∗ owns (c : Thread nD τ) arg2 fullShare B1 ∗ owns (c : Thread nD τ) arg3 fullShare B2
      ∗ owns (c : Thread nD τ) arg4 fullShare O ∗ owns (c : Thread nD τ) arg5 fullShare X
      ∗ ((ow c (owedAt p c (t.val + 1)) ∗ st p W X hM c (t.val + 1) ∗ owns (c : Thread nD τ) arg2 fullShare B1 ∗ owns (c : Thread nD τ) arg3 fullShare B2
          ∗ owns (c : Thread nD τ) arg4 fullShare (if t.val = 11 then Rect.glue cR cR_cov (res v c p) else O) ∗ owns (c : Thread nD τ) arg5 fullShare X) -∗ Q ⟨⟩))
      ⊢ WP c (cc0__layer_body (F := F) (grid0.coords t) arg1 harg1 arg2 harg2 arg3 harg3 arg4 harg4 arg5 harg5 hM harg6 (pbufM p) harg7 arg8 harg8 (rbufM p) harg9 arg10 harg10 (sArr p) (rArr p) arg13 arg14) Q := by
  have hN : t.val < 12 := N_0 ▸ t.isLt
  by_cases hB : t.val < 8
  · -- a block of the hidden activations
    obtain ⟨t8, h8⟩ : ∃ t8 : Fin 8, t.val = t8.val := ⟨⟨t.val, hB⟩, rfl⟩
    rw [owedAt_early p c h0 (by omega), owedAt_early p c (Nat.succ_pos _) (by omega), st_mid p W X hM c h0 hN, st_mid p W X hM c (Nat.succ_pos _) (by omega),
      if_neg (by omega), rows_same c p (t.val + 1) t.val (by omega) (by omega), h1 t8 h8]
    unfold hidAt
    iintro ⟨-, HO, ⟨Hb, Hr, ⟨%H, %hH, H6⟩⟩, H2, H3, H4, H5, Hk⟩
    iapply (bodyB c t arg1 harg1 arg2 harg2 arg3 harg3 arg4 harg4 arg5 harg5 hM harg6 (pbufM p) harg7 arg8 harg8 (rbufM p) harg9 arg10 harg10 (sArr p) (rArr p) arg13 arg14 h0 t8 h8 (Wi W t8) X H Q)
    isplitl [H2]; · iexact H2
    isplitl [H5]; · iexact H5
    isplitl [H6]; · iexact H6
    iintro ⟨H2, H5, H6⟩
    iapply Hk
    isplitl [HO]; · iexact HO
    isplitl [Hb Hr H6]
    · isplitl [Hb]; · iexact Hb
      isplitl [Hr]; · iexact Hr
      iexists _
      isplitr [H6]
      rotate_left
      · iexact H6
      · ipureintro
        rw [h8] at hH ⊢
        exact upTo_step hR hR_disj t8 hH
    isplitl [H2]; · iexact H2
    isplitl [H3]; · iexact H3
    isplitl [H4]; · iexact H4
    iexact H5
  obtain ⟨j, hj⟩ : ∃ j : Fin 4, t.val = 8 + j.val := ⟨⟨t.val - 8, by omega⟩, by show t.val = 8 + (t.val - 8); omega⟩
  by_cases hC : j.val < 3
  · rw [hj, owedAt_row p c j, st_mid p W X hM c (show 0 < 8 + j.val by omega) (by omega), st_mid p W X hM c (Nat.succ_pos _) (by omega),
      if_neg (by omega), h2 j hj]
    unfold hidAt pers
    iintro ⟨⟨⟨%κ, #HR⟩, -⟩, HO, ⟨Hb, Hr, ⟨%H, %hH, H6⟩⟩, H2, H3, H4, H5, Hk⟩
    have hH' := hid_full W X (show 8 ≤ 8 + j.val by omega) hH
    subst hH'
    ihave Hr := (rows_step c p j) $$ Hr
    unfold fresh
    icases Hr with ⟨⟨Hp, Ht, Hl⟩, Hr⟩
    iapply (bodyC v κ c t arg1 harg1 arg2 harg2 arg3 harg3 arg4 harg4 arg5 harg5 hM harg6 p j harg7 arg8 harg8 harg9 arg10 harg10 arg13 arg14 hj hC _ (Wo U j) (HB W X) (hv j) Q)
    isplitr; · iexact HR
    isplitl [HO]; · iexact HO
    isplitl [Hp]; · iexact Hp
    isplitl [Ht]; · iexact Ht
    isplitl [Hl]; · iexact Hl
    isplitl [H3]; · iexact H3
    isplitl [H6]; · iexact H6
    iintro ⟨HO, Hf, H3, H6⟩
    ihave Hr := Hr $$ Hf
    iapply Hk
    isplitl [HO]; · iexact HO
    isplitl [Hb Hr H6]
    · isplitl [Hb]; · iexact Hb
      isplitl [Hr]; · iexact Hr
      iexists (HB W X)
      isplitr [H6]
      · ipureintro; exact hid_all W X _ rfl
      iexact H6
    isplitl [H2]; · iexact H2
    isplitl [H3]; · iexact H3
    isplitl [H4]; · iexact H4
    iexact H5
  · have hj3 : j = 3 := Fin.ext (by have := j.isLt; show j.val = 3; omega)
    subst hj3
    have ht : t.val = 11 := hj
    have hr := owedAt_row p c 3
    rw [show 8 + (3 : Fin 4).val = 11 from rfl] at hr
    rw [ht, hr, st_mid p W X hM c (show 0 < 11 by omega) (by omega), if_pos rfl, st_last, h2 3 hj, rows_last]
    unfold hidAt pers fresh
    iintro ⟨⟨⟨%κ, #HR⟩, #HL⟩, HO, ⟨Hb, ⟨Hf0, Hf1, Hf2, Hp, Ht, Hl⟩, ⟨%H, %hH, H6⟩⟩, H2, H3, H4, H5, Hk⟩
    have hH' := hid_full W X (show 8 ≤ 11 by omega) hH
    subst hH'
    iapply (bodyD v κ c t arg1 harg1 arg2 harg2 arg3 harg3 arg4 harg4 arg5 harg5 hM harg6 p harg7 arg8 harg8 harg9 arg10 harg10 arg13 arg14 ht (owedAt p c 12) (above_nxt p c) O (Wo U 3) (HB W X) (hv 3) Q)
    isplitr; · iexact HR
    isplitr; · iexact HL
    isplitl [HO]; · iexact HO
    isplitl [Hp]; · iexact Hp
    isplitl [Ht]; · iexact Ht
    isplitl [Hl]; · iexact Hl
    isplitl [Hf0]; · iexact Hf0
    isplitl [Hf1]; · iexact Hf1
    isplitl [Hf2]; · iexact Hf2
    isplitl [H4]; · iexact H4
    isplitl [H3]; · iexact H3
    isplitl [H6]; · iexact H6
    iintro ⟨HO, Hr, H3, H6, H4⟩
    iapply Hk
    isplitl [HO]; · iexact HO
    isplitl [Hb Hr H6]
    · isplitl [Hb]; · iexact Hb
      isplitl [Hr]; · iexact Hr
      iapply (own'_intro c _ _); iexact H6
    isplitl [H2]; · iexact H2
    isplitl [H3]; · iexact H3
    isplitl [H4]; · iexact H4
    iexact H5

/-- The hidden activations' buffer after the first block. -/
theorem hid_first (B1 : Vec F S2048x512 .bf16) (h1 : ∀ t8 : Fin 8, t.val = t8.val → B1 = Wi W t8) (h0 : t.val = 0) (H : Vec F S64x4096 .bf16) :
    UpTo hR (fun t => hid (Wi W t) X) 1 ((hR 0).overlay H (hid B1 X)) := by
  rw [h1 0 h0]
  exact upTo_step hR hR_disj (b := fun t => hid (Wi W t) X) 0 (upTo_zero hR _ H)

/-- The first point of call 0. -/
theorem point0 (arg7 : Memref sig .tc .vmem S4x64x512 .bf16) (harg7 : arg7.IsWhole) (arg8 : Memref sig .tc .vmem S64x2048 .bf16) (harg8 : arg8.IsWhole)
    (arg9 : Memref sig .tc .vmem S4x3x64x512 .bf16) (harg9 : arg9.IsWhole) (arg10 : Memref sig .tc .vmem S3x16x2048 .bf16) (harg10 : arg10.IsWhole) (arg11 arg12 : DmaSems sig S12) (arg13 arg14 : DmaSems sig S3)
    (h0 : t.val = 0) (B1 : Vec F S2048x512 .bf16) (h1 : ∀ t8 : Fin 8, t.val = t8.val → B1 = Wi W t8) (A : Vec F S64x2048 .bf16) (Q : PUnit.{1} → sProp 𝕄) :
    iprop(pers v ∗ ow c (owedAt 0 c 0) ∗ st 0 W (k0_pay1 A) hM c 0 ∗ owns (c : Thread nD τ) arg1 fullShare A ∗ owns (c : Thread nD τ) arg2 fullShare B1 ∗ own' c arg5
      ∗ ((ow c (owedAt 0 c 1) ∗ st 0 W (k0_pay1 A) hM c 1 ∗ owns (c : Thread nD τ) arg1 fullShare A ∗ owns (c : Thread nD τ) arg2 fullShare B1
          ∗ owns (c : Thread nD τ) arg5 fullShare (k0_pay1 A)) -∗ Q ⟨⟩))
      ⊢ WP c (cc0__layer_body (F := F) (grid0.coords t) arg1 harg1 arg2 harg2 arg3 harg3 arg4 harg4 arg5 harg5 hM harg6 arg7 harg7 arg8 harg8 arg9 harg9 arg10 harg10 arg11 arg12 arg13 arg14) Q := by
  rw [owedAt_zero, owedAt_early 0 c Nat.one_pos (by omega), st_zero, st_mid 0 W _ hM c Nat.one_pos (by omega)]
  unfold pers own' hidAt
  iintro ⟨⟨⟨%κ, #HR⟩, #HL⟩, HO, ⟨Hb, Hl, Hr, ⟨%H, H6⟩⟩, H1, H2, ⟨%X5, H5⟩, Hk⟩
  iapply (bodyA0 v κ c t arg1 harg1 arg2 harg2 arg3 harg3 arg4 harg4 arg5 harg5 hM harg6 arg7 harg7 arg8 harg8 arg9 harg9 arg10 harg10 arg11 arg12 arg13 arg14 h0 _ (above_blocks 0 c (above_mono (by decide) (above_nxt 0 c)) 4) A X5 B1 H Q)
  isplitr; · iexact HR
  isplitr; · iexact HL
  isplitl [HO]; · iexact HO
  isplitl [Hb]; · iexact Hb
  isplitl [Hl]; · iexact Hl
  isplitl [H1]; · iexact H1
  isplitl [H2]; · iexact H2
  isplitl [H5]; · iexact H5
  isplitl [H6]; · iexact H6
  iintro ⟨⟨HO, Hb, Hp⟩, H1, H2, H5, H6⟩
  iapply Hk
  isplitl [HO]; · iexact HO
  isplitl [Hb Hp Hr H6]
  · isplitl [Hb]; · iexact Hb
    isplitl [Hp Hr]
    · iapply (rows_barrier c 0 1 (by omega))
      isplitl [Hr]; · iexact Hr
      iexact Hp
    iexists _
    isplitr [H6]
    rotate_left
    · iexact H6
    · ipureintro; exact hid_first W (k0_pay1 A) t B1 h1 h0 H
  isplitl [H1]; · iexact H1
  isplitl [H2]; · iexact H2
  iexact H5

/-- The first point of call 1. -/
theorem point1 (arg7 : Memref sig .tc .vmem S4x64x512 .bf16) (harg7 : arg7.IsWhole) (arg8 : Memref sig .tc .vmem S64x2048 .bf16) (harg8 : arg8.IsWhole)
    (arg9 : Memref sig .tc .vmem S4x3x64x512 .bf16) (harg9 : arg9.IsWhole) (arg10 : Memref sig .tc .vmem S3x16x2048 .bf16) (harg10 : arg10.IsWhole) (arg11 arg12 : DmaSems sig S12) (arg13 arg14 : DmaSems sig S3)
    (h0 : t.val = 0) (B1 : Vec F S2048x512 .bf16) (h1 : ∀ t8 : Fin 8, t.val = t8.val → B1 = Wi W t8) (Q : PUnit.{1} → sProp 𝕄) :
    iprop(pers v ∗ ow c (owedAt 1 c 0) ∗ st 1 W X hM c 0 ∗ owns (c : Thread nD τ) arg1 fullShare X ∗ owns (c : Thread nD τ) arg2 fullShare B1
      ∗ ((ow c (owedAt 1 c 1) ∗ st 1 W X hM c 1 ∗ owns (c : Thread nD τ) arg1 fullShare X ∗ owns (c : Thread nD τ) arg2 fullShare B1) -∗ Q ⟨⟩))
      ⊢ WP c (cc1__layer_body (F := F) (grid1.coords t) arg1 harg1 arg2 harg2 arg3 harg3 arg4 harg4 arg5 harg5 hM harg6 arg7 harg7 arg8 harg8 arg9 harg9 arg10 harg10 arg11 arg12 arg13 arg14) Q := by
  rw [owedAt_zero, owedAt_early 1 c Nat.one_pos (by omega), st_zero, st_mid 1 W _ hM c Nat.one_pos (by omega)]
  unfold pers own' hidAt
  iintro ⟨⟨⟨%κ, #HR⟩, #HL⟩, HO, ⟨Hb, Hl, Hr, ⟨%H, H6⟩⟩, H1, H2, Hk⟩
  iapply (bodyA1 v κ c t arg1 harg1 arg2 harg2 arg3 harg3 arg4 harg4 arg5 harg5 hM harg6 arg7 harg7 arg8 harg8 arg9 harg9 arg10 harg10 arg11 arg12 arg13 arg14 h0 _ (above_blocks 1 c (above_mono (by decide) (above_nxt 1 c)) 4) X B1 H Q)
  isplitr; · iexact HR
  isplitr; · iexact HL
  isplitl [HO]; · iexact HO
  isplitl [Hb]; · iexact Hb
  isplitl [Hl]; · iexact Hl
  isplitl [H1]; · iexact H1
  isplitl [H2]; · iexact H2
  isplitl [H6]; · iexact H6
  iintro ⟨⟨HO, Hb, Hp⟩, H1, H2, H6⟩
  iapply Hk
  isplitl [HO]; · iexact HO
  isplitl [Hb Hp Hr H6]
  · isplitl [Hb]; · iexact Hb
    isplitl [Hp Hr]
    · iapply (rows_barrier c 1 1 (by omega))
      isplitl [Hr]; · iexact Hr
      iexact Hp
    iexists _
    isplitr [H6]
    rotate_left
    · iexact H6
    · ipureintro; exact hid_first W X t B1 h1 h0 H
  isplitl [H1]; · iexact H1
  iexact H2

end State

end Cert.KernelIdeal.Talk

end
-- ==== Proof.Dats.lean ====
/- What the three calls do to their windows, what a device holds and owes between the points, and that the bodies satisfy it: the first two calls. -/
module

public import proofs.«01_k».proof.Proof.Points

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]
local notation "𝕄" => MT nD τ sig Unit (Elt F) ℕ UU ℕ

variable (m : (ℓ : Loc nD τ sig) → Buf (Elt F) ℓ) (c : Dev nD)

/-- A scratch buffer, at contents not chosen. -/
abbrev anyBuf (c : Dev nD) (b : Ref sig .tc) : sProp 𝕄 := iprop(∃ f : Buf (Elt F) ((c : Thread nD τ).loc b), ((c : Thread nD τ).loc b) ↦{fullShare} f)

/-- What call 0 leaves alone. -/
def rest0 : sProp 𝕄 :=
  iprop((∃ r, prngReg c r) ∗ (anyBuf c cc0_scratch3 ∗ anyBuf c cc0_scratch5)
    ∗ Pipeline.scopedRestBut (Ix := Unit) (Name := ℕ) (U := UU) (Lvl := ℕ) (Val := Elt F) spec0 c [cc0_scratch0, cc0_scratch1, cc0_scratch2, cc0_scratch3, cc0_scratch4, cc0_scratch5])

/-- The activations' scratch of call 0: rounded at the first point. -/
def xAt (n : ℕ) : sProp 𝕄 := if n = 0 ∨ n = 12 then own' c (Memref.whole cc0_scratch0) else owns (c : Thread nD τ) (Memref.whole cc0_scratch0) fullShare (x0 m c)

def dat0 : Pipeline.Dat τ (Elt F) Unit ℕ UU ℕ cfg0 c where
  A w := V0 m c (Proc.devRef .tc (Pipeline.arrRef spec0 w))
  after w t := match w with
    | 0 => iX m c
    | 1 => (win0_1.blk t).view.read (Elt F) (iW0 m c)
    | 2 => (win0_2.blk t).view.read (Elt F) (iU0 m c)
    | 3 => x1 m c
    | ⟨_ + 4, h⟩ => absurd h (Nat.not_lt.2 (Nat.le_add_left _ _))
  Φ n := iprop(rest0 c ∗ pers (vals m) ∗ st 0 (iW0 m c) (x0 m c) (Memref.whole cc0_scratch1) c n.val ∗ xAt m c n.val)
  q _ := fullShare
  owed n := owedAt 0 c n.val
  recorded _ := Set.univ

theorem keep0_0 (t : Fin cfg0.N) (d) : (dat0 m c).before 0 t d = iX m c :=
  ((dat0 m c).before_in_eq_fetched 0 rfl (fun _ => rfl) (fun _ _ _ => rfl) (fun t => (blk0_0 t (iX m c)).symm) t d).trans (blk0_0 t (iX m c))
theorem keep0_1 (t : Fin cfg0.N) (d) : (dat0 m c).before 1 t d = (win0_1.blk t).view.read (Elt F) (iW0 m c) :=
  (dat0 m c).before_in_eq_fetched 1 rfl (fun _ => rfl) (fun _ _ _ => rfl) (fun t => rfl) t d
theorem keep0_2 (t : Fin cfg0.N) (d) : (dat0 m c).before 2 t d = (win0_2.blk t).view.read (Elt F) (iU0 m c) :=
  (dat0 m c).before_in_eq_fetched 2 rfl (fun _ => rfl) (fun _ _ _ => rfl) (fun t => rfl) t d

/-! ## The bodies -/

theorem ow_intro {cfg : Pipeline.Cfg sig Λ₀} {c : Dev nD} (dat : Pipeline.Dat τ (Elt F) Unit ℕ UU ℕ cfg c) (t : Fin (cfg.N + 1))
    (X : CellTallies nD τ sig Unit) (h : dat.owed t = X) (hr : dat.recorded t = Set.univ) : (ow c X : sProp 𝕄) ⊢ (dat.owesAt () t : sProp 𝕄) := by
  unfold ow Pipeline.Dat.owesAt Pipeline.owesWithin Pipeline.Dat.bound; rw [h, hr]
  iintro ⟨%W, H⟩; iexists W; isplitr; · ipureintro; exact fun _ _ => Or.inl trivial
  iexact H
theorem ow_elim {cfg : Pipeline.Cfg sig Λ₀} {c : Dev nD} (dat : Pipeline.Dat τ (Elt F) Unit ℕ UU ℕ cfg c) (t : Fin (cfg.N + 1))
    (X : CellTallies nD τ sig Unit) (h : dat.owed t = X) : (dat.owesAt () t : sProp 𝕄) ⊢ (ow c X : sProp 𝕄) := by
  unfold ow Pipeline.Dat.owesAt Pipeline.owesWithin; rw [h]
  iintro ⟨%W, -, H⟩; iexists W; iexact H

theorem leaves_live {cfg : Pipeline.Cfg sig Λ₀} {c : Dev nD} (dat : Pipeline.Dat τ (Elt F) Unit ℕ UU ℕ cfg c) (w : Fin cfg.W) (t : Fin cfg.N)
    (h : cfg.idle w (cfg.grid.coords t) = false) :
    (dat.leavesExact w t : sProp 𝕄) = owns (c : Thread nD τ) ((cfg.win w).stage (cfg.slots t w)) fullShare (dat.after w t) := by
  unfold Pipeline.Dat.leavesExact; rw [h]
theorem leaves_idle {cfg : Pipeline.Cfg sig Λ₀} {c : Dev nD} (dat : Pipeline.Dat τ (Elt F) Unit ℕ UU ℕ cfg c) (w : Fin cfg.W) (t : Fin cfg.N)
    (h : cfg.idle w (cfg.grid.coords t) = true) (hf : (cfg.win w).flush t = false) :
    (dat.leavesExact w t : sProp 𝕄) = iprop(∃ d, owns (c : Thread nD τ) ((cfg.win w).stage (cfg.slots t w)) fullShare (dat.before w t d)) := by
  unfold Pipeline.Dat.leavesExact; rw [h, hf]

theorem idle0_lt (t : Fin cfg0.N) (h : t.val < 11) : cfg0.idle 3 (cfg0.grid.coords t) = true := by
  show (!(k0_cond4 (grid0.coords t) == 1#1)) = true
  rw [beq_eq_false_iff_ne.mpr (cond4_neg t h)]; rfl
theorem idle0_last (t : Fin cfg0.N) (h : t.val = 11) : cfg0.idle 3 (cfg0.grid.coords t) = false := by
  show (!(k0_cond4 (grid0.coords t) == 1#1)) = false
  rw [beq_iff_eq.mpr (cond4_pos t h)]; rfl
theorem flush0_lt (t : Fin cfg0.N) (h : t.val < 11) : (cfg0.win 3).flush t = false := by
  rw [← Bool.not_eq_true]
  intro hf
  have := (flush0_3 t).mp hf
  omega

theorem xAt_ends (n : ℕ) (h : n = 0 ∨ n = 12) : (xAt m c n : sProp 𝕄) = own' c (Memref.whole cc0_scratch0) := if_pos h
theorem xAt_mid (n : ℕ) (h : 0 < n) (h' : n < 12) : (xAt m c n : sProp 𝕄) = owns (c : Thread nD τ) (Memref.whole cc0_scratch0) fullShare (x0 m c) :=
  if_neg (by omega)
theorem xAt_end (n : ℕ) (h : 0 < n) : owns (c : Thread nD τ) (Memref.whole cc0_scratch0) fullShare (x0 m c) ⊢ (xAt m c n : sProp 𝕄) := by
  unfold xAt
  by_cases h : n = 0 ∨ n = 12
  · rw [if_pos h]; exact own'_intro c _ _
  · rw [if_neg h]

theorem leaves0_3 (t : Fin cfg0.N) (d) : owns (c : Thread nD τ) ((cfg0.win 3).stage (cfg0.slots t 3)) fullShare (if t.val = 11 then x1 m c else (dat0 m c).before 3 t d)
    ⊢ ((dat0 m c).leavesExact 3 t : sProp 𝕄) := by
  have hN : t.val < 12 := N_0 ▸ t.isLt
  by_cases h : t.val = 11
  · rw [if_pos h, leaves_live (dat0 m c) 3 t (idle0_last t h)]; exact .rfl
  · rw [if_neg h, leaves_idle (dat0 m c) 3 t (idle0_lt t (by omega)) (flush0_lt t (by omega))]
    iintro H; iexists d; iexact H

theorem body0 : Pipeline.BodyObligation (dat0 m c) (defs₀ (F := F)) 𝒱₀ () Set.univ := fun t => by
  have hN : t.val < 12 := N_0 ▸ t.isLt
  show iprop((dat0 m c).Φ t.castSucc ∗ (dat0 m c).owesAt () t.castSucc
        ∗ bigSep Finset.univ fun w : Fin cfg0.W => iprop(∃ d, owns (c : Thread nD τ) ((cfg0.win w).stage (cfg0.slots t w)) fullShare ((dat0 m c).before w t d)))
      ⊢ WP c (bodyAt0 t) fun _ => iprop((dat0 m c).Φ t.succ ∗ (dat0 m c).owesAt () t.succ ∗ bigSep Finset.univ fun w : Fin cfg0.W => (dat0 m c).leavesExact w t)
  rw [bigSep_W0, bigSep_W0, leaves_live (dat0 m c) 0 t rfl, leaves_live (dat0 m c) 1 t rfl, leaves_live (dat0 m c) 2 t rfl]
  simp only [keep0_0, keep0_1, keep0_2]
  rw [show (dat0 m c).Φ t.castSucc = iprop(rest0 c ∗ pers (vals m) ∗ st 0 (iW0 m c) (x0 m c) (Memref.whole cc0_scratch1) c t.val ∗ xAt m c t.val) from rfl,
    show (dat0 m c).Φ t.succ = iprop(rest0 c ∗ pers (vals m) ∗ st 0 (iW0 m c) (x0 m c) (Memref.whole cc0_scratch1) c (t.val + 1) ∗ xAt m c (t.val + 1)) from rfl]
  have h1 : ∀ t8 : Fin 8, t.val = t8.val → (win0_1.blk t).view.read (Elt F) (iW0 m c) = Wi (iW0 m c) t8 := fun t8 h => blk0_1 t t8 h _
  have h2 : ∀ j : Fin 4, t.val = 8 + j.val → (win0_2.blk t).view.read (Elt F) (iU0 m c) = Wo (iU0 m c) j := fun j h => blk0_2 t j h _
  have hin := ow_elim (dat0 m c) t.castSucc (owedAt 0 c t.val) rfl
  have hout := ow_intro (dat0 m c) t.succ (owedAt 0 c (t.val + 1)) rfl rfl
  by_cases h0 : t.val = 0
  · have h3 := fun d => leaves0_3 m c t d
    simp only [if_neg (show ¬ t.val = 11 by omega)] at h3
    rw [h0] at hin hout ⊢
    rw [xAt_ends m c 0 (.inl rfl), xAt_mid m c (0 + 1) (by omega) (by omega)]
    iintro ⟨⟨Hrest, #HP, Hst, Hx⟩, HO, ⟨⟨%d0, H0⟩, ⟨%d1, H1⟩, ⟨%d2, H2⟩, ⟨%d3, H3⟩⟩⟩
    ihave HO := hin $$ HO
    iapply (point0 (vals m) (iW0 m c) (Memref.whole cc0_scratch1) c t _ _ _ _ _ _ _ _ (Memref.whole cc0_scratch0) _ _ _ _ _ _ _ _ _ _ _ _ _ _ h0 _ h1 (iX m c) _)
    isplitr; · iexact HP
    isplitl [HO]; · iexact HO
    isplitl [Hst]; · iexact Hst
    isplitl [H0]; · iexact H0
    isplitl [H1]; · iexact H1
    isplitl [Hx]; · iexact Hx
    iintro ⟨HO, Hst, H0, H1, Hx⟩
    isplitl [Hrest Hst Hx]
    · isplitl [Hrest]; · iexact Hrest
      isplitr; · iexact HP
      isplitl [Hst]; · iexact Hst
      iexact Hx
    isplitl [HO]; · iapply hout; iexact HO
    isplitl [H0]; · iexact H0
    isplitl [H1]; · iexact H1
    isplitl [H2]; · iexact H2
    iapply (h3 d3); iexact H3
  · rw [xAt_mid m c t.val (by omega) hN]
    iintro ⟨⟨Hrest, #HP, Hst, Hx⟩, HO, ⟨⟨%d0, H0⟩, ⟨%d1, H1⟩, ⟨%d2, H2⟩, ⟨%d3, H3⟩⟩⟩
    ihave HO := hin $$ HO
    iapply (point (vals m) 0 (iW0 m c) (x0 m c) (Memref.whole cc0_scratch1) c t _ _ _ _ _ _ _ _ (Memref.whole cc0_scratch0) _ _ (iU0 m c) (fun _ => rfl) _ _ _ _ _ _ _ _ (by omega) _ h1 _ h2 ((dat0 m c).before 3 t d3) _)
    isplitr; · iexact HP
    isplitl [HO]; · iexact HO
    isplitl [Hst]; · iexact Hst
    isplitl [H1]; · iexact H1
    isplitl [H2]; · iexact H2
    isplitl [H3]; · iexact H3
    isplitl [Hx]; · iexact Hx
    iintro ⟨HO, Hst, H1, H2, H3, Hx⟩
    isplitl [Hrest Hst Hx]
    · isplitl [Hrest]; · iexact Hrest
      isplitr; · iexact HP
      isplitl [Hst]; · iexact Hst
      iapply (xAt_end m c (t.val + 1) (Nat.succ_pos _)); iexact Hx
    isplitl [HO]; · iapply hout; iexact HO
    isplitl [H0]; · iexact H0
    isplitl [H1]; · iexact H1
    isplitl [H2]; · iexact H2
    iapply (leaves0_3 m c t d3); iexact H3

/-! ## Call 1 -/

theorem c1_cond4_pos (t : Fin grid1.N) (h : t.val = 11) : k1_cond4 (grid1.coords t) = 1#1 := by revert t; decide

/-- What call 1 leaves alone. -/
def rest1 : sProp 𝕄 :=
  iprop((∃ r, prngReg c r) ∗ (anyBuf c cc1_scratch0 ∗ anyBuf c cc1_scratch3 ∗ anyBuf c cc1_scratch5)
    ∗ Pipeline.scopedRestBut (Ix := Unit) (Name := ℕ) (U := UU) (Lvl := ℕ) (Val := Elt F) spec1 c [cc1_scratch0, cc1_scratch1, cc1_scratch2, cc1_scratch3, cc1_scratch4, cc1_scratch5])

def dat1 : Pipeline.Dat τ (Elt F) Unit ℕ UU ℕ cfg1 c where
  A w := V1 m (outs m) c (Proc.devRef .tc (Pipeline.arrRef spec1 w))
  after w t := match w with
    | 0 => x1 m c
    | 1 => (win1_1.blk t).view.read (Elt F) (iW1 m c)
    | 2 => (win1_2.blk t).view.read (Elt F) (iU1 m c)
    | 3 => x2 m c
    | ⟨_ + 4, h⟩ => absurd h (Nat.not_lt.2 (Nat.le_add_left _ _))
  Φ n := iprop(rest1 c ∗ pers (vals m) ∗ st 1 (iW1 m c) (x1 m c) (Memref.whole cc1_scratch1) c n.val)
  q _ := fullShare
  owed n := owedAt 1 c n.val
  recorded _ := Set.univ

theorem V1_at : V1 m (outs m) c main_v1 = outs m 1 main_v1 c := by unfold V1; rw [Function.update_self]
theorem A1_0 : (dat1 m c).A 0 = x1 m c := (V1_at m c).trans (outs_1 m c)
theorem A1_1 : (dat1 m c).A 1 = iW1 m c := V1_of m (outs m) c main_arg2 (by decide)
theorem A1_2 : (dat1 m c).A 2 = iU1 m c := V1_of m (outs m) c main_arg5 (by decide)

theorem keep1_0 (t : Fin cfg1.N) (d) : (dat1 m c).before 0 t d = x1 m c :=
  have h (t : Fin cfg1.N) : (win1_0.blk t).view.read (Elt F) ((dat1 m c).A 0) = x1 m c :=
    (congrArg (fun X => (win1_0.blk t).view.read (Elt F) X) (A1_0 m c)).trans (blk1_0 t (x1 m c))
  ((dat1 m c).before_in_eq_fetched 0 rfl (fun _ => rfl) (fun _ _ _ => rfl) (fun t => (h t).symm) t d).trans (h t)
theorem keep1_1 (t : Fin cfg1.N) (d) : (dat1 m c).before 1 t d = (win1_1.blk t).view.read (Elt F) (iW1 m c) :=
  have h (t : Fin cfg1.N) := congrArg (fun X => (win1_1.blk t).view.read (Elt F) X) (A1_1 m c)
  ((dat1 m c).before_in_eq_fetched 1 rfl (fun _ => rfl) (fun _ _ _ => rfl) (fun t => (h t).symm) t d).trans (h t)
theorem keep1_2 (t : Fin cfg1.N) (d) : (dat1 m c).before 2 t d = (win1_2.blk t).view.read (Elt F) (iU1 m c) :=
  have h (t : Fin cfg1.N) := congrArg (fun X => (win1_2.blk t).view.read (Elt F) X) (A1_2 m c)
  ((dat1 m c).before_in_eq_fetched 2 rfl (fun _ => rfl) (fun _ _ _ => rfl) (fun t => (h t).symm) t d).trans (h t)

theorem idle1_lt (t : Fin cfg1.N) (h : t.val < 11) : cfg1.idle 3 (cfg1.grid.coords t) = true := by
  show (!(k1_cond4 (grid1.coords t) == 1#1)) = true
  rw [beq_eq_false_iff_ne.mpr (c1_cond4_neg t h)]; rfl
theorem idle1_last (t : Fin cfg1.N) (h : t.val = 11) : cfg1.idle 3 (cfg1.grid.coords t) = false := by
  show (!(k1_cond4 (grid1.coords t) == 1#1)) = false
  rw [beq_iff_eq.mpr (c1_cond4_pos t h)]; rfl
theorem flush1_lt (t : Fin cfg1.N) (h : t.val < 11) : (cfg1.win 3).flush t = false := by
  rw [← Bool.not_eq_true]
  intro hf
  have := (flush1_3 t).mp hf
  omega

theorem leaves1_3 (t : Fin cfg1.N) (d) : owns (c : Thread nD τ) ((cfg1.win 3).stage (cfg1.slots t 3)) fullShare (if t.val = 11 then x2 m c else (dat1 m c).before 3 t d)
    ⊢ ((dat1 m c).leavesExact 3 t : sProp 𝕄) := by
  have hN : t.val < 12 := N_1 ▸ t.isLt
  by_cases h : t.val = 11
  · rw [if_pos h, leaves_live (dat1 m c) 3 t (idle1_last t h)]; exact .rfl
  · rw [if_neg h, leaves_idle (dat1 m c) 3 t (idle1_lt t (by omega)) (flush1_lt t (by omega))]
    iintro H; iexists d; iexact H

theorem body1 : Pipeline.BodyObligation (dat1 m c) (defs₀ (F := F)) 𝒱₀ () Set.univ := fun t => by
  have hN : t.val < 12 := N_1 ▸ t.isLt
  show iprop((dat1 m c).Φ t.castSucc ∗ (dat1 m c).owesAt () t.castSucc
        ∗ bigSep Finset.univ fun w : Fin cfg1.W => iprop(∃ d, owns (c : Thread nD τ) ((cfg1.win w).stage (cfg1.slots t w)) fullShare ((dat1 m c).before w t d)))
      ⊢ WP c (bodyAt1 t) fun _ => iprop((dat1 m c).Φ t.succ ∗ (dat1 m c).owesAt () t.succ ∗ bigSep Finset.univ fun w : Fin cfg1.W => (dat1 m c).leavesExact w t)
  rw [bigSep_W1, bigSep_W1, leaves_live (dat1 m c) 0 t rfl, leaves_live (dat1 m c) 1 t rfl, leaves_live (dat1 m c) 2 t rfl]
  simp only [keep1_0, keep1_1, keep1_2]
  rw [show (dat1 m c).Φ t.castSucc = iprop(rest1 c ∗ pers (vals m) ∗ st 1 (iW1 m c) (x1 m c) (Memref.whole cc1_scratch1) c t.val) from rfl,
    show (dat1 m c).Φ t.succ = iprop(rest1 c ∗ pers (vals m) ∗ st 1 (iW1 m c) (x1 m c) (Memref.whole cc1_scratch1) c (t.val + 1)) from rfl]
  have h1 : ∀ t8 : Fin 8, t.val = t8.val → (win1_1.blk t).view.read (Elt F) (iW1 m c) = Wi (iW1 m c) t8 := fun t8 h => blk1_1 t t8 h _
  have h2 : ∀ j : Fin 4, t.val = 8 + j.val → (win1_2.blk t).view.read (Elt F) (iU1 m c) = Wo (iU1 m c) j := fun j h => blk1_2 t j h _
  have hin := ow_elim (dat1 m c) t.castSucc (owedAt 1 c t.val) rfl
  have hout := ow_intro (dat1 m c) t.succ (owedAt 1 c (t.val + 1)) rfl rfl
  by_cases h0 : t.val = 0
  · have h3 := fun d => leaves1_3 m c t d
    simp only [if_neg (show ¬ t.val = 11 by omega)] at h3
    rw [h0] at hin hout ⊢
    iintro ⟨⟨Hrest, #HP, Hst⟩, HO, ⟨⟨%d0, H0⟩, ⟨%d1, H1⟩, ⟨%d2, H2⟩, ⟨%d3, H3⟩⟩⟩
    ihave HO := hin $$ HO
    iapply (point1 (vals m) (iW1 m c) (x1 m c) (Memref.whole cc1_scratch1) c t _ _ _ _ _ _ _ _ _ _ _ _ _ _ _ _ _ _ _ _ _ _ _ h0 _ h1 _)
    isplitr; · iexact HP
    isplitl [HO]; · iexact HO
    isplitl [Hst]; · iexact Hst
    isplitl [H0]; · iexact H0
    isplitl [H1]; · iexact H1
    iintro ⟨HO, Hst, H0, H1⟩
    isplitl [Hrest Hst]
    · isplitl [Hrest]; · iexact Hrest
      isplitr; · iexact HP
      iexact Hst
    isplitl [HO]; · iapply hout; iexact HO
    isplitl [H0]; · iexact H0
    isplitl [H1]; · iexact H1
    isplitl [H2]; · iexact H2
    iapply (h3 d3); iexact H3
  · unfold bodyAt1
    rw [cc1_eq _ _ _ _ _ _ _ _ _ _ _ _ _ _ _ _ _ _ _ _ _ _ _ _ _ (by omega)]
    iintro ⟨⟨Hrest, #HP, Hst⟩, HO, ⟨⟨%d0, H0⟩, ⟨%d1, H1⟩, ⟨%d2, H2⟩, ⟨%d3, H3⟩⟩⟩
    ihave HO := hin $$ HO
    iapply (point (vals m) 1 (iW1 m c) (x1 m c) (Memref.whole cc1_scratch1) c t _ _ _ _ _ _ _ _ _ _ _ (iU1 m c) (fun _ => rfl) _ _ _ _ _ _ _ _ (by omega) _ h1 _ h2 ((dat1 m c).before 3 t d3) _)
    isplitr; · iexact HP
    isplitl [HO]; · iexact HO
    isplitl [Hst]; · iexact Hst
    isplitl [H1]; · iexact H1
    isplitl [H2]; · iexact H2
    isplitl [H3]; · iexact H3
    isplitl [H0]; · iexact H0
    iintro ⟨HO, Hst, H1, H2, H3, H0⟩
    isplitl [Hrest Hst]
    · isplitl [Hrest]; · iexact Hrest
      isplitr; · iexact HP
      iexact Hst
    isplitl [HO]; · iapply hout; iexact HO
    isplitl [H0]; · iexact H0
    isplitl [H1]; · iexact H1
    isplitl [H2]; · iexact H2
    iapply (leaves1_3 m c t d3); iexact H3

end Cert.KernelIdeal.Talk

end
-- ==== Proof.Dat2.lean ====
/- The last call: what a device holds at each point, and its body. -/
module

public import proofs.«01_k».proof.Proof.Dats

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]
local notation "𝕄" => MT nD τ sig Unit (Elt F) ℕ UU ℕ

variable (m : (ℓ : Loc nD τ sig) → Buf (Elt F) ℓ) (c : Dev nD)

theorem c2_cond4_lt (t : Fin cfg2.N) (h : t.val < 11) : ¬ k2_cond4 (grid2.coords t) = 1#1 := by revert t; decide
theorem c2_cond4_at (t : Fin cfg2.N) (h : t.val = 11) : k2_cond4 (grid2.coords t) = 1#1 := by revert t; decide

/-- What a device owes before point `n` of the last call. -/
def owed2 (c : Dev nD) (n : ℕ) : CellTallies nD τ sig Unit := if n = 0 then E2 c else if n = 12 then 0 else aft2 c

theorem owed2_zero : owed2 c 0 = addBar 2 c (aft2 c) := if_pos rfl
theorem owed2_mid {n : ℕ} (h : 0 < n) (h' : n < 12) : owed2 c n = aft2 c := by unfold owed2; rw [if_neg (by omega), if_neg (by omega)]
theorem owed2_last : owed2 c 12 = 0 := rfl

section State

variable (v : Vals F) (W : Vec F S2048x4096 .bf16) (U : Vec F S4096x2048 .bf16) (X : Vec F S64x2048 .bf16) (hM : Memref sig .tc .vmem S64x4096 .bf16)

/-- The partial product's buffer with its first `n` column blocks computed. -/
def slabAt (n : ℕ) : sProp 𝕄 := iprop(∃ S, ⌜UpTo cR (fun j => k2_pay2 (Wo U j) (HB W X)) n S⌝ ∗ owns (c : Thread nD τ) pslabM fullShare S)

/-- What a device holds between points of the last call besides the windows. -/
def st2 (n : ℕ) : sProp 𝕄 :=
  if n = 0 then iprop(barTok c 2 ∗ three (lands c 2) ∗ toks c none ∗ own' c hM ∗ own' c pslabM)
  else if n = 12 then iprop(semVal (barC 2 c) 0 ∗ end2 c ∗ own' c hM)
  else iprop(semVal (barC 2 c) 0 ∗ toks c none ∗ landsAt c none ∗ hidAt W X hM c n ∗ slabAt c W U X (n - 8))

theorem st2_zero : (st2 c W U X hM 0 : sProp 𝕄) = iprop(barTok c 2 ∗ three (lands c 2) ∗ toks c none ∗ own' c hM ∗ own' c pslabM) := if_pos rfl
theorem st2_last : (st2 c W U X hM 12 : sProp 𝕄) = iprop(semVal (barC 2 c) 0 ∗ end2 c ∗ own' c hM) := rfl
theorem st2_mid {n : ℕ} (h : 0 < n) (h' : n < 12) : (st2 c W U X hM n : sProp 𝕄) =
    iprop(semVal (barC 2 c) 0 ∗ toks c none ∗ landsAt c none ∗ hidAt W X hM c n ∗ slabAt c W U X (n - 8)) := by
  unfold st2; rw [if_neg (by omega), if_neg (by omega)]

variable (t : Fin grid0.N)
  (arg1 : Memref sig .tc .vmem S64x2048 .bf16) (harg1 : arg1.IsWhole) (arg2 : Memref sig .tc .vmem S2048x512 .bf16) (harg2 : arg2.IsWhole)
  (arg3 : Memref sig .tc .vmem S4096x512 .bf16) (harg3 : arg3.IsWhole) (arg4 : Memref sig .tc .vmem S16x2048 .f32) (harg4 : arg4.IsWhole)
  (arg5 : Memref sig .tc .vmem S64x2048 .bf16) (harg5 : arg5.IsWhole) (harg6 : hM.IsWhole)
  (arg7 : Memref sig .tc .vmem S4x64x512 .bf16) (harg7 : arg7.IsWhole) (harg8 : pslabM.IsWhole)
  (arg9 : Memref sig .tc .vmem S4x3x64x512 .bf16) (harg9 : arg9.IsWhole) (harg10 : rrbufM.IsWhole) (arg11 arg12 : DmaSems sig S12)

set_option maxHeartbeats 1000000 in
/-- A point of the last call. -/
theorem point2 (hv : v.slab c = slabV W U X) (B1 : Vec F S2048x512 .bf16) (h1 : ∀ t8 : Fin 8, t.val = t8.val → B1 = Wi W t8)
    (B2 : Vec F S4096x512 .bf16) (h2 : ∀ j : Fin 4, t.val = 8 + j.val → B2 = Wo U j) (O : Vec F S16x2048 .f32) (Q : PUnit.{1} → sProp 𝕄) :
    iprop(pers v ∗ ow c (owed2 c t.val) ∗ st2 c W U X hM t.val ∗ owns (c : Thread nD τ) arg1 fullShare X ∗ owns (c : Thread nD τ) arg2 fullShare B1 ∗ owns (c : Thread nD τ) arg3 fullShare B2
      ∗ owns (c : Thread nD τ) arg4 fullShare O
      ∗ ((ow c (owed2 c (t.val + 1)) ∗ st2 c W U X hM (t.val + 1) ∗ owns (c : Thread nD τ) arg1 fullShare X ∗ owns (c : Thread nD τ) arg2 fullShare B1 ∗ owns (c : Thread nD τ) arg3 fullShare B2
          ∗ owns (c : Thread nD τ) arg4 fullShare (if t.val = 11 then res2 v c else O)) -∗ Q ⟨⟩))
      ⊢ WP c (cc2__layer_body (F := F) (grid2.coords t) arg1 harg1 arg2 harg2 arg3 harg3 arg4 harg4 arg5 harg5 hM harg6 arg7 harg7 pslabM harg8 arg9 harg9 rrbufM harg10 arg11 arg12 cc2_scratch8 cc2_scratch9) Q := by
  have hN : t.val < 12 := N_0 ▸ t.isLt
  by_cases h0 : t.val = 0
  · rw [h0, owed2_zero, owed2_mid c Nat.one_pos (by omega), st2_zero, st2_mid c W U X hM Nat.one_pos (by omega), if_neg (by omega), ← last_barrier]
    unfold pers own' hidAt slabAt
    iintro ⟨⟨⟨%κ, #HR⟩, #HL⟩, HO, ⟨Hb, Hl, Ht, ⟨%H, H6⟩, ⟨%S, H8⟩⟩, H1, H2, H3, H4, Hk⟩
    iapply (bodyA2 v c κ t arg1 harg1 arg2 harg2 arg3 harg3 arg4 harg4 arg5 harg5 hM harg6 arg7 harg7 pslabM harg8 arg9 harg9 rrbufM harg10 arg11 arg12 cc2_scratch8 cc2_scratch9 h0 (aft2 c) (above_aft2 c) X B1 H Q)
    isplitr; · iexact HR
    isplitr; · iexact HL
    isplitl [HO]; · iexact HO
    isplitl [Hb]; · iexact Hb
    isplitl [Hl]; · iexact Hl
    isplitl [H1]; · iexact H1
    isplitl [H2]; · iexact H2
    isplitl [H6]; · iexact H6
    iintro ⟨⟨HO, Hb, Hp⟩, H1, H2, H6⟩
    iapply Hk
    isplitl [HO]; · iexact HO
    isplitl [Hb Hp Ht H6 H8]
    · isplitl [Hb]; · iexact Hb
      isplitl [Ht]; · iexact Ht
      isplitl [Hp]; · iexact Hp
      isplitl [H6]
      · iexists _
        isplitr [H6]
        rotate_left
        · iexact H6
        · ipureintro; exact hid_first W X t B1 h1 h0 H
      iexists S
      isplitr [H8]
      · ipureintro; exact upTo_zero cR _ S
      iexact H8
    isplitl [H1]; · iexact H1
    isplitl [H2]; · iexact H2
    isplitl [H3]; · iexact H3
    iexact H4
  by_cases hB : t.val < 8
  · obtain ⟨t8, h8⟩ : ∃ t8 : Fin 8, t.val = t8.val := ⟨⟨t.val, hB⟩, rfl⟩
    rw [owed2_mid c (n := t.val) (by omega) (by omega), owed2_mid c (Nat.succ_pos _) (by omega), st2_mid c W U X hM (n := t.val) (by omega) (by omega), st2_mid c W U X hM (Nat.succ_pos _) (by omega),
      if_neg (by omega), show t.val - 8 = 0 from by omega, show t.val + 1 - 8 = 0 from by omega, h1 t8 h8]
    unfold hidAt
    iintro ⟨-, HO, ⟨Hb, Ht, Hl, ⟨%H, %hH, H6⟩, H8⟩, H1, H2, H3, H4, Hk⟩
    iapply (bodyB2 c t arg1 harg1 arg2 harg2 arg3 harg3 arg4 harg4 arg5 harg5 hM harg6 arg7 harg7 pslabM harg8 arg9 harg9 rrbufM harg10 arg11 arg12 cc2_scratch8 cc2_scratch9 (by omega) t8 h8 (Wi W t8) X H Q)
    isplitl [H2]; · iexact H2
    isplitl [H1]; · iexact H1
    isplitl [H6]; · iexact H6
    iintro ⟨H2, H1, H6⟩
    iapply Hk
    isplitl [HO]; · iexact HO
    isplitl [Hb Ht Hl H6 H8]
    · isplitl [Hb]; · iexact Hb
      isplitl [Ht]; · iexact Ht
      isplitl [Hl]; · iexact Hl
      isplitl [H6]
      · iexists _
        isplitr [H6]
        rotate_left
        · iexact H6
        · ipureintro
          rw [h8] at hH ⊢
          exact upTo_step hR hR_disj t8 hH
      iexact H8
    isplitl [H1]; · iexact H1
    isplitl [H2]; · iexact H2
    isplitl [H3]; · iexact H3
    iexact H4
  obtain ⟨j, hj⟩ : ∃ j : Fin 4, t.val = 8 + j.val := ⟨⟨t.val - 8, by omega⟩, by show t.val = 8 + (t.val - 8); omega⟩
  by_cases hC : j.val < 3
  · rw [hj, owed2_mid c (n := 8 + j.val) (by omega) (by omega), owed2_mid c (Nat.succ_pos _) (by omega), st2_mid c W U X hM (n := 8 + j.val) (by omega) (by omega), st2_mid c W U X hM (Nat.succ_pos _) (by omega),
      if_neg (by omega), show 8 + j.val - 8 = j.val from by omega, show 8 + j.val + 1 - 8 = j.val + 1 from by omega, h2 j hj]
    unfold hidAt slabAt
    iintro ⟨-, HO, ⟨Hb, Ht, Hl, ⟨%H, %hH, H6⟩, ⟨%S, %hS, H8⟩⟩, H1, H2, H3, H4, Hk⟩
    have hH' := hid_full W X (show 8 ≤ 8 + j.val by omega) hH
    subst hH'
    iapply (bodyC2 c t arg1 harg1 arg2 harg2 arg3 harg3 arg4 harg4 arg5 harg5 hM harg6 arg7 harg7 pslabM harg8 arg9 harg9 rrbufM harg10 arg11 arg12 cc2_scratch8 cc2_scratch9 j hj hC (Wo U j) (HB W X) S Q)
    isplitl [H3]; · iexact H3
    isplitl [H6]; · iexact H6
    isplitl [H8]; · iexact H8
    iintro ⟨H3, H6, H8⟩
    iapply Hk
    isplitl [HO]; · iexact HO
    isplitl [Hb Ht Hl H6 H8]
    · isplitl [Hb]; · iexact Hb
      isplitl [Ht]; · iexact Ht
      isplitl [Hl]; · iexact Hl
      isplitl [H6]
      · iexists (HB W X)
        isplitr [H6]
        · ipureintro; exact hid_all W X _ rfl
        iexact H6
      iexists _
      isplitr [H8]
      rotate_left
      · iexact H8
      · ipureintro; exact upTo_step cR cR_disj (b := fun j => k2_pay2 (Wo U j) (HB W X)) j hS
    isplitl [H1]; · iexact H1
    isplitl [H2]; · iexact H2
    isplitl [H3]; · iexact H3
    iexact H4
  · have hj3 : j = 3 := Fin.ext (by have := j.isLt; show j.val = 3; omega)
    subst hj3
    have ht : t.val = 11 := hj
    rw [ht, owed2_mid c (show 0 < 11 by omega) (by omega), st2_mid c W U X hM (show 0 < 11 by omega) (by omega), if_pos rfl, st2_last, owed2_last, h2 3 hj, show 11 - 8 = 3 from rfl]
    unfold hidAt pers slabAt
    iintro ⟨⟨⟨%κ, #HR⟩, #HL⟩, HO, ⟨Hb, Ht, Hl, ⟨%H, %hH, H6⟩, ⟨%S, %hS, H8⟩⟩, H1, H2, H3, H4, Hk⟩
    have hH' := hid_full W X (show 8 ≤ 11 by omega) hH
    subst hH'
    have hv' : (cR 3).overlay S (k2_pay2 (Wo U 3) (HB W X)) = v.slab c :=
      (upTo_full cR cR_cov cR_disj (n := 4) (le_refl 4) (upTo_step cR cR_disj (b := fun j => k2_pay2 (Wo U j) (HB W X)) 3 hS)).trans hv.symm
    iapply (bodyD2 v c κ t arg1 harg1 arg2 harg2 arg3 harg3 arg4 harg4 arg5 harg5 hM harg6 arg7 harg7 harg8 arg9 harg9 harg10 arg11 arg12 ht 0 (above_zero 6) O (Wo U 3) (HB W X) S hv' Q)
    isplitr; · iexact HR
    isplitr; · iexact HL
    isplitl [HO]; · iexact HO
    isplitl [Ht]; · iexact Ht
    isplitl [Hl]; · iexact Hl
    isplitl [H4]; · iexact H4
    isplitl [H3]; · iexact H3
    isplitl [H6]; · iexact H6
    isplitl [H8]; · iexact H8
    iintro ⟨HO, Hr, H3, H6, H4⟩
    iapply Hk
    isplitl [HO]; · iexact HO
    isplitl [Hb Hr H6]
    · isplitl [Hb]; · iexact Hb
      isplitl [Hr]; · iexact Hr
      iapply (own'_intro c _ _); iexact H6
    isplitl [H1]; · iexact H1
    isplitl [H2]; · iexact H2
    isplitl [H3]; · iexact H3
    iexact H4

end State

/-- What the last call leaves alone. -/
def rest2 : sProp 𝕄 :=
  iprop((∃ r, prngReg c r) ∗ (anyBuf c cc2_scratch0 ∗ anyBuf c cc2_scratch2 ∗ anyBuf c cc2_scratch4)
    ∗ Pipeline.scopedRestBut (Ix := Unit) (Name := ℕ) (U := UU) (Lvl := ℕ) (Val := Elt F) spec2 c [cc2_scratch0, cc2_scratch1, cc2_scratch2, cc2_scratch3, cc2_scratch4, cc2_scratch5])

def dat2 : Pipeline.Dat τ (Elt F) Unit ℕ UU ℕ cfg2 c where
  A w := V2 m (outs m) c (Proc.devRef .tc (Pipeline.arrRef spec2 w))
  after w t := match w with
    | 0 => x2 m c
    | 1 => (win2_1.blk t).view.read (Elt F) (iW2 m c)
    | 2 => (win2_2.blk t).view.read (Elt F) (iU2 m c)
    | 3 => x3 m c
    | ⟨_ + 4, h⟩ => absurd h (Nat.not_lt.2 (Nat.le_add_left _ _))
  Φ n := iprop(rest2 c ∗ pers (vals m) ∗ st2 c (iW2 m c) (iU2 m c) (x2 m c) (Memref.whole cc2_scratch1) n.val)
  q _ := fullShare
  owed n := owed2 c n.val
  recorded _ := Set.univ

theorem V2_at : V2 m (outs m) c main_v2 = outs m 2 main_v2 c := by unfold V2; rw [Function.update_self]
theorem A2_0 : (dat2 m c).A 0 = x2 m c := (V2_at m c).trans (outs_2 m c)
theorem A2_1 : (dat2 m c).A 1 = iW2 m c := (V2_of m (outs m) c main_arg3 (by decide)).trans (V1_of m (outs m) c main_arg3 (by decide))
theorem A2_2 : (dat2 m c).A 2 = iU2 m c := (V2_of m (outs m) c main_arg6 (by decide)).trans (V1_of m (outs m) c main_arg6 (by decide))

theorem keep2_0 (t : Fin cfg2.N) (d) : (dat2 m c).before 0 t d = x2 m c :=
  have h (t : Fin cfg2.N) : (win2_0.blk t).view.read (Elt F) ((dat2 m c).A 0) = x2 m c :=
    (congrArg (fun X => (win2_0.blk t).view.read (Elt F) X) (A2_0 m c)).trans (blk2_0 t (x2 m c))
  ((dat2 m c).before_in_eq_fetched 0 rfl (fun _ => rfl) (fun _ _ _ => rfl) (fun t => (h t).symm) t d).trans (h t)
theorem keep2_1 (t : Fin cfg2.N) (d) : (dat2 m c).before 1 t d = (win2_1.blk t).view.read (Elt F) (iW2 m c) :=
  have h (t : Fin cfg2.N) := congrArg (fun X => (win2_1.blk t).view.read (Elt F) X) (A2_1 m c)
  ((dat2 m c).before_in_eq_fetched 1 rfl (fun _ => rfl) (fun _ _ _ => rfl) (fun t => (h t).symm) t d).trans (h t)
theorem keep2_2 (t : Fin cfg2.N) (d) : (dat2 m c).before 2 t d = (win2_2.blk t).view.read (Elt F) (iU2 m c) :=
  have h (t : Fin cfg2.N) := congrArg (fun X => (win2_2.blk t).view.read (Elt F) X) (A2_2 m c)
  ((dat2 m c).before_in_eq_fetched 2 rfl (fun _ => rfl) (fun _ _ _ => rfl) (fun t => (h t).symm) t d).trans (h t)

theorem idle2_lt (t : Fin cfg2.N) (h : t.val < 11) : cfg2.idle 3 (cfg2.grid.coords t) = true := by
  show (!(k2_cond4 (grid2.coords t) == 1#1)) = true
  rw [beq_eq_false_iff_ne.mpr (c2_cond4_lt t h)]; rfl
theorem idle2_last (t : Fin cfg2.N) (h : t.val = 11) : cfg2.idle 3 (cfg2.grid.coords t) = false := by
  show (!(k2_cond4 (grid2.coords t) == 1#1)) = false
  rw [beq_iff_eq.mpr (c2_cond4_at t h)]; rfl
theorem flush2_lt (t : Fin cfg2.N) (h : t.val < 11) : (cfg2.win 3).flush t = false := by
  rw [← Bool.not_eq_true]
  intro hf
  have := (flush2_3 t).mp hf
  omega

theorem leaves2_3 (t : Fin cfg2.N) (d) : owns (c : Thread nD τ) ((cfg2.win 3).stage (cfg2.slots t 3)) fullShare (if t.val = 11 then x3 m c else (dat2 m c).before 3 t d)
    ⊢ ((dat2 m c).leavesExact 3 t : sProp 𝕄) := by
  have hN : t.val < 12 := N_2 ▸ t.isLt
  by_cases h : t.val = 11
  · rw [if_pos h, leaves_live (dat2 m c) 3 t (idle2_last t h)]; exact .rfl
  · rw [if_neg h, leaves_idle (dat2 m c) 3 t (idle2_lt t (by omega)) (flush2_lt t (by omega))]
    iintro H; iexists d; iexact H

theorem body2 : Pipeline.BodyObligation (dat2 m c) (defs₀ (F := F)) 𝒱₀ () Set.univ := fun t => by
  show iprop((dat2 m c).Φ t.castSucc ∗ (dat2 m c).owesAt () t.castSucc
        ∗ bigSep Finset.univ fun w : Fin cfg2.W => iprop(∃ d, owns (c : Thread nD τ) ((cfg2.win w).stage (cfg2.slots t w)) fullShare ((dat2 m c).before w t d)))
      ⊢ WP c (bodyAt2 t) fun _ => iprop((dat2 m c).Φ t.succ ∗ (dat2 m c).owesAt () t.succ ∗ bigSep Finset.univ fun w : Fin cfg2.W => (dat2 m c).leavesExact w t)
  rw [bigSep_W2, bigSep_W2, leaves_live (dat2 m c) 0 t rfl, leaves_live (dat2 m c) 1 t rfl, leaves_live (dat2 m c) 2 t rfl]
  simp only [keep2_0, keep2_1, keep2_2]
  rw [show (dat2 m c).Φ t.castSucc = iprop(rest2 c ∗ pers (vals m) ∗ st2 c (iW2 m c) (iU2 m c) (x2 m c) (Memref.whole cc2_scratch1) t.val) from rfl,
    show (dat2 m c).Φ t.succ = iprop(rest2 c ∗ pers (vals m) ∗ st2 c (iW2 m c) (iU2 m c) (x2 m c) (Memref.whole cc2_scratch1) (t.val + 1)) from rfl]
  have h1 : ∀ t8 : Fin 8, t.val = t8.val → (win2_1.blk t).view.read (Elt F) (iW2 m c) = Wi (iW2 m c) t8 := fun t8 h => blk2_1 t t8 h _
  have h2 : ∀ j : Fin 4, t.val = 8 + j.val → (win2_2.blk t).view.read (Elt F) (iU2 m c) = Wo (iU2 m c) j := fun j h => blk2_2 t j h _
  have hin := ow_elim (dat2 m c) t.castSucc (owed2 c t.val) rfl
  have hout := ow_intro (dat2 m c) t.succ (owed2 c (t.val + 1)) rfl rfl
  iintro ⟨⟨Hrest, #HP, Hst⟩, HO, ⟨⟨%d0, H0⟩, ⟨%d1, H1⟩, ⟨%d2, H2⟩, ⟨%d3, H3⟩⟩⟩
  ihave HO := hin $$ HO
  iapply (point2 c (vals m) (iW2 m c) (iU2 m c) (x2 m c) (Memref.whole cc2_scratch1) t _ _ _ _ _ _ _ _ _ _ _ _ _ _ _ _ _ _ _ rfl _ h1 _ h2 ((dat2 m c).before 3 t d3) _)
  isplitr; · iexact HP
  isplitl [HO]; · iexact HO
  isplitl [Hst]; · iexact Hst
  isplitl [H0]; · iexact H0
  isplitl [H1]; · iexact H1
  isplitl [H2]; · iexact H2
  isplitl [H3]; · iexact H3
  iintro ⟨HO, Hst, H0, H1, H2, H3⟩
  isplitl [Hrest Hst]
  · isplitl [Hrest]; · iexact Hrest
    isplitr; · iexact HP
    iexact Hst
  isplitl [HO]; · iapply hout; iexact HO
  isplitl [H0]; · iexact H0
  isplitl [H1]; · iexact H1
  isplitl [H2]; · iexact H2
  iapply (leaves2_3 m c t d3); iexact H3

end Cert.KernelIdeal.Talk

end
-- ==== Proof.Segs.lean ====
/- The three calls as regions of the run. -/
module

public import proofs.«01_k».proof.Proof.Dat2
public import Idealize.ShloMosaic.Lib.Pipeline.RegionTalk
public import Idealize.ShloMosaic.Lib.Pipeline.ValueKit

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]
local notation "𝕄" => MT nD τ sig Unit (Elt F) ℕ UU ℕ

variable (m : (ℓ : Loc nD τ sig) → Buf (Elt F) ℓ)

/-! ## What is owed over the calls -/

theorem addRow_eq (r : Row) (c : Dev nD) (X : CellTallies nD τ sig Unit) : addRow r c X = X + addRow r c 0 := by
  unfold addRow; rw [zero_add, add_assoc, add_assoc, add_assoc]
theorem addBar_eq (p : Fin 3) (c : Dev nD) (X : CellTallies nD τ sig Unit) : addBar p c X = X + addBar p c 0 := by
  unfold addBar; rw [zero_add, add_assoc, add_assoc, add_assoc]
theorem blocks_eq (p : Fin 2) (c : Dev nD) (X : CellTallies nD τ sig Unit) (n : ℕ) : blocks p c X n = X + blocks p c 0 n := by
  induction n with
  | zero => exact (add_zero X).symm
  | succ n ih =>
    show addRow _ c (blocks p c X n) = X + addRow _ c (blocks p c 0 n)
    rw [addRow_eq, ih, addRow_eq _ c (blocks p c 0 n), add_assoc]

/-- What a device pays during call `p`. -/
def due (p : Fin 2) (c : Dev nD) : CellTallies nD τ sig Unit := addBar p.castSucc c (blocks p c 0 4)
theorem owed_due (p : Fin 2) (c : Dev nD) : owedAt p c 0 = nxt c p + due p c := by
  unfold due
  rw [owedAt_zero, addBar_eq, blocks_eq, addBar_eq _ c (blocks p c 0 4), add_assoc]

theorem above_owedAt (p : Fin 2) (c : Dev nD) (n : ℕ) : Above 0 (owedAt p c n) := by
  have h (k : ℕ) : Above (2 * p.val + 1) (blocks p c (nxt c p) k) := above_blocks p c (above_mono (by omega) (above_nxt p c)) k
  unfold owedAt
  split
  · exact above_bar (above_mono (Nat.zero_le _) (h 4)) _ _ (Nat.succ_pos _)
  · exact above_mono (Nat.zero_le _) (h _)
theorem above_owed2 (c : Dev nD) (n : ℕ) : Above 0 (owed2 c n) := by
  unfold owed2
  split
  · exact above_mono (Nat.zero_le _) (above_E2 c)
  · split
    · exact above_zero _
    · exact above_mono (Nat.zero_le _) (above_aft2 c)

/-! ## The regions -/

/-- The three calls. -/
def pdats : (p : Fin 3) → (c : Dev nD) → Pipeline.Dat τ (Elt F) Unit ℕ UU ℕ (cfgs p) c
  | 0 => dat0 m
  | 1 => dat1 m
  | 2 => dat2 m

theorem any_whole (c : Dev nD) (b : Ref sig .tc) : iprop(∃ X : b.ty.Contents (Elt F), owns (c : Thread nD τ) (Memref.whole b) fullShare X) = (anyBuf c b : sProp 𝕄) :=
  congrArg (fun Φ : b.ty.Contents (Elt F) → sProp 𝕄 => iprop(∃ X, Φ X)) (funext fun f => owns_whole (c : Thread nD τ) b fullShare f)

/-- What a device brings to a call, and what it has inside it. -/
def bring {J : Type} [Fintype J] [DecidableEq J] (ρ : J ↪ Row) (p : Fin 3) (c : Dev nD) : sProp 𝕄 := iprop((∃ κ, records (vals m) κ) ∗ hand ρ p c)
def inside {J : Type} [Fintype J] [DecidableEq J] (ρ : J ↪ Row) (p : Fin 3) (c : Dev nD) : sProp 𝕄 := iprop(pers (vals m) ∗ opened ρ p c)
/-- What a device keeps of a call. -/
def kept (p : Fin 3) (c : Dev nD) : sProp 𝕄 := iprop((∃ κ, records (vals m) κ) ∗ semVal (barC p c) 0)

theorem bring_open {J : Type} [Fintype J] [DecidableEq J] (ρ : J ↪ Row) (p : Fin 3) (c : Dev nD) :
    iprop(bring m ρ p c ∗ Pipeline.ownSems0 (callSem ρ) c ∗ levAts L lv) ⊢ (|={Set.univ}=> inside m ρ p c : sProp 𝕄) := by
  unfold bring inside pers
  iintro ⟨⟨⟨%κ, #HR⟩, Hh⟩, Hs, #HL⟩
  imod (open_call ρ p c (vals m) κ) $$ [Hh Hs] with Ho
  · isplitr; · iexact HR
    isplitl [Hh]; · iexact Hh
    iexact Hs
  imodintro
  isplitr
  · isplitr
    · iexists κ; iexact HR
    iexact HL
  iexact Ho

theorem held_none (c : Dev nD) (W : Valuation τ sig (Elt F)) : (StableHlo.held (c.tc : Thread nD τ) ∅ W : sProp 𝕄) = BI.emp := BI.bigSep_empty

theorem hin0 (c : Dev nD) : iprop(Pipeline.scopedRest spec0 c ∗ (∃ r, prngReg c r) ∗ StableHlo.held (c.tc : Thread nD τ) ∅ (V0 m c) ∗ inside m (rowE 0) 0 c)
    ⊢ ((dat0 m c).Φ 0 : sProp 𝕄) := by
  have hs := rows_start (F := F) c 0
  rw [
    show (own' c (pbufM 0) : sProp 𝕄) = anyBuf c cc0_scratch2 from any_whole c cc0_scratch2,
    show (own' c (rbufM 0) : sProp 𝕄) = anyBuf c cc0_scratch4 from any_whole c cc0_scratch4] at hs
  rw [show (dat0 m c).Φ 0 = iprop(rest0 c ∗ pers (vals m) ∗ st 0 (iW0 m c) (x0 m c) (Memref.whole cc0_scratch1) c 0 ∗ xAt m c 0) from rfl,
    scopedRest0_split, held_none, st_zero]
  unfold inside rest0 xAt
  rw [
    show (own' c (Memref.whole cc0_scratch1) : sProp 𝕄) = anyBuf c cc0_scratch1 from any_whole c cc0_scratch1,
    show (own' c (Memref.whole cc0_scratch0) : sProp 𝕄) = anyBuf c cc0_scratch0 from any_whole c cc0_scratch0]
  rw [if_pos (Or.inl rfl)]
  iintro ⟨⟨⟨H0, H1, H2, H3, H4, H5⟩, Hr⟩, Hp, -, #HP, Ho⟩
  ihave Hs := hs $$ [Ho H2 H4]
  · isplitl [Ho]; · iexact Ho
    isplitl [H2]; · iexact H2
    iexact H4
  icases Hs with ⟨Hb, Hl, Hs⟩
  isplitl [Hp H3 H5 Hr]
  · isplitl [Hp]; · iexact Hp
    isplitl [H3 H5]
    · isplitl [H3]; · iexact H3
      iexact H5
    iexact Hr
  isplitr; · iexact HP
  isplitr [H0]
  · isplitl [Hb]; · iexact Hb
    isplitl [Hl]; · iexact Hl
    isplitl [Hs]; · iexact Hs
    iexact H1
  iexact H0

theorem hout0 (c : Dev nD) : ((dat0 m c).Φ (Fin.last cfg0.N) : sProp 𝕄)
    ⊢ iprop(Pipeline.scopedRest spec0 c ∗ (∃ r, prngReg c r) ∗ StableHlo.held (c.tc : Thread nD τ) ∅ (V1 m (outs m) c) ∗ Pipeline.ownSems0 (callSem (rowE 0)) c ∗ kept m 0 c) := by
  have hs := rows_end (F := F) c 0
  rw [
    show (own' c (pbufM 0) : sProp 𝕄) = anyBuf c cc0_scratch2 from any_whole c cc0_scratch2,
    show (own' c (rbufM 0) : sProp 𝕄) = anyBuf c cc0_scratch4 from any_whole c cc0_scratch4] at hs
  rw [show (dat0 m c).Φ (Fin.last cfg0.N) = iprop(rest0 c ∗ pers (vals m) ∗ st 0 (iW0 m c) (x0 m c) (Memref.whole cc0_scratch1) c 12 ∗ xAt m c 12) from rfl,
    scopedRest0_split, held_none, st_last]
  unfold kept rest0 xAt pers
  rw [
    show (own' c (Memref.whole cc0_scratch1) : sProp 𝕄) = anyBuf c cc0_scratch1 from any_whole c cc0_scratch1,
    show (own' c (Memref.whole cc0_scratch0) : sProp 𝕄) = anyBuf c cc0_scratch0 from any_whole c cc0_scratch0]
  rw [if_pos (Or.inr rfl)]
  iintro ⟨⟨Hp, ⟨H3, H5⟩, Hr⟩, ⟨#HR, -⟩, ⟨Hb, Hs, H1⟩, H0⟩
  ihave Hs := hs $$ Hs
  icases Hs with ⟨Hs, H2, H4⟩
  isplitl [Hr H0 H1 H2 H3 H4 H5]
  · isplitr [Hr]
    · isplitl [H0]; · iexact H0
      isplitl [H1]; · iexact H1
      isplitl [H2]; · iexact H2
      isplitl [H3]; · iexact H3
      isplitl [H4]; · iexact H4
      iexact H5
    iexact Hr
  isplitl [Hp]; · iexact Hp
  isplitr; · iempintro
  isplitl [Hs]; · iexact Hs
  isplitr; · iexact HR
  iexact Hb

theorem hin1 (c : Dev nD) : iprop(Pipeline.scopedRest spec1 c ∗ (∃ r, prngReg c r) ∗ StableHlo.held (c.tc : Thread nD τ) ∅ (V1 m (outs m) c) ∗ inside m (rowE 1) 1 c)
    ⊢ ((dat1 m c).Φ 0 : sProp 𝕄) := by
  have hs := rows_start (F := F) c 1
  rw [
    show (own' c (pbufM 1) : sProp 𝕄) = anyBuf c cc1_scratch2 from any_whole c cc1_scratch2,
    show (own' c (rbufM 1) : sProp 𝕄) = anyBuf c cc1_scratch4 from any_whole c cc1_scratch4] at hs
  rw [show (dat1 m c).Φ 0 = iprop(rest1 c ∗ pers (vals m) ∗ st 1 (iW1 m c) (x1 m c) (Memref.whole cc1_scratch1) c 0) from rfl,
    scopedRest1_split, held_none, st_zero]
  unfold inside rest1
  rw [
    show (own' c (Memref.whole cc1_scratch1) : sProp 𝕄) = anyBuf c cc1_scratch1 from any_whole c cc1_scratch1]
  iintro ⟨⟨⟨H0, H1, H2, H3, H4, H5⟩, Hr⟩, Hp, -, #HP, Ho⟩
  ihave Hs := hs $$ [Ho H2 H4]
  · isplitl [Ho]; · iexact Ho
    isplitl [H2]; · iexact H2
    iexact H4
  icases Hs with ⟨Hb, Hl, Hs⟩
  isplitl [Hp H0 H3 H5 Hr]
  · isplitl [Hp]; · iexact Hp
    isplitl [H0 H3 H5]
    · isplitl [H0]; · iexact H0
      isplitl [H3]; · iexact H3
      iexact H5
    iexact Hr
  isplitr; · iexact HP
  isplitl [Hb]; · iexact Hb
  isplitl [Hl]; · iexact Hl
  isplitl [Hs]; · iexact Hs
  iexact H1

theorem hout1 (c : Dev nD) : ((dat1 m c).Φ (Fin.last cfg1.N) : sProp 𝕄)
    ⊢ iprop(Pipeline.scopedRest spec1 c ∗ (∃ r, prngReg c r) ∗ StableHlo.held (c.tc : Thread nD τ) ∅ (V2 m (outs m) c) ∗ Pipeline.ownSems0 (callSem (rowE 1)) c ∗ kept m 1 c) := by
  have hs := rows_end (F := F) c 1
  rw [
    show (own' c (pbufM 1) : sProp 𝕄) = anyBuf c cc1_scratch2 from any_whole c cc1_scratch2,
    show (own' c (rbufM 1) : sProp 𝕄) = anyBuf c cc1_scratch4 from any_whole c cc1_scratch4] at hs
  rw [show (dat1 m c).Φ (Fin.last cfg1.N) = iprop(rest1 c ∗ pers (vals m) ∗ st 1 (iW1 m c) (x1 m c) (Memref.whole cc1_scratch1) c 12) from rfl,
    scopedRest1_split, held_none, st_last]
  unfold kept rest1 pers
  rw [
    show (own' c (Memref.whole cc1_scratch1) : sProp 𝕄) = anyBuf c cc1_scratch1 from any_whole c cc1_scratch1]
  iintro ⟨⟨Hp, ⟨H0, H3, H5⟩, Hr⟩, ⟨#HR, -⟩, ⟨Hb, Hs, H1⟩⟩
  ihave Hs := hs $$ Hs
  icases Hs with ⟨Hs, H2, H4⟩
  isplitl [Hr H0 H1 H2 H3 H4 H5]
  · isplitr [Hr]
    · isplitl [H0]; · iexact H0
      isplitl [H1]; · iexact H1
      isplitl [H2]; · iexact H2
      isplitl [H3]; · iexact H3
      isplitl [H4]; · iexact H4
      iexact H5
    iexact Hr
  isplitl [Hp]; · iexact Hp
  isplitr; · iempintro
  isplitl [Hs]; · iexact Hs
  isplitr; · iexact HR
  iexact Hb

theorem hin2 (c : Dev nD) : iprop(Pipeline.scopedRest spec2 c ∗ (∃ r, prngReg c r) ∗ StableHlo.held (c.tc : Thread nD τ) ∅ (V2 m (outs m) c) ∗ inside m rowL 2 c)
    ⊢ ((dat2 m c).Φ 0 : sProp 𝕄) := by
  have hs := last_start (F := F) c
  rw [
    show (own' c (rrbufM) : sProp 𝕄) = anyBuf c cc2_scratch5 from any_whole c cc2_scratch5] at hs
  rw [show (dat2 m c).Φ 0 = iprop(rest2 c ∗ pers (vals m) ∗ st2 c (iW2 m c) (iU2 m c) (x2 m c) (Memref.whole cc2_scratch1) 0) from rfl,
    scopedRest2_split, held_none, st2_zero]
  unfold inside rest2
  rw [
    show (own' c (Memref.whole cc2_scratch1) : sProp 𝕄) = anyBuf c cc2_scratch1 from any_whole c cc2_scratch1,
    show (own' c (pslabM) : sProp 𝕄) = anyBuf c cc2_scratch3 from any_whole c cc2_scratch3]
  iintro ⟨⟨⟨H0, H1, H2, H3, H4, H5⟩, Hr⟩, Hp, -, #HP, Ho⟩
  ihave Hs := hs $$ [Ho H5]
  · isplitl [Ho]; · iexact Ho
    iexact H5
  icases Hs with ⟨Hb, Hl, Hs⟩
  isplitl [Hp H0 H2 H4 Hr]
  · isplitl [Hp]; · iexact Hp
    isplitl [H0 H2 H4]
    · isplitl [H0]; · iexact H0
      isplitl [H2]; · iexact H2
      iexact H4
    iexact Hr
  isplitr; · iexact HP
  isplitl [Hb]; · iexact Hb
  isplitl [Hl]; · iexact Hl
  isplitl [Hs]; · iexact Hs
  isplitl [H1]; · iexact H1
  iexact H3

theorem hout2 (c : Dev nD) : ((dat2 m c).Φ (Fin.last cfg2.N) : sProp 𝕄)
    ⊢ iprop(Pipeline.scopedRest spec2 c ∗ (∃ r, prngReg c r) ∗ StableHlo.held (c.tc : Thread nD τ) ∅ (V3 m (outs m) c) ∗ Pipeline.ownSems0 (callSem rowL) c ∗ kept m 2 c) := by
  rw [show (dat2 m c).Φ (Fin.last cfg2.N) = iprop(rest2 c ∗ pers (vals m) ∗ st2 c (iW2 m c) (iU2 m c) (x2 m c) (Memref.whole cc2_scratch1) 12) from rfl,
    scopedRest2_split, held_none, st2_last, last_end]
  unfold kept rest2 pers end2
  rw [
    show (own' c (Memref.whole cc2_scratch1) : sProp 𝕄) = anyBuf c cc2_scratch1 from any_whole c cc2_scratch1,
    show (own' c (pslabM) : sProp 𝕄) = anyBuf c cc2_scratch3 from any_whole c cc2_scratch3,
    show (own' c (rrbufM) : sProp 𝕄) = anyBuf c cc2_scratch5 from any_whole c cc2_scratch5]
  iintro ⟨⟨Hp, ⟨H0, H2, H4⟩, Hr⟩, ⟨#HR, -⟩, ⟨Hb, ⟨Hs, H3, H5⟩, H1⟩⟩
  isplitl [Hr H0 H1 H2 H3 H4 H5]
  · isplitr [Hr]
    · isplitl [H0]; · iexact H0
      isplitl [H1]; · iexact H1
      isplitl [H2]; · iexact H2
      isplitl [H3]; · iexact H3
      isplitl [H4]; · iexact H4
      iexact H5
    iexact Hr
  isplitl [Hp]; · iexact Hp
  isplitr; · iempintro
  isplitl [Hs]; · iexact Hs
  isplitr; · iexact HR
  iexact Hb

/-! ## The arrays before and after -/

theorem arrs0 (c : Dev nD) (w : Fin cfg0.W) : (dat0 m c).arrAt w cfg0.N = V1 m (outs m) c (Proc.devRef .tc (Pipeline.arrRef spec0 w)) := by
  match w with
  | 0 => exact ((dat0 m c).arrAt_in 0 rfl _).trans (V1_of m (outs m) c main_arg0 (by decide)).symm
  | 1 => exact ((dat0 m c).arrAt_in 1 rfl _).trans (V1_of m (outs m) c main_arg1 (by decide)).symm
  | 2 => exact ((dat0 m c).arrAt_in 2 rfl _).trans (V1_of m (outs m) c main_arg4 (by decide)).symm
  | 3 => exact ((dat0 m c).arrAt_eq_of_after_last 3 ⟨11, by decide⟩ (by decide +kernel) (x1 m c) fun j => rfl).trans ((V1_at m c).trans (outs_1 m c)).symm
theorem arrs1 (c : Dev nD) (w : Fin cfg1.W) : (dat1 m c).arrAt w cfg1.N = V2 m (outs m) c (Proc.devRef .tc (Pipeline.arrRef spec1 w)) := by
  match w with
  | 0 => exact ((dat1 m c).arrAt_in 0 rfl _).trans (V2_of m (outs m) c main_v1 (by decide)).symm
  | 1 => exact ((dat1 m c).arrAt_in 1 rfl _).trans (V2_of m (outs m) c main_arg2 (by decide)).symm
  | 2 => exact ((dat1 m c).arrAt_in 2 rfl _).trans (V2_of m (outs m) c main_arg5 (by decide)).symm
  | 3 => exact ((dat1 m c).arrAt_eq_of_after_last 3 ⟨11, by decide⟩ (by decide +kernel) (x2 m c) fun j => rfl).trans ((V2_at m c).trans (outs_2 m c)).symm
theorem V3_at (c : Dev nD) : V3 m (outs m) c main_v3 = x3 m c := by unfold V3; rw [Function.update_self]; exact outs_3 m c
theorem arrs2 (c : Dev nD) (w : Fin cfg2.W) : (dat2 m c).arrAt w cfg2.N = V3 m (outs m) c (Proc.devRef .tc (Pipeline.arrRef spec2 w)) := by
  match w with
  | 0 => exact ((dat2 m c).arrAt_in 0 rfl _).trans (V3_of m (outs m) c main_v2 (by decide)).symm
  | 1 => exact ((dat2 m c).arrAt_in 1 rfl _).trans (V3_of m (outs m) c main_arg3 (by decide)).symm
  | 2 => exact ((dat2 m c).arrAt_in 2 rfl _).trans (V3_of m (outs m) c main_arg6 (by decide)).symm
  | 3 => exact ((dat2 m c).arrAt_eq_of_after_last 3 ⟨11, by decide⟩ (by decide +kernel) (x3 m c) fun j => rfl).trans (V3_at m c).symm

/-- The unscoped buffers that are no array of a call. -/
abbrev others {g W : ℕ} (s : Fin W → Pipeline.WinSpec sig g) : Finset (DevRef τ sig) := Pipeline.ucRefs τ sig \ Pipeline.arrRefs (τ := τ) s

theorem ne_arr {g W : ℕ} (s : Fin W → Pipeline.WinSpec sig g) (w : Fin W) {b : DevRef τ sig} (hb : b ∈ others s \ (∅ : Finset (DevRef τ sig))) :
    b ≠ Proc.devRef .tc (Pipeline.arrRef s w) := fun h => by
  subst h
  have := (Finset.mem_sdiff.mp (Finset.mem_sdiff.mp hb).1).2
  exact this (Finset.mem_map_of_mem _ (Finset.mem_image_of_mem _ (Finset.mem_univ w)))

theorem rest_0 (c : Dev nD) : ∀ b ∈ others spec0 \ (∅ : Finset (DevRef τ sig)), V1 m (outs m) c b = V0 m c b := fun b hb => by
  unfold V1; exact Function.update_of_ne (ne_arr spec0 3 hb) _ _
theorem rest_1 (c : Dev nD) : ∀ b ∈ others spec1 \ (∅ : Finset (DevRef τ sig)), V2 m (outs m) c b = V1 m (outs m) c b := fun b hb => by
  unfold V2; exact Function.update_of_ne (ne_arr spec1 3 hb) _ _
theorem rest_2 (c : Dev nD) : ∀ b ∈ others spec2 \ (∅ : Finset (DevRef τ sig)), V3 m (outs m) c b = V2 m (outs m) c b := fun b hb => by
  unfold V3; exact Function.update_of_ne (ne_arr spec2 3 hb) _ _

/-! ## The level cuts -/

theorem kd_0 : ∀ (w : Fin 4) (s : Fin (spec0 w).nbuf), kd (.dma ((spec0 w).sem s)) = .other := by decide
theorem kd_1 : ∀ (w : Fin 4) (s : Fin (spec1 w).nbuf), kd (.dma ((spec1 w).sem s)) = .other := by decide
theorem kd_2 : ∀ (w : Fin 4) (s : Fin (spec2 w).nbuf), kd (.dma ((spec2 w).sem s)) = .other := by decide
theorem lv_other (c : Dev nD) (s : DmaSem sig) (h : kd (.dma s) = .other) : lv ((c : Thread nD τ), .dma s) () ≤ 0 := by
  unfold lv; dsimp only; rw [h]

theorem in_L {X : CellTallies nD τ sig Unit} (h : Above 0 X) (g : GSem nD τ sig) (i : Unit) (hg : 0 < X g i) : i ∈ L g ∧ (0 : ℕ) < lv g i :=
  ⟨by unfold L; rw [if_pos (h g i hg).1]; exact Finset.mem_singleton_self _, (h g i hg).2⟩

set_option backward.isDefEq.respectTransparency.types false in
theorem cut0 : Pipeline.LevelCutOwed (pcfgs (F := F)) adm (pdats m) () L lv 0 (fun _ => 0) :=
  ⟨fun c w s => by rw [L_tc]; exact Finset.mem_singleton_self _, fun c w s => lv_other c _ (kd_0 w s), fun c t g i h => in_L (above_owedAt 0 c t.val) g i h⟩
set_option backward.isDefEq.respectTransparency.types false in
theorem cut1 : Pipeline.LevelCutOwed (pcfgs (F := F)) adm (pdats m) () L lv 1 (fun _ => 0) :=
  ⟨fun c w s => by rw [L_tc]; exact Finset.mem_singleton_self _, fun c w s => lv_other c _ (kd_1 w s), fun c t g i h => in_L (above_owedAt 1 c t.val) g i h⟩
set_option backward.isDefEq.respectTransparency.types false in
theorem cut2 : Pipeline.LevelCutOwed (pcfgs (F := F)) adm (pdats m) () L lv 2 (fun _ => 0) :=
  ⟨fun c w s => by rw [L_tc]; exact Finset.mem_singleton_self _, fun c w s => lv_other c _ (kd_2 w s), fun c t g i h => in_L (above_owed2 c t.val) g i h⟩

/-! ## The three regions -/

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 (callSem (rowE 0)) (by decide : Pipeline.OwnSemFacts spec0 (callSem (rowE 0)))
    ∅ (others spec0) (Finset.empty_subset _) launch0.toP rfl (fun c => (body0 m c).loose)
    (fun c => nxt c 0) (due 0) (owed_due 0) (fun _ => rfl) (fun _ => rfl) (fun _ _ => ite_self fullShare)
    (V0 m) (V1 m (outs m)) (rest_0 m) (bring m (rowE 0) 0) (kept m 0) (inside m (rowE 0) 0) (kept m 0)
    (bring_open m (rowE 0) 0) (hin0 m) (hout0 m) (fun c => by iintro H; imodintro; iexact H) (fun _ => 0) (cut0 m)
    (fun c => iprop(hand (rowE 1) 1 c ∗ hand rowL 2 c)) (fun _ _ => rfl) (arrs0 m)

set_option backward.isDefEq.respectTransparency.types false in
def reg1 : Pipeline.RegionSeg (pcfgs (F := F)) adm (pdats m) () defs₀ 𝒱₀ L lv 1 :=
  Pipeline.RegionSeg.ofTalk (pcfgs (F := F)) adm (pdats m) () defs₀ 𝒱₀ L lv 1 (callSem (rowE 1)) (by decide : Pipeline.OwnSemFacts spec1 (callSem (rowE 1)))
    ∅ (others spec1) (Finset.empty_subset _) launch1.toP rfl (fun c => (body1 m c).loose)
    (fun c => nxt c 1) (due 1) (owed_due 1) (fun _ => rfl) (fun _ => rfl) (fun _ _ => ite_self fullShare)
    (V1 m (outs m)) (V2 m (outs m)) (rest_1 m) (bring m (rowE 1) 1) (kept m 1) (inside m (rowE 1) 1) (kept m 1)
    (bring_open m (rowE 1) 1) (hin1 m) (hout1 m) (fun c => by iintro H; imodintro; iexact H) (fun _ => 0) (cut1 m)
    (fun c => iprop(hand rowL 2 c ∗ semVal (barC 0 c) 0)) (fun _ _ => rfl) (arrs1 m)

set_option backward.isDefEq.respectTransparency.types false in
def reg2 : Pipeline.RegionSeg (pcfgs (F := F)) adm (pdats m) () defs₀ 𝒱₀ L lv 2 :=
  Pipeline.RegionSeg.ofTalk (pcfgs (F := F)) adm (pdats m) () defs₀ 𝒱₀ L lv 2 (callSem rowL) (by decide : Pipeline.OwnSemFacts spec2 (callSem rowL))
    ∅ (others spec2) (Finset.empty_subset _) launch2.toP rfl (fun c => (body2 m c).loose)
    (fun _ => 0) E2 (fun c => (zero_add (E2 c)).symm) (fun _ => rfl) (fun _ => rfl) (fun _ _ => ite_self fullShare)
    (V2 m (outs m)) (V3 m (outs m)) (rest_2 m) (bring m rowL 2) (kept m 2) (inside m rowL 2) (kept m 2)
    (bring_open m rowL 2) (hin2 m) (hout2 m) (fun c => by iintro H; imodintro; iexact H) (fun _ => 0) (cut2 m)
    (fun c => iprop(semVal (barC 0 c) 0 ∗ semVal (barC 1 c) 0)) (fun _ _ => rfl) (arrs2 m)

end Cert.KernelIdeal.Talk

end
-- ==== Proof.Deal.lean ====
/- The launch: every duty's token and every cell's credit, dealt to the devices. -/
module

public import proofs.«01_k».proof.Proof.Segs

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]
local notation "𝕄" => MT nD τ sig Unit (Elt F) ℕ UU ℕ

/-! ## The tokens and their owners -/

/-- The token of a duty: a barrier's unit by its call and copy, or a copy's send or receive. -/
abbrev Key : Type := (Fin 3 × Fin 3) ⊕ (Row × Fin 3 × Bool)
/-- The cell and duty of a token at device `c`. -/
def keyCell (c : Dev nD) : Key → GSem nD τ sig × ℕ × Fin 3
  | .inl (p, k) => (barC p c, 0, k)
  | .inr x => (((c : Thread nD τ), scSem x), 0, 0)
theorem keyCell_inj : Function.Injective fun x : Dev nD × Key => keyCell x.1 x.2 := by
  rintro ⟨c, x⟩ ⟨c', x'⟩ h
  have hc : c = c' := by
    rcases x with ⟨p, k⟩ | x <;> rcases x' with ⟨p', k'⟩ | x' <;> exact congrArg (fun t : GSem nD τ sig × ℕ × Fin 3 => t.1.1.1) h
  subst hc
  rcases x with ⟨p, k⟩ | x <;> rcases x' with ⟨p', k'⟩ | x'
  · have h1 : kd (.reg (bS p)) = kd (.reg (bS p')) := congrArg (fun t : GSem nD τ sig × ℕ × Fin 3 => kd t.1.2) h
    rw [kd_bar, kd_bar] at h1
    have h2 : k = k' := congrArg (fun t : GSem nD τ sig × ℕ × Fin 3 => t.2.2) h
    rw [Kd.bar.inj h1, h2]
  · exact absurd (congrArg (fun t : GSem nD τ sig × ℕ × Fin 3 => kd t.1.2) h) (by
      obtain ⟨r, k, b⟩ := x'
      show kd (.reg (bS p)) ≠ kd (scSem (r, k, b))
      cases b <;> simp [scSem, kd_bar, kd_send, kd_recv])
  · exact absurd (congrArg (fun t : GSem nD τ sig × ℕ × Fin 3 => kd t.1.2) h).symm (by
      obtain ⟨r, k, b⟩ := x
      show kd (.reg (bS p')) ≠ kd (scSem (r, k, b))
      cases b <;> simp [scSem, kd_bar, kd_send, kd_recv])
  · rw [scSem_inj (congrArg (fun t : GSem nD τ sig × ℕ × Fin 3 => t.1.2) h)]
def talkToks : Finset (GSem nD τ sig × ℕ × Fin 3) := Finset.univ.map ⟨_, keyCell_inj⟩

/-- Something of every copy. -/
def copies (Φ : Row → Fin 3 → sProp 𝕄) : sProp 𝕄 := bigSep Finset.univ fun r => bigSep Finset.univ fun k => Φ r k
theorem copies_sep (Φ Ψ : Row → Fin 3 → sProp 𝕄) : (copies fun r k => iprop(Φ r k ∗ Ψ r k)) = iprop(copies Φ ∗ copies Ψ) := by
  unfold copies; rw [← bigSep_sep']; exact bigSep_congr fun r _ => bigSep_sep' ..
theorem copies_two (Φ : Row × Fin 3 × Bool → sProp 𝕄) : bigSep Finset.univ Φ = copies fun r k => iprop(Φ (r, k, false) ∗ Φ (r, k, true)) := by
  unfold copies
  rw [bigSep_univ_prod]
  refine bigSep_congr fun r _ => ?_
  rw [bigSep_univ_prod]
  exact bigSep_congr fun k _ => bigSep_univ_eq_bigSepL [false, true] (by decide) (by decide) _
/-- Something of every barrier unit. -/
def units (Φ : Fin 3 → Fin 3 → sProp 𝕄) : sProp 𝕄 := bigSep Finset.univ fun p => bigSep Finset.univ fun k => Φ p k

theorem copies_dev (Φ : Dev nD → Row → Fin 3 → sProp 𝕄) : (bigSep Finset.univ fun c => copies (Φ c)) = copies fun r k => bigSep Finset.univ fun c => Φ c r k := by
  unfold copies
  rw [bigSep_univ_comm (fun c r => bigSep Finset.univ fun k => Φ c r k)]
  exact bigSep_congr fun r _ => bigSep_univ_comm fun c k => Φ c r k
theorem units_dev (Φ : Dev nD → Fin 3 → Fin 3 → sProp 𝕄) : (bigSep Finset.univ fun c => units (Φ c)) = units fun p k => bigSep Finset.univ fun c => Φ c p k := by
  unfold units
  rw [bigSep_univ_comm (fun c p => bigSep Finset.univ fun k => Φ c p k)]
  exact bigSep_congr fun p _ => bigSep_univ_comm fun c k => Φ c p k

def peerEquiv (k : Fin 3) : Dev nD ≃ Dev nD := Function.Involutive.toPerm (peer k) (peer_peer k)

/-- What belongs to all devices, dealt to the peers. -/
theorem copies_around (Φ : Dev nD → Row → Fin 3 → sProp 𝕄) : (bigSep Finset.univ fun c => copies (Φ c)) = bigSep Finset.univ fun c => copies fun r k => Φ (peer k c) r k := by
  rw [copies_dev, copies_dev (fun c r k => Φ (peer k c) r k)]
  unfold copies
  exact bigSep_congr fun r _ => bigSep_congr fun k _ => bigSep_univ_equiv (peerEquiv k) fun c => Φ c r k
theorem units_around (Φ : Dev nD → Fin 3 → Fin 3 → sProp 𝕄) : (bigSep Finset.univ fun c => units (Φ c)) = bigSep Finset.univ fun c => units fun p k => Φ (peer k c) p k := by
  rw [units_dev, units_dev (fun c p k => Φ (peer k c) p k)]
  unfold units
  exact bigSep_congr fun p _ => bigSep_congr fun k _ => bigSep_univ_equiv (peerEquiv k) fun c => Φ c p k

/-- The tokens, each with the device that pays its duty. -/
def payToks (c : Dev nD) : sProp 𝕄 :=
  iprop((units fun p k => dutyTok ER (barC p (peer k c)) 0 k) ∗ (copies fun r k => dutyTok ER (sendC r k c) 0 0) ∗ (copies fun r k => dutyTok ER (recvC r k (peer k c)) 0 0))
theorem toks_dealt : bigSep talkToks (fun x => (dutyTok ER x.1 x.2.1 x.2.2 : sProp 𝕄)) = bigSep Finset.univ fun c => payToks c := by
  have e (c : Dev nD) : (bigSep Finset.univ fun x : Key => (dutyTok ER (keyCell c x).1 (keyCell c x).2.1 (keyCell c x).2.2 : sProp 𝕄))
      = iprop((units fun p k => dutyTok ER (barC p c) 0 k) ∗ (copies fun r k => dutyTok ER (sendC r k c) 0 0) ∗ (copies fun r k => dutyTok ER (recvC r k c) 0 0)) := by
    rw [bigSep_univ_sum, ← copies_sep, copies_two, bigSep_univ_prod]; rfl
  unfold talkToks payToks
  rw [bigSep_map, bigSep_univ_prod]
  refine (bigSep_congr fun c _ => e c).trans ?_
  rw [bigSep_sep', bigSep_sep', bigSep_sep', bigSep_sep', units_around fun c p k => dutyTok ER (barC p c) 0 k, copies_around fun c r k => dutyTok ER (recvC r k c) 0 0]

/-! ## The credit at launch -/

/-- What a device owes at the start, cell by cell. -/
def paid (c : Dev nD) : List (GSem nD τ sig × ℕ) :=
  let bar (p : Fin 3) := ([0, 1, 2] : List (Fin 3)).map fun k => (barC p (peer k c), 1)
  let row (r : Row) := ([0, 1, 2] : List (Fin 3)).map fun k => (recvC r k (peer k c), amt r)
  bar 0 ++ row (some (0, 0)) ++ row (some (0, 1)) ++ row (some (0, 2)) ++ row (some (0, 3))
    ++ bar 1 ++ row (some (1, 0)) ++ row (some (1, 1)) ++ row (some (1, 2)) ++ row (some (1, 3)) ++ bar 2 ++ row none
theorem E0_paid (c : Dev nD) : E0 c = (paid c).foldr (fun x X => X + tallyAt x.1 () x.2) 0 := rfl
theorem fold_at (l : List (GSem nD τ sig × ℕ)) (g : GSem nD τ sig) :
    (l.foldr (fun x X => X + tallyAt x.1 () x.2) (0 : CellTallies nD τ sig Unit)) g () = (l.map fun x => if x.1 = g then x.2 else 0).sum := by
  induction l with
  | nil => rfl
  | cons x l ih =>
    rw [List.foldr_cons, Pi.add_apply, Finsupp.add_apply, ih, List.map_cons, List.sum_cons, Nat.add_comm, tallyAt_apply]
    congr 1
    by_cases h : x.1 = g
    · rw [if_pos h, if_pos ⟨h.symm, rfl⟩]
    · rw [if_neg h, if_neg fun ⟨h', _⟩ => h h'.symm]
theorem credit_at (g : GSem nD τ sig) (n : ℕ) (h : ∑ d : Dev nD, ((paid d).map fun x => if x.1 = g then x.2 else 0).sum = n) :
    tallyOn g (launchCredit (Pipeline.owing E0) 0 g) = (tallyAt g () n : CellTallies nD τ sig Unit) := by
  unfold tallyAt; refine congrArg _ (Finsupp.ext fun u => ?_); cases u
  rw [Pipeline.launchCredit_owing, Finsupp.single_eq_same, ← h]
  exact Finset.sum_congr rfl fun d _ => by rw [E0_paid, fold_at]

theorem paid_bar : ∀ (p : Fin 3) (c : Dev nD), ∑ d : Dev nD, ((paid d).map fun x => if x.1 = barC p c then x.2 else 0).sum = 3 := by decide +kernel
theorem paid_recv : ∀ (r : Row) (k : Fin 3) (c : Dev nD), ∑ d : Dev nD, ((paid d).map fun x => if x.1 = recvC r k c then x.2 else 0).sum = amt r := by decide +kernel

def semOf : Fin 3 ⊕ (Row × Fin 3) ↪ SemLoc sig :=
  ⟨fun | .inl p => .reg (bS p) | .inr x => .dma (rS x.1 x.2), by
    rintro (p | ⟨r, k⟩) (p' | ⟨r', k'⟩) h
    · have h' := congrArg kd h; rw [kd_bar, kd_bar] at h'; rw [Kd.bar.inj h']
    · exact absurd h (by simp)
    · exact absurd h (by simp)
    · have h' := congrArg kd h; dsimp only at h'; rw [kd_recv, kd_recv] at h'
      obtain ⟨rfl, rfl⟩ := Kd.recv.inj h'; rfl⟩

/-- A device's credit: three units of each barrier, each landing place's bytes. -/
def credits (c : Dev nD) : sProp 𝕄 := iprop((bigSep Finset.univ fun p => cred (tallyAt (barC p c) () 3)) ∗ copies fun r k => cred (tallyAt (recvC r k c) () (amt r)))
theorem credits_intro (c : Dev nD) : (Pipeline.launchCred E0 c : sProp 𝕄) ⊢ credits c := by
  unfold Pipeline.launchCred credits copies
  refine (bigSep_subset (t := Finset.univ.map semOf) (Finset.subset_univ _)).trans ?_
  rw [bigSep_map, bigSep_univ_sum, bigSep_univ_prod]
  refine Entails.of_eq (congrArg₂ (fun A B : sProp 𝕄 => iprop(A ∗ B)) (bigSep_congr fun p _ => ?_) (bigSep_congr fun r _ => bigSep_congr fun k _ => ?_))
  · exact congrArg cred (credit_at (barC p c) 3 (paid_bar p c))
  · exact congrArg cred (credit_at (recvC r k c) (amt r) (paid_recv r k c))

/-! ## The hands -/

/-- What a device is dealt besides its credit. -/
def dealt (c : Dev nD) : sProp 𝕄 :=
  iprop((bigSep Finset.univ fun p => atPos ER (barC p c) 0 ∅ 0) ∗ (copies fun r k => iprop(openTok ER (sendC r k c) ∗ openTok ER (recvC r k c))) ∗ payToks c)
/-- What a device brings to the three calls. -/
def hands (c : Dev nD) : sProp 𝕄 := iprop(hand (rowE 0) 0 c ∗ hand (rowE 1) 1 c ∗ hand rowL 2 c)

theorem hands_intro (c : Dev nD) : iprop(dealt c ∗ credits c) ⊢ (hands c : sProp 𝕄) := by
  have e : (copies fun r k => hold1 r k c : sProp 𝕄) = iprop((hold1 none 0 c ∗ hold1 none 1 c ∗ hold1 none 2 c) ∗ (bigSep Finset.univ fun j => three fun k => hold1 (rowE 0 j) k c)
      ∗ bigSep Finset.univ fun j => three fun k => hold1 (rowE 1 j) k c) := by
    unfold copies
    have h (r : Row) : (bigSep Finset.univ fun k => hold1 r k c : sProp 𝕄) = three fun k => hold1 r k c := threes _
    rw [bigSep_congr fun r _ => h r, bigSep_univ_eq_bigSepL [none, some (0, 0), some (0, 1), some (0, 2), some (0, 3), some (1, 0), some (1, 1), some (1, 2), some (1, 3)] (by decide) (by decide),
      bigSep_univ_eq_bigSepL [(0 : Fin 4), 1, 2, 3] (by decide) (by decide), bigSep_univ_eq_bigSepL [(0 : Fin 4), 1, 2, 3] (by decide) (by decide)]
    refine BI.equiv_iff.mp ⟨?_, ?_⟩
    · show iprop(three (fun k => hold1 none k c) ∗ three (fun k => hold1 (rowE 0 0) k c) ∗ three (fun k => hold1 (rowE 0 1) k c) ∗ three (fun k => hold1 (rowE 0 2) k c) ∗ three (fun k => hold1 (rowE 0 3) k c)
          ∗ three (fun k => hold1 (rowE 1 0) k c) ∗ three (fun k => hold1 (rowE 1 1) k c) ∗ three (fun k => hold1 (rowE 1 2) k c) ∗ three (fun k => hold1 (rowE 1 3) k c)) ⊢
        iprop((three (fun k => hold1 none k c)) ∗ (three (fun k => hold1 (rowE 0 0) k c) ∗ three (fun k => hold1 (rowE 0 1) k c) ∗ three (fun k => hold1 (rowE 0 2) k c) ∗ three (fun k => hold1 (rowE 0 3) k c))
          ∗ three (fun k => hold1 (rowE 1 0) k c) ∗ three (fun k => hold1 (rowE 1 1) k c) ∗ three (fun k => hold1 (rowE 1 2) k c) ∗ three (fun k => hold1 (rowE 1 3) k c))
      iintro ⟨H, A0, A1, A2, A3, HB⟩
      isplitl [H]; · iexact H
      isplitl [A0 A1 A2 A3]
      · isplitl [A0]; · iexact A0
        isplitl [A1]; · iexact A1
        isplitl [A2]; · iexact A2
        iexact A3
      iexact HB
    · show iprop((three (fun k => hold1 none k c)) ∗ (three (fun k => hold1 (rowE 0 0) k c) ∗ three (fun k => hold1 (rowE 0 1) k c) ∗ three (fun k => hold1 (rowE 0 2) k c) ∗ three (fun k => hold1 (rowE 0 3) k c))
          ∗ three (fun k => hold1 (rowE 1 0) k c) ∗ three (fun k => hold1 (rowE 1 1) k c) ∗ three (fun k => hold1 (rowE 1 2) k c) ∗ three (fun k => hold1 (rowE 1 3) k c)) ⊢
        iprop(three (fun k => hold1 none k c) ∗ three (fun k => hold1 (rowE 0 0) k c) ∗ three (fun k => hold1 (rowE 0 1) k c) ∗ three (fun k => hold1 (rowE 0 2) k c) ∗ three (fun k => hold1 (rowE 0 3) k c)
          ∗ three (fun k => hold1 (rowE 1 0) k c) ∗ three (fun k => hold1 (rowE 1 1) k c) ∗ three (fun k => hold1 (rowE 1 2) k c) ∗ three (fun k => hold1 (rowE 1 3) k c))
      iintro ⟨H, ⟨A0, A1, A2, A3⟩, HB⟩
      isplitl [H]; · iexact H
      isplitl [A0]; · iexact A0
      isplitl [A1]; · iexact A1
      isplitl [A2]; · iexact A2
      isplitl [A3]; · iexact A3
      iexact HB
  have eb : iprop((bigSep Finset.univ fun p => (atPos ER (barC p c) 0 ∅ 0 : sProp 𝕄)) ∗ (bigSep Finset.univ fun p => cred (tallyAt (barC p c) () 3)) ∗ units fun p k => dutyTok ER (barC p (peer k c)) 0 k)
      ⊢ iprop(barTok c 0 ∗ barTok c 1 ∗ barTok c 2) := by
    have e3 : (bigSep Finset.univ fun p => (barTok c p : sProp 𝕄)) = iprop(barTok c 0 ∗ barTok c 1 ∗ barTok c 2) := threes _
    have ht (p : Fin 3) : (three fun k => (dutyTok ER (barC p (peer k c)) 0 k : sProp 𝕄)) = bigSep Finset.univ fun k => dutyTok ER (barC p (peer k c)) 0 k := (threes _).symm
    rw [← e3]
    unfold barTok units
    simp only [ht]
    rw [bigSep_sep', bigSep_sep']
  have eh : iprop((copies fun r k => iprop(openTok ER (sendC r k c) ∗ openTok ER (recvC r k c))) ∗ (copies fun r k => dutyTok ER (sendC r k c) 0 0) ∗ (copies fun r k => dutyTok ER (recvC r k (peer k c)) 0 0)
      ∗ copies fun r k => cred (tallyAt (recvC r k c) () (amt r))) ⊢ (copies fun r k => hold1 r k c : sProp 𝕄) := by
    unfold hold1
    rw [copies_sep, copies_sep, copies_sep, copies_sep, copies_sep]
    iintro ⟨⟨A, B⟩, C⟩
    isplitl [A]; · iexact A
    isplitl [B]; · iexact B
    iexact C
  rw [e] at eh
  have el : (bigSep Finset.univ fun j => three fun k => hold1 (rowL j) k c : sProp 𝕄) = iprop(hold1 none 0 c ∗ hold1 none 1 c ∗ hold1 none 2 c) := by
    rw [show (Finset.univ : Finset Unit) = {()} from rfl, bigSep_singleton]; rfl
  unfold dealt credits hands hand payToks
  rw [el]
  iintro ⟨⟨HA, HO, HU, HS, HR⟩, HC, HK⟩
  ihave Hb := eb $$ [HA HC HU]
  · isplitl [HA]; · iexact HA
    isplitl [HC]; · iexact HC
    iexact HU
  ihave Hh := eh $$ [HO HS HR HK]
  · isplitl [HO]; · iexact HO
    isplitl [HS]; · iexact HS
    isplitl [HR]; · iexact HR
    iexact HK
  icases Hb with ⟨B0, B1, B2⟩
  icases Hh with ⟨H2, H0, H1⟩
  isplitl [B0 H0]
  · isplitl [B0]; · iexact B0
    iexact H0
  isplitl [B1 H1]
  · isplitl [B1]; · iexact B1
    iexact H1
  isplitl [B2]; · iexact B2
  iexact H2

end Cert.KernelIdeal.Talk

end
-- ==== Proof.Run.lean ====
/- The run of the whole module. -/
module

public import proofs.«01_k».proof.Proof.Deal
public import Idealize.ShloMosaic.Lib.Quiescent

@[expose] public section

noncomputable section

namespace Cert.KernelIdeal.Talk

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Gen

variable {F : FTy → Type} [FloatOps F]
local notation "𝕄" => MT nD τ sig Unit (Elt F) ℕ UU ℕ

section Run
variable (m : (ℓ : Loc nD τ sig) → Buf (Elt F) ℓ) (ρ : Dev nD → PrngReg)

/-- The ghost state of the launch: the pipelines' cells, and the exchange's barriers, copies and tokens. -/
def u₀ : UU := (initOf (Pipeline.cells (Pipeline.pin (pcfgs (F := F)) adm) cellOf_inj) (Pipeline.launchToks (Pipeline.pin (pcfgs (F := F)) adm) cellOf_inj),
  launchOf barCells scCells talkToks)
/-- The exchange's part of the ghost state, held by device zero until it is dealt. -/
def G (c : Dev nD) : sProp 𝕄 := if c = 0 then BI.own (ER (launchOf barCells scCells talkToks)) else iprop(emp)
theorem G_all : bigSep Finset.univ (G (F := F)) = BI.own (ER (launchOf barCells scCells talkToks)) := by
  rw [bigSep_univ_at _ 0, bigSep_congr (s := Finset.univ.erase 0) (Ψ := fun _ => BI.emp) fun c hc => by unfold G; rw [if_neg (Finset.ne_of_mem_erase hc)]; rfl,
    BI.bigSep_emp_const]
  unfold G; rw [if_pos rfl]; exact BI.equiv_iff.mp sep_emp

def barSem : Fin 3 ↪ SemLoc sig := ⟨fun p => .reg (bS p), fun p p' h => by
  have h' := congrArg kd h; rw [kd_bar, kd_bar] at h'; exact Kd.bar.inj h'⟩
theorem unscoped_eq : (Finset.univ.filter fun sm : SemLoc sig => ¬ sm.isScoped .tc) = Finset.univ.map barSem := by decide
theorem unscoped_bar : ∀ sm : SemLoc sig, sm.isScoped .tc = false → ∃ p, sm = .reg (bS p) := by decide
theorem unscopedSems0_eq (c : Dev nD) : (unscopedSems0 c : sProp 𝕄) = bigSep Finset.univ fun p => semVal (barC p c) 0 := by
  unfold unscopedSems0
  rw [unscoped_eq, bigSep_map]; rfl

/-- A buffer table split into a call's arrays and the others. -/
theorem held0 (V : Valuation τ sig (Elt F)) (c : Dev nD) : (StableHlo.held (c : Thread nD τ) (Pipeline.ucRefs τ sig) V : sProp 𝕄)
    = iprop(StableHlo.held (c : Thread nD τ) (Pipeline.arrRefs spec0) V ∗ StableHlo.held (c : Thread nD τ) (others spec0) V) :=
  StableHlo.held_sub_split _ (Pipeline.arrRefs_sub_ucRefs _ (by decide)) V
theorem held1 (V : Valuation τ sig (Elt F)) (c : Dev nD) : (StableHlo.held (c : Thread nD τ) (Pipeline.ucRefs τ sig) V : sProp 𝕄)
    = iprop(StableHlo.held (c : Thread nD τ) (Pipeline.arrRefs spec1) V ∗ StableHlo.held (c : Thread nD τ) (others spec1) V) :=
  StableHlo.held_sub_split _ (Pipeline.arrRefs_sub_ucRefs _ (by decide)) V
theorem held2 (V : Valuation τ sig (Elt F)) (c : Dev nD) : (StableHlo.held (c : Thread nD τ) (Pipeline.ucRefs τ sig) V : sProp 𝕄)
    = iprop(StableHlo.held (c : Thread nD τ) (Pipeline.arrRefs spec2) V ∗ StableHlo.held (c : Thread nD τ) (others spec2) V) :=
  StableHlo.held_sub_split _ (Pipeline.arrRefs_sub_ucRefs _ (by decide)) V

/-- What a device holds at the start. -/
def atStart (c : Dev nD) : sProp 𝕄 :=
  iprop(StableHlo.held (c : Thread nD τ) (Pipeline.ucRefs τ sig) (V0 m c) ∗ (∃ r, prngReg c r) ∗ (∃ κ, records (vals m) κ) ∗ hands c
    ∗ ∃ W, owes (c : Thread nD τ) (E0 c) W)
/-- What a device holds after the first call. -/
def atFirst (c : Dev nD) : sProp 𝕄 :=
  iprop(StableHlo.held (c : Thread nD τ) (Pipeline.ucRefs τ sig) (V1 m (outs m) c) ∗ (∃ r, prngReg c r) ∗ (∃ κ, records (vals m) κ)
    ∗ (hand (rowE 1) 1 c ∗ hand rowL 2 c ∗ semVal (barC 0 c) 0) ∗ ∃ W, owes (c : Thread nD τ) (E1 c) W)
/-- What a device holds after the second call. -/
def atSecond (c : Dev nD) : sProp 𝕄 :=
  iprop(StableHlo.held (c : Thread nD τ) (Pipeline.ucRefs τ sig) (V2 m (outs m) c) ∗ (∃ r, prngReg c r) ∗ (∃ κ, records (vals m) κ)
    ∗ (hand rowL 2 c ∗ semVal (barC 0 c) 0 ∗ semVal (barC 1 c) 0) ∗ ∃ W, owes (c : Thread nD τ) (E2 c) W)
/-- What a device holds at the end. -/
def atEnd (c : Dev nD) : sProp 𝕄 :=
  iprop(StableHlo.held (c : Thread nD τ) (Pipeline.ucRefs τ sig) (V3 m (outs m) c) ∗ semVal (barC 0 c) 0 ∗ semVal (barC 1 c) 0 ∗ semVal (barC 2 c) 0)

theorem pre0 (c : Dev nD) : atStart m c ⊢ (reg0 m).pre c := by
  show atStart m c ⊢ iprop(StableHlo.held (c : Thread nD τ) (Pipeline.arrRefs spec0) (V0 m c) ∗ (∃ r, prngReg c r)
    ∗ (StableHlo.held (c : Thread nD τ) (others spec0) (V0 m c) ∗ (hand (rowE 1) 1 c ∗ hand rowL 2 c)) ∗ bring m (rowE 0) 0 c
    ∗ ∃ W, owes (c : Thread nD τ) (nxt c 0 + due 0 c) W)
  rw [← owed_due 0 c, show owedAt 0 c 0 = E0 c from rfl]
  unfold atStart bring hands
  rw [held0]
  iintro ⟨⟨Ha, Ho⟩, Hp, Hr, ⟨H0, H1, H2⟩, HW⟩
  isplitl [Ha]; · iexact Ha
  isplitl [Hp]; · iexact Hp
  isplitl [Ho H1 H2]
  · isplitl [Ho]; · iexact Ho
    isplitl [H1] <;> iassumption
  isplitl [Hr H0]
  · isplitl [Hr] <;> iassumption
  iexact HW
theorem post0 (c : Dev nD) : (reg0 m).post c ⊢ atFirst m c := by
  show iprop(StableHlo.held (c : Thread nD τ) (Pipeline.arrRefs spec0) (V1 m (outs m) c) ∗ (∃ r, prngReg c r)
    ∗ (StableHlo.held (c : Thread nD τ) (others spec0) (V1 m (outs m) c) ∗ (hand (rowE 1) 1 c ∗ hand rowL 2 c)) ∗ kept m 0 c
    ∗ ∃ W, owes (c : Thread nD τ) (E1 c) W) ⊢ atFirst m c
  unfold atFirst kept
  rw [held0]
  iintro ⟨Ha, Hp, ⟨Ho, H1, H2⟩, ⟨Hr, H0⟩, HW⟩
  isplitl [Ha Ho]; · isplitl [Ha] <;> iassumption
  isplitl [Hp]; · iexact Hp
  isplitl [Hr]; · iexact Hr
  isplitl [H0 H1 H2]
  · isplitl [H1]; · iexact H1
    isplitl [H2] <;> iassumption
  iexact HW
theorem pre1 (c : Dev nD) : atFirst m c ⊢ (reg1 m).pre c := by
  show atFirst m c ⊢ iprop(StableHlo.held (c : Thread nD τ) (Pipeline.arrRefs spec1) (V1 m (outs m) c) ∗ (∃ r, prngReg c r)
    ∗ (StableHlo.held (c : Thread nD τ) (others spec1) (V1 m (outs m) c) ∗ (hand rowL 2 c ∗ semVal (barC 0 c) 0)) ∗ bring m (rowE 1) 1 c
    ∗ ∃ W, owes (c : Thread nD τ) (nxt c 1 + due 1 c) W)
  rw [← owed_due 1 c, show owedAt 1 c 0 = E1 c from rfl]
  unfold atFirst bring
  rw [held1]
  iintro ⟨⟨Ha, Ho⟩, Hp, Hr, ⟨H1, H2, H0⟩, HW⟩
  isplitl [Ha]; · iexact Ha
  isplitl [Hp]; · iexact Hp
  isplitl [Ho H0 H2]
  · isplitl [Ho]; · iexact Ho
    isplitl [H2] <;> iassumption
  isplitl [Hr H1]
  · isplitl [Hr] <;> iassumption
  iexact HW
theorem post1 (c : Dev nD) : (reg1 m).post c ⊢ atSecond m c := by
  show iprop(StableHlo.held (c : Thread nD τ) (Pipeline.arrRefs spec1) (V2 m (outs m) c) ∗ (∃ r, prngReg c r)
    ∗ (StableHlo.held (c : Thread nD τ) (others spec1) (V2 m (outs m) c) ∗ (hand rowL 2 c ∗ semVal (barC 0 c) 0)) ∗ kept m 1 c
    ∗ ∃ W, owes (c : Thread nD τ) (E2 c) W) ⊢ atSecond m c
  unfold atSecond kept
  rw [held1]
  iintro ⟨Ha, Hp, ⟨Ho, H2, H0⟩, ⟨Hr, H1⟩, HW⟩
  isplitl [Ha Ho]; · isplitl [Ha] <;> iassumption
  isplitl [Hp]; · iexact Hp
  isplitl [Hr]; · iexact Hr
  isplitl [H0 H1 H2]
  · isplitl [H2]; · iexact H2
    isplitl [H0] <;> iassumption
  iexact HW
theorem pre2 (c : Dev nD) : atSecond m c ⊢ (reg2 m).pre c := by
  show atSecond m c ⊢ iprop(StableHlo.held (c : Thread nD τ) (Pipeline.arrRefs spec2) (V2 m (outs m) c) ∗ (∃ r, prngReg c r)
    ∗ (StableHlo.held (c : Thread nD τ) (others spec2) (V2 m (outs m) c) ∗ (semVal (barC 0 c) 0 ∗ semVal (barC 1 c) 0)) ∗ bring m rowL 2 c
    ∗ ∃ W, owes (c : Thread nD τ) (0 + E2 c) W)
  rw [zero_add]
  unfold atSecond bring
  rw [held2]
  iintro ⟨⟨Ha, Ho⟩, Hp, Hr, ⟨H2, H0, H1⟩, HW⟩
  isplitl [Ha]; · iexact Ha
  isplitl [Hp]; · iexact Hp
  isplitl [Ho H0 H1]
  · isplitl [Ho]; · iexact Ho
    isplitl [H0] <;> iassumption
  isplitl [Hr H2]
  · isplitl [Hr] <;> iassumption
  iexact HW
theorem post2 (c : Dev nD) : (reg2 m).post c ⊢ (iprop(atEnd m c ∗ ∃ W, owes (c : Thread nD τ) (0 : CellTallies nD τ sig Unit) W) : sProp 𝕄) := by
  show iprop(StableHlo.held (c : Thread nD τ) (Pipeline.arrRefs spec2) (V3 m (outs m) c) ∗ (∃ r, prngReg c r)
    ∗ (StableHlo.held (c : Thread nD τ) (others spec2) (V3 m (outs m) c) ∗ (semVal (barC 0 c) 0 ∗ semVal (barC 1 c) 0)) ∗ kept m 2 c
    ∗ ∃ W, owes (c : Thread nD τ) (0 : CellTallies nD τ sig Unit) W) ⊢ (iprop(atEnd m c ∗ ∃ W, owes (c : Thread nD τ) (0 : CellTallies nD τ sig Unit) W) : sProp 𝕄)
  unfold atEnd kept
  rw [held2]
  iintro ⟨Ha, -, ⟨Ho, H0, H1⟩, ⟨-, H2⟩, HW⟩
  isplitr [HW]
  · isplitl [Ha Ho]; · isplitl [Ha] <;> iassumption
    isplitl [H0]; · iexact H0
    isplitl [H1] <;> iassumption
  iexact HW

/-- What of a device's launch holdings is not the exchange's ghost state. -/
def bundle (c : Dev nD) : sProp 𝕄 :=
  iprop(StableHlo.held (c : Thread nD τ) (Pipeline.ucRefs τ sig) (V0 m c) ∗ credits c ∗ owes (c : Thread nD τ) (E0 c) ∅ ∗ ∃ r, prngReg c r)

theorem begin_intro (κ : GSem nD τ sig → ℕ) (c : Dev nD) : iprop(records (vals m) κ ∗ (dealt c ∗ bundle m c)) ⊢ atStart m c := by
  unfold bundle atStart
  iintro ⟨#HR, Hl, Hh, HC, HO, Hp⟩
  isplitl [Hh]; · iexact Hh
  isplitl [Hp]; · iexact Hp
  isplitr [Hl HC HO]; · iexists κ; iexact HR
  isplitr [HO]
  · iapply (hands_intro c)
    isplitl [Hl] <;> iassumption
  iexists ∅; iexact HO

/-- The launch, from each device's holdings to what it brings to the first call. -/
theorem init :
    iprop((bigSep Finset.univ fun c : Dev nD => iprop(unscopedBufs c (fun b => m ((c : Thread nD τ).loc b)) ∗ unscopedSems0 c
          ∗ owes (c : Thread nD τ) (E0 c) ∅ ∗ Pipeline.launchCred E0 c ∗ prngReg c (ρ c) ∗ G (F := F) c)) ∗ levAts L lv)
      ⊢ (|={Set.univ}=> bigSep Finset.univ (atStart m) : sProp 𝕄) := by
  have hcore (c : Dev nD) : iprop(unscopedBufs c (fun b => m ((c : Thread nD τ).loc b)) ∗ unscopedSems0 c
        ∗ owes (c : Thread nD τ) (E0 c) ∅ ∗ Pipeline.launchCred E0 c ∗ prngReg c (ρ c) ∗ G (F := F) c)
      ⊢ (iprop(bundle m c ∗ ((bigSep Finset.univ fun p => semVal (barC p c) 0) ∗ G (F := F) c)) : sProp 𝕄) := by
    rw [show unscopedBufs c (fun b => m ((c : Thread nD τ).loc b)) = StableHlo.held (c : Thread nD τ) (Pipeline.ucRefs τ sig) (V0 m c) from
      Pipeline.unscopedBufs_held c (V0 m c), unscopedSems0_eq]
    unfold bundle
    iintro ⟨Hh, Hus, HO, Hcr, Hp, HG⟩
    ihave HC := (credits_intro (F := F) c) $$ Hcr
    isplitl [Hh HC HO Hp]
    · isplitl [Hh]; · iexact Hh
      isplitl [HC]; · iexact HC
      isplitl [HO]; · iexact HO
      iexists (ρ c); iexact Hp
    isplitl [Hus] <;> iassumption
  have bars (Φ : GSem nD τ sig → sProp 𝕄) : bigSep barCells Φ = bigSep Finset.univ fun c : Dev nD => bigSep Finset.univ fun p : Fin 3 => Φ (barC p c) := by
    unfold barCells
    rw [bigSep_map, bigSep_univ_prod]
    exact bigSep_univ_comm _
  have opens : bigSep scCells (fun g => (openTok ER g : sProp 𝕄))
      = bigSep Finset.univ fun c : Dev nD => copies fun r k => iprop(openTok ER (sendC r k c) ∗ openTok ER (recvC r k c)) := by
    unfold scCells
    rw [bigSep_map, bigSep_univ_prod, bigSep_univ_comm]
    exact bigSep_congr fun c _ => copies_two _
  iintro ⟨H, -⟩
  ihave H' := (show (bigSep Finset.univ fun c : Dev nD => iprop(unscopedBufs c (fun b => m ((c : Thread nD τ).loc b)) ∗ unscopedSems0 c
          ∗ owes (c : Thread nD τ) (E0 c) ∅ ∗ Pipeline.launchCred E0 c ∗ prngReg c (ρ c) ∗ G (F := F) c))
      ⊢ (bigSep Finset.univ fun c : Dev nD => iprop(bundle m c ∗ ((bigSep Finset.univ fun p => semVal (barC p c) 0) ∗ G (F := F) c)) : sProp 𝕄) from bigSep_mono fun c _ => hcore c) $$ H
  ihave H2 := (Entails.of_eq (bigSep_sep' ..)) $$ H'; icases H2 with ⟨HB, H3⟩
  ihave H4 := (Entails.of_eq (bigSep_sep' ..)) $$ H3; icases H4 with ⟨Hv, HG⟩
  ihave Hu := (show bigSep Finset.univ (G (F := F)) ⊢ BI.own (ER (launchOf barCells scCells talkToks)) from Entails.of_eq G_all) $$ HG
  imod (Rounds.fund_launch ER (Rd (vals m)) disjoint_cells (fun g _ h => h) talkToks) $$ [Hv Hu] with ⟨%κ, -, #Hinv, #Hr, Hat, Hopen, Htok⟩
  · isplitl [Hv]
    · iapply (Entails.of_eq (bars fun g => semVal g 0).symm) $$ Hv
    · iexact Hu
  imodintro
  iapply (bigSep_with_persistent (R := records (vals m) κ) (Φ := fun c => iprop(dealt c ∗ bundle m c)) fun c _ => begin_intro m κ c)
  isplitr
  · unfold records
    isplitr; · iexact Hinv
    iexact Hr
  iapply (Entails.of_eq (bigSep_sep' ..).symm)
  isplitr [HB]
  · unfold dealt
    iapply (Entails.of_eq (bigSep_sep' ..).symm); isplitl [Hat]; · iapply (Entails.of_eq (bars fun g => atPos ER g 0 ∅ 0)) $$ Hat
    iapply (Entails.of_eq (bigSep_sep' ..).symm); isplitl [Hopen]; · iapply (Entails.of_eq opens) $$ Hopen
    iapply (Entails.of_eq (toks_dealt (F := F))) $$ Htok
  · iexact HB

/-- A buffer that is no scratch is among the buffers that a device keeps. -/
theorem uc_mem (b : Ref sig .tc) (h : (Proc.devRef (τ := τ) .tc b).isScoped = false) : Proc.devRef .tc b ∈ Pipeline.ucRefs τ sig :=
  Finset.mem_filter.mpr ⟨StableHlo.devRef_mem_tcRefs b, by rw [h]; decide⟩

set_option backward.isDefEq.respectTransparency.types false in
/-- The run: from any memory with zero counters every weakly fair execution on the four devices ends, with the arguments as they were,
    each device's result as the three calls' values say, and every counter of the machine at zero. -/
theorem run_main : θ_run defs (onTc (τ := τ) (main (F := F))) (s₀ m ρ)
    (fun r => (∀ (c : Dev nD), ∀ b ∈ Pipeline.ucRefs τ sig, r.2.mem ((c : Thread nD τ).1, b) = V3 m (outs m) c b) ∧ r.2.sem = fun _ => 0) :=
  Pipeline.θ_run_regions_kit_sems (pcfgs (F := F)) adm (pdats m) () cellOf_inj EP defs₀ 𝒱₀ L lv m ρ main [.region (reg0 m), .region (reg1 m), .region (reg2 m)]
    (fun c Q => by rw [main_segs adm (pdats m) () 𝒱₀ L lv (reg0 m) (reg1 m) (reg2 m) c])
    (by simp only [Pipeline.Seg.pipes_region, Pipeline.Seg.pipes_nil]; decide)
    (O₀ := E0) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := atStart m) (Tₙ := atEnd m)
    (hch := ⟨fun c => pre0 m c, fun c => (show _ from post0 m c).trans (pre1 m c), fun c => (show _ from post1 m c).trans (pre2 m c), fun c => post2 m c⟩)
    (hinit := init m ρ)
    (QY := fun c s => (∀ b ∈ Pipeline.ucRefs τ sig, s.mem ((c : Thread nD τ).1, b) = V3 m (outs m) c b)
      ∧ s.sem (barC 0 c) = 0 ∧ s.sem (barC 1 c) = 0 ∧ s.sem (barC 2 c) = 0)
    (hfin := fun c s' => by
      unfold atEnd StableHlo.held
      iintro ⟨⟨Hh, H0, H1, H2⟩, HSI⟩
      ihave Hr := (pointsTo_read_all (Pipeline.ucRefs τ sig) (fun b => ((c : Thread nD τ).1, b)) (V3 m (outs m) c) s') $$ [Hh HSI]
      · isplitl [Hh] <;> iassumption
      icases Hr with ⟨%h, HSI⟩
      icombine HSI H0 gives %h0
      icombine HSI H1 gives %h1
      icombine HSI H2 gives %h2
      imodintro
      isplitr
      · ipureintro
        exact ⟨h, by simpa using h0, by simpa using h1, by simpa using h2⟩
      iexact HSI)
    (hQ := fun s h hs => ⟨fun c => (h c).1, sem_eq_zero hs fun c sm hsm => by
        obtain ⟨p, rfl⟩ := unscoped_bar sm hsm
        obtain ⟨-, h0, h1, h2⟩ := h c
        have hp : p = 0 ∨ p = 1 ∨ p = 2 := by revert p; decide
        rcases hp with rfl | rfl | rfl
        · exact h0
        · exact h1
        · exact h2⟩)

end Run

end Cert.KernelIdeal.Talk

end
-- ==== Proof.Frames.lean ====
/- The frames: the kernel at its own floats and at the ideal ones, and the reference, run, keep their arguments and leave every counter at zero. -/
module

public import proofs.«01_k».proof.Defs
public import proofs.«01_k».proof.Proof.Run
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

section Any
open Cert.KernelIdeal Cert.KernelIdeal.Talk Cert.KernelIdeal.Gen
variable {F : FTy → Type} [FloatOps F]

/-- The kernel's run, read at the result and at the arguments. -/
theorem run_args (m : (ℓ : Loc nD τ sig) → Buf (Elt F) ℓ) (g : Dev nD → PrngReg) :
    θ_run (Cert.KernelIdeal.defs (F := F)) (onTc (τ := τ) (main (F := F))) ⟨m, fun _ => 0, g⟩ (fun r => (∀ c : Dev nD,
      r.2.mem ((c.tc : Thread nD τ).loc main_v3) = x3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run (Cert.KernelIdeal.defs (F := F)) _ _).mono (fun _ h => ⟨fun c =>
    ⟨(h.1 c _ (uc_mem main_v3 (by decide))).trans (V3_at m c),
      (h.1 c _ (uc_mem main_arg0 (by decide))).trans (V3_main_arg0 m (outs m) c),
      (h.1 c _ (uc_mem main_arg1 (by decide))).trans (V3_main_arg1 m (outs m) c),
      (h.1 c _ (uc_mem main_arg2 (by decide))).trans (V3_main_arg2 m (outs m) c),
      (h.1 c _ (uc_mem main_arg3 (by decide))).trans (V3_main_arg3 m (outs m) c),
      (h.1 c _ (uc_mem main_arg4 (by decide))).trans (V3_main_arg4 m (outs m) c),
      (h.1 c _ (uc_mem main_arg5 (by decide))).trans (V3_main_arg5 m (outs m) c),
      (h.1 c _ (uc_mem main_arg6 (by decide))).trans (V3_main_arg6 m (outs m) c)⟩, h.2⟩) (run_main m g)
end Any

theorem frame_ideal : Cert.quiescent_KernelIdeal (hKernelIdeal := Cert.KernelIdeal.Gen.facts) := fun m g _ =>
  (θ_run (Cert.KernelIdeal.defs (F := Ideal)) _ _).mono (fun _ h => ⟨fun c => (h.1 c).2, h.2⟩) (run_args (F := Ideal) m g)

/-- The frame at any floats, at the ideal program's own names. -/
theorem frame_any {F : FTy → Type} [FloatOps F] (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0) :=
  (θ_run (Cert.KernelIdeal.defs (F := F)) _ _).mono (fun _ h => ⟨fun c => (h.1 c).2, h.2⟩) (run_args m g)

set_option maxHeartbeats 4000000 in
/-- The two programs' kernels are one: no operation was rewritten. -/
theorem defs₀_same {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  rcases l with ⟨_ | _ | _ | n, h⟩
  · obtain ⟨t, s⟩ := a; rfl
  · obtain ⟨t, s⟩ := a; rfl
  · obtain ⟨t, s⟩ := a; rfl
  · exact absurd h (by omega)
theorem defs_same {F : FTy → Type} [FloatOps F] : Cert.Kernel.defs (F := F) = Cert.KernelIdeal.defs (F := F) := by
  unfold Cert.Kernel.defs Cert.KernelIdeal.defs
  exact congrArg _ defs₀_same

theorem frame_kernel : Cert.quiescent_Kernel (hKernel := Cert.Kernel.Gen.facts) := by
  intro m g _
  rw [defs_same]
  exact frame_any (F := Bits) m g

theorem frame_reference : Cert.quiescent_ReferenceIdeal (hReferenceIdeal := Cert.ReferenceIdeal.Gen.facts) := fun m g _ =>
  (θ_run (Cert.ReferenceIdeal.defs (F := Ideal)) _ _).mono (fun r h => ⟨fun c => (h c).2, sem_eq_zero_of_no_sems (by decide) r.2⟩)
    (Cert.ReferenceIdeal.Value.run (F := Ideal) m g)

end Cert.Proof

end
-- ==== Proof.Ideal.lean ====
/- The kernel's values at the ideal floats, as sums. -/
module

public import proofs.«01_k».proof.Proof.Values
public import Idealize.ShloMosaic.Lib.Pointwise

@[expose] public section

set_option maxRecDepth 16384

noncomputable section

namespace Cert.KernelIdeal.Talk

open Idealize.ShloMosaic Idealize.ShloMosaic.TcCoe
open Gen

/-- A matrix's entries by row and column. -/
abbrev Mat (a b : ℕ) : Type := Fin a → Fin b → EReal

/-- A layer's contribution of one block of hidden units. -/
def layer {n : ℕ} (W : Mat 2048 n) (U : Mat n 2048) (X : Mat 64 2048) : Mat 64 2048 :=
  fun r l => ∑ k : Fin n, max (∑ i : Fin 2048, X r i * W i k) 0 * U k l

theorem hid_at (W : Vec Ideal S2048x512 .bf16) (X : Vec Ideal S64x2048 .bf16) (r : Fin 64) (l : Fin 512) :
    hid W X (ix2 r l) = max (∑ i : Fin 2048, X (ix2 r i) * W (ix2 i l)) 0 := by
  unfold hid
  pointwise! [k0_pay2]

theorem part_at (U : Vec Ideal S4096x512 .bf16) (H : Vec Ideal S64x4096 .bf16) (r : Fin 64) (l : Fin 512) :
    part U H (ix2 r l) = ∑ k : Fin 4096, H (ix2 r k) * U (ix2 k l) := by
  unfold part
  pointwise! [k0_pay4]

theorem pay2_at (U : Vec Ideal S4096x512 .bf16) (H : Vec Ideal S64x4096 .bf16) (r : Fin 64) (l : Fin 512) :
    k2_pay2 U H (ix2 r l) = ∑ k : Fin 4096, H (ix2 r k) * U (ix2 k l) := by
  pointwise! [k2_pay2]

theorem sum4_at (a b c d : FVec Ideal S64x512 .bf16) (r : Fin 64) (l : Fin 512) :
    sum4 a b c d (ix2 r l) = a (ix2 r l) + b (ix2 r l) + c (ix2 r l) + d (ix2 r l) := by
  unfold sum4
  pointwise! [k0_pay3]

/-! ## The tiles put together -/

theorem HB_at (W : Vec Ideal S2048x4096 .bf16) (X : Vec Ideal S64x2048 .bf16) (r : Fin 64) (k : Fin 4096) :
    HB W X (ix2 r k) = max (∑ i : Fin 2048, X (ix2 r i) * W (ix2 i k)) 0 := by
  have hk := k.isLt
  let t : Fin 8 := ⟨k.val / 512, by omega⟩
  let l : Fin 512 := ⟨k.val % 512, by omega⟩
  have hl : (512 * t.val + 1 * l.val) = k.val := by show 512 * (k.val / 512) + 1 * (k.val % 512) = k.val; omega
  have e : (ix2 r k : S64x4096.Idx) = (hR t).emb (ix2 r l : S64x512.Idx) := by
    funext a; apply Fin.ext
    match a with
    | 0 => show r.val = 0 + 1 * r.val; omega
    | 1 => exact hl.symm
  have ew (i : Fin 2048) : (wR t).emb (ix2 i l : S2048x512.Idx) = (ix2 i k : S2048x4096.Idx) := by
    funext a; apply Fin.ext
    match a with
    | 0 => show 0 + 1 * i.val = i.val; omega
    | 1 => exact hl
  unfold HB
  rw [e, Rect.glue_emb hR hR_cov hR_disj]
  refine (hid_at (Wi W t) X r l).trans ?_
  unfold Wi
  simp only [ew]

theorem blk_emb (r : Fin 64) (l : Fin 2048) : ∃ (j : Fin 4) (n : Fin 512), (ix2 r l : S64x2048.Idx) = (cR j).emb (ix2 r n : S64x512.Idx)
    ∧ ∀ k : Fin 4096, (uR j).emb (ix2 k n : S4096x512.Idx) = (ix2 k l : S4096x2048.Idx) := by
  have hl := l.isLt
  refine ⟨⟨l.val / 512, by omega⟩, ⟨l.val % 512, by omega⟩, ?_, fun k => ?_⟩
  · funext a; apply Fin.ext
    match a with
    | 0 => show r.val = 0 + 1 * r.val; omega
    | 1 => show l.val = 512 * (l.val / 512) + 1 * (l.val % 512); omega
  · funext a; apply Fin.ext
    match a with
    | 0 => show 0 + 1 * k.val = k.val; omega
    | 1 => show 512 * (l.val / 512) + 1 * (l.val % 512) = l.val; omega

/-- A matrix of an array. -/
def mat {a b : ℕ} (X : (⟨2, ![a, b]⟩ : Shape).Idx → EReal) : Mat a b := fun r l => X (ix2 r l)

theorem blkV_at (W : Vec Ideal S2048x4096 .bf16) (U : Vec Ideal S4096x2048 .bf16) (X : Vec Ideal S64x2048 .bf16) (j : Fin 4) (n : Fin 512) (r : Fin 64) (l : Fin 2048)
    (h : ∀ k : Fin 4096, (uR j).emb (ix2 k n : S4096x512.Idx) = (ix2 k l : S4096x2048.Idx)) :
    blkV W U X j (ix2 r n) = layer (mat W) (mat U) (mat X) r l := by
  unfold blkV
  refine (part_at _ _ r n).trans (Finset.sum_congr rfl fun k _ => ?_)
  rw [HB_at]
  unfold Wo
  rw [h k]; rfl

theorem slabV_at (W : Vec Ideal S2048x4096 .bf16) (U : Vec Ideal S4096x2048 .bf16) (X : Vec Ideal S64x2048 .bf16) (r : Fin 64) (l : Fin 2048) :
    slabV W U X (ix2 r l) = layer (mat W) (mat U) (mat X) r l := by
  obtain ⟨j, n, e, h⟩ := blk_emb r l
  unfold slabV
  rw [e, Rect.glue_emb cR cR_cov cR_disj]
  refine (pay2_at _ _ r n).trans (Finset.sum_congr rfl fun k _ => ?_)
  rw [HB_at]
  unfold Wo
  rw [h k]; rfl

/-- The devices are a device and its three peers. -/
theorem around (f : Dev nD → EReal) : ∀ c : Dev nD, f c + f (peer 0 c) + f (peer 1 c) + f (peer 2 c) = ∑ d : Fin 4, f d := by
  intro c
  rw [Fin.sum_univ_four]
  match c with
  | 0 => show f 0 + f 1 + f 3 + f 2 = f 0 + f 1 + f 2 + f 3; ac_rfl
  | 1 => show f 1 + f 0 + f 2 + f 3 = f 0 + f 1 + f 2 + f 3; ac_rfl
  | 2 => show f 2 + f 3 + f 1 + f 0 = f 0 + f 1 + f 2 + f 3; ac_rfl
  | 3 => show f 3 + f 2 + f 0 + f 1 = f 0 + f 1 + f 2 + f 3; ac_rfl

theorem sumV_at (b : Dev nD → Fin 4 → FVec Ideal S64x512 .bf16) (c : Dev nD) (P : Dev nD → Mat 64 2048)
    (hb : ∀ (d : Dev nD) (j : Fin 4) (n : Fin 512) (r : Fin 64) (l : Fin 2048), (∀ k : Fin 4096, (uR j).emb (ix2 k n : S4096x512.Idx) = (ix2 k l : S4096x2048.Idx)) →
      b d j (ix2 r n) = P d r l) (r : Fin 64) (l : Fin 2048) : sumV b c (ix2 r l) = ∑ d : Fin 4, P d r l := by
  obtain ⟨j, n, e, h⟩ := blk_emb r l
  unfold sumV
  rw [e, Rect.glue_emb cR cR_cov cR_disj]
  refine (sum4_at _ _ _ _ r n).trans ?_
  rw [hb c j n r l h, hb (peer 0 c) j n r l h, hb (peer 1 c) j n r l h, hb (peer 2 c) j n r l h]
  exact around (fun d => P d r l) c

/-! ## The blocks of the whole weights -/

/-- Device `d`'s columns of a first weight; its rows of a second weight. -/
def cols (W : Mat 2048 16384) (d : Fin 4) : Mat 2048 4096 := fun i k => W i ⟨4096 * d.val + k.val, by omega⟩
def rows (U : Mat 16384 2048) (d : Fin 4) : Mat 4096 2048 := fun k l => U ⟨4096 * d.val + k.val, by omega⟩ l

/-- The row of the whole result that is row `r` of device `c`'s. -/
def outRow (c : Dev nD) (r : Fin 16) : Fin 64 := ⟨16 * c.val + r.val, by have h : c.val < 4 := c.isLt; omega⟩

/-- A sum over all hidden units, device by device. -/
theorem sum_blocks (f : Fin 16384 → EReal) : ∑ k, f k = ∑ d : Fin 4, ∑ k : Fin 4096, f ⟨4096 * d.val + k.val, by omega⟩ := by
  rw [← Fintype.sum_prod_type' fun (d : Fin 4) (k : Fin 4096) => f ⟨4096 * d.val + k.val, by omega⟩]
  refine (Fintype.sum_equiv (finProdFinEquiv : Fin 4 × Fin 4096 ≃ Fin 16384) _ _ fun x => congrArg f (Fin.ext ?_)).symm
  show 4096 * x.1.val + x.2.val = x.2.val + 4096 * x.1.val
  omega

theorem layer_blocks (W : Mat 2048 16384) (U : Mat 16384 2048) (X : Mat 64 2048) (r : Fin 64) (l : Fin 2048) :
    layer W U X r l = ∑ d : Fin 4, layer (cols W d) (rows U d) X r l := sum_blocks _

section Run
variable (m : (ℓ : Loc nD τ sig) → Buf (Elt Ideal) ℓ) (X : Mat 64 2048) (W0 W1 W2 : Mat 2048 16384) (U0 U1 U2 : Mat 16384 2048)

theorem x0_at (hX : ∀ c, mat (iX m c) = X) (c : Dev nD) : mat (x0 m c) = X := by
  rw [← hX c]
  funext r l
  show k0_pay1 (iX m c) (ix2 r l) = iX m c (ix2 r l)
  pointwise! [k0_pay1]

theorem x1_at (hX : ∀ c, mat (iX m c) = X) (hW : ∀ c, mat (iW0 m c) = cols W0 c) (hU : ∀ c, mat (iU0 m c) = rows U0 c) (c : Dev nD) :
    mat (x1 m c) = layer W0 U0 X := by
  funext r l
  refine (sumV_at (b0 m) c (fun d => layer (cols W0 d) (rows U0 d) X) (fun d j n r l h => ?_) r l).trans (layer_blocks W0 U0 X r l).symm
  unfold b0
  rw [blkV_at _ _ _ j n r l h, hW, hU, x0_at m X hX]

theorem x2_at (hX : ∀ c, mat (x1 m c) = X) (hW : ∀ c, mat (iW1 m c) = cols W1 c) (hU : ∀ c, mat (iU1 m c) = rows U1 c) (c : Dev nD) :
    mat (x2 m c) = layer W1 U1 X := by
  funext r l
  refine (sumV_at (b1 m) c (fun d => layer (cols W1 d) (rows U1 d) X) (fun d j n r l h => ?_) r l).trans (layer_blocks W1 U1 X r l).symm
  unfold b1
  rw [blkV_at _ _ _ j n r l h, hW, hU, hX]

theorem res2_at (v : Vals Ideal) (c : Dev nD) (r : Fin 16) (l : Fin 2048) :
    res2 v c (ix2 r l) = ownV v c c (ix2 r l) + ownV v c (peer 0 c) (ix2 r l) + ownV v c (peer 1 c) (ix2 r l) + ownV v c (peer 2 c) (ix2 r l) := by
  unfold res2
  pointwise! [k2_pay3, k2_pay4]

theorem x3_at (hX : ∀ c, mat (x2 m c) = X) (hW : ∀ c, mat (iW2 m c) = cols W2 c) (hU : ∀ c, mat (iU2 m c) = rows U2 c) (c : Dev nD) (r : Fin 16) (l : Fin 2048) :
    x3 m c (ix2 r l) = layer W2 U2 X (outRow c r) l := by
  have ho (d : Dev nD) : ownV (vals m) c d (ix2 r l) = layer (cols W2 d) (rows U2 d) X (outRow c r) l := by
    have e : (sR c).emb (ix2 r l : S16x2048.Idx) = (ix2 (outRow c r) l : S64x2048.Idx) := by
      funext a; apply Fin.ext
      match a with
      | 0 => show 16 * c.val + 1 * r.val = 16 * c.val + r.val; omega
      | 1 => show 0 + 1 * l.val = l.val; omega
    show sl m d ((sR c).emb (ix2 r l)) = _
    rw [e]
    unfold sl
    rw [slabV_at, hW, hU, hX]
  refine (res2_at (vals m) c r l).trans ?_
  rw [ho c, ho (peer 0 c), ho (peer 1 c), ho (peer 2 c), layer_blocks]
  exact around (fun d => layer (cols W2 d) (rows U2 d) X (outRow c r) l) c

end Run

end Cert.KernelIdeal.Talk

end
-- ==== Proof.Algebraic.lean ====
/- The value claim: at the ideal floats the devices' results are the blocks of the reference's. -/
module

public import proofs.«01_k».proof.Proof.Frames
public import proofs.«01_k».proof.Proof.Ideal
public import Idealize.ShloMosaic.Lib.Layout

@[expose] public section

set_option maxRecDepth 16384

noncomputable section

namespace Cert.Proof

open Idealize.ShloMosaic Idealize.SL.Sem

section Reference
open Cert.ReferenceIdeal Cert.ReferenceIdeal.Gen Cert.KernelIdeal.Talk

/-- A layer of the reference: two products with the positive part between. -/
def refLayer (X : FVec Ideal S64x2048 .f32) (W : FVec Ideal S2048x16384 .f32) (U : FVec Ideal S16384x2048 .f32) : FVec Ideal S64x2048 .f32 :=
  Host.dotGeneral dot_S64x16384_S16384x2048_S64x2048_1_0_0_1_n_n none
    (maximumf (Host.dotGeneral dot_S64x2048_S2048x16384_S64x16384_1_0_0_1_n_n none X W) (broadcastInDim S64x16384 ![] Cert.ReferenceIdeal.Facts₀.bcast_S_S64x16384 (constant S_ .f32 0x00000000#32))) U

/-- A layer of the reference, entry by entry: the same double sum as a layer of the kernel. -/
theorem refLayer_at (X : FVec Ideal S64x2048 .f32) (W : FVec Ideal S2048x16384 .f32) (U : FVec Ideal S16384x2048 .f32) :
    mat (refLayer X W U) = layer (mat W) (mat U) (mat X) := by
  funext r l
  unfold mat layer
  pointwise! [refLayer]

/-- The reference's result, from its arguments. -/
def refOut (X : FVec Ideal S64x2048 .f32) (W0 W1 W2 : FVec Ideal S2048x16384 .f32) (U0 U1 U2 : FVec Ideal S16384x2048 .f32) : FVec Ideal S64x2048 .f32 :=
  refLayer (refLayer (refLayer X W0 U0) W1 U1) W2 U2

/-- The reference's result, entry by entry: three layers, one on the other. -/
theorem refOut_at (X : FVec Ideal S64x2048 .f32) (W0 W1 W2 : FVec Ideal S2048x16384 .f32) (U0 U1 U2 : FVec Ideal S16384x2048 .f32) :
    layer (mat W2) (mat U2) (layer (mat W1) (mat U1) (layer (mat W0) (mat U0) (mat X))) = mat (refOut X W0 W1 W2 U0 U1 U2) := by
  unfold refOut
  rw [refLayer_at, refLayer_at, refLayer_at]

end Reference

section Blocks
open Cert.KernelIdeal.Talk

/-- Device c's block of a matrix cut by columns. -/
theorem mat_cols (W : (⟨2, ![2048, 16384]⟩ : Shape).Idx → EReal) (c : Fin 4) : mat (Layout.block ⟨2, ![2048, 4096]⟩ ⟨2, ![2048, 16384]⟩ 1 4 c W) = cols (mat W) c := by
  funext i k
  unfold mat cols
  rw [Layout.block_apply]
  refine congrArg W (funext fun a => Fin.ext ?_)
  match a with
  | 0 => rfl
  | 1 => show c.val * 4096 + k.val = 4096 * c.val + k.val; omega

/-- Device c's block of a matrix cut by rows. -/
theorem mat_rows (U : (⟨2, ![16384, 2048]⟩ : Shape).Idx → EReal) (c : Fin 4) : mat (Layout.block ⟨2, ![4096, 2048]⟩ ⟨2, ![16384, 2048]⟩ 0 4 c U) = rows (mat U) c := by
  funext k l
  unfold mat rows
  rw [Layout.block_apply]
  refine congrArg U (funext fun a => Fin.ext ?_)
  match a with
  | 0 => show c.val * 4096 + k.val = 4096 * c.val + k.val; omega
  | 1 => rfl

/-- Device c's block of the result: rows 16c to 16c + 15. -/
theorem block_out (X : (⟨2, ![64, 2048]⟩ : Shape).Idx → EReal) (c : Fin 4) (r : Fin 16) (l : Fin 2048) :
    (Layout.block ⟨2, ![16, 2048]⟩ ⟨2, ![64, 2048]⟩ 0 4 c X : (⟨2, ![16, 2048]⟩ : Shape).Idx → EReal) (ix2 r l) = mat X (outRow c r) l := by
  rw [Layout.block_apply]
  refine congrArg X (funext fun a => Fin.ext ?_)
  match a with
  | 0 => show c.val * 16 + r.val = 16 * c.val + r.val; omega
  | 1 => rfl
end Blocks

open Cert.KernelIdeal.Talk in
/-- On arguments that are the devices' blocks of the reference's, each device's result is its block of the reference's result. -/
theorem algebraic : Cert.algebraic_KernelIdeal_ReferenceIdeal (hKernelIdeal := Cert.KernelIdeal.Gen.facts) (hReferenceIdeal := Cert.ReferenceIdeal.Gen.facts) := by
  intro m g m' g' _ h
  let X := m' (((0 : Dev Cert.ReferenceIdeal.nD).tc : Thread Cert.ReferenceIdeal.nD Cert.ReferenceIdeal.τ).loc Cert.ReferenceIdeal.main_arg0)
  let W0 := m' (((0 : Dev Cert.ReferenceIdeal.nD).tc : Thread Cert.ReferenceIdeal.nD Cert.ReferenceIdeal.τ).loc Cert.ReferenceIdeal.main_arg1)
  let W1 := m' (((0 : Dev Cert.ReferenceIdeal.nD).tc : Thread Cert.ReferenceIdeal.nD Cert.ReferenceIdeal.τ).loc Cert.ReferenceIdeal.main_arg2)
  let W2 := m' (((0 : Dev Cert.ReferenceIdeal.nD).tc : Thread Cert.ReferenceIdeal.nD Cert.ReferenceIdeal.τ).loc Cert.ReferenceIdeal.main_arg3)
  let U0 := m' (((0 : Dev Cert.ReferenceIdeal.nD).tc : Thread Cert.ReferenceIdeal.nD Cert.ReferenceIdeal.τ).loc Cert.ReferenceIdeal.main_arg4)
  let U1 := m' (((0 : Dev Cert.ReferenceIdeal.nD).tc : Thread Cert.ReferenceIdeal.nD Cert.ReferenceIdeal.τ).loc Cert.ReferenceIdeal.main_arg5)
  let U2 := m' (((0 : Dev Cert.ReferenceIdeal.nD).tc : Thread Cert.ReferenceIdeal.nD Cert.ReferenceIdeal.τ).loc Cert.ReferenceIdeal.main_arg6)
  have h1 (c : Fin 4) : mat (x1 m c) = layer (mat W0) (mat U0) (mat X) :=
    x1_at m (mat X) (mat W0) (mat U0) (fun c => congrArg mat (h c).1) (fun c => (congrArg mat (h c).2.1).trans (mat_cols W0 c))
      (fun c => (congrArg mat (h c).2.2.2.2.1).trans (mat_rows U0 c)) c
  have h2 (c : Fin 4) : mat (x2 m c) = layer (mat W1) (mat U1) (layer (mat W0) (mat U0) (mat X)) :=
    x2_at m _ (mat W1) (mat U1) h1 (fun c => (congrArg mat (h c).2.2.1).trans (mat_cols W1 c))
      (fun c => (congrArg mat (h c).2.2.2.2.2.1).trans (mat_rows U1 c)) c
  have h3 (c : Fin 4) : x3 m c = Layout.block ⟨2, ![16, 2048]⟩ ⟨2, ![64, 2048]⟩ 0 4 c (refOut X W0 W1 W2 U0 U1 U2) := by
    funext y
    rw [eq_ix2 y]
    have e := x3_at m _ (mat W2) (mat U2) h2 (fun c => (congrArg mat (h c).2.2.2.1).trans (mat_cols W2 c))
      (fun c => (congrArg mat (h c).2.2.2.2.2.2).trans (mat_rows U2 c)) c (y 0) (y 1)
    exact e.trans ((congrFun (congrFun (refOut_at X W0 W1 W2 U0 U1 U2) (outRow c (y 0))) (y 1)).trans (block_out _ c (y 0) (y 1)).symm)
  refine ⟨refOut X W0 W1 W2 U0 U1 U2, ?_, ?_⟩
  · exact (θ_run (Cert.KernelIdeal.defs (F := Ideal)) _ _).mono (fun _ hr c => ⟨(hr.1 c).1.trans (h3 c), (hr.1 c).2⟩) (run_args (F := Ideal) m g)
  · exact (θ_run (Cert.ReferenceIdeal.defs (F := Ideal)) _ _).mono (fun _ hr => hr 0) (Cert.ReferenceIdeal.Value.run (F := Ideal) m' g')

end Cert.Proof

end
-- ==== Proof.lean ====
module

public import proofs.«01_k».proof.Defs
public import proofs.«01_k».proof.Proof.Algebraic

@[expose] public section

noncomputable section

namespace Cert.Proof

theorem claim : Cert.Claim := ⟨Cert.Kernel.Gen.facts, Cert.KernelIdeal.Gen.facts, Cert.ReferenceIdeal.Gen.facts, frame_kernel, frame_ideal, frame_reference, trivial, algebraic⟩

end Cert.Proof

end
